-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))).2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))).2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Kernel4Ideal_finite4 [hPre_finite4 : Cert.Pre_finite4.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.1 = (fun _ => 1#1)
    ∧ (Cert.Pre_finite4.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4)) (m ((c.tc : Thread Cert.Kernel4Ideal.nD Cert.Kernel4Ideal.τ).loc Cert.Kernel4Ideal.main_arg5))).2.2.2.2.2 = (fun _ => 1#1)

def Pre_Reference4Ideal (m : (ℓ : Loc Cert.Reference4Ideal.nD Cert.Reference4Ideal.τ Cert.Reference4Ideal.sig) → Buf (Elt Ideal) ℓ) : Prop :=
  True

def Pre_Reference4Ideal_finite4 [hPre_finite4 : Cert.Pre_finite4.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.1 = (fun _ => 1#1)
    ∧ (Cert.Pre_finite4.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4)) (m ((c.tc : Thread Cert.Reference4Ideal.nD Cert.Reference4Ideal.τ).loc Cert.Reference4Ideal.main_arg5))).2.2.2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Kernel4Ideal_pre_finite4 [hKernel4Ideal : Cert.Kernel4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal_finite4 m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Reference4Ideal_pre_finite4 [hReference4Ideal : Cert.Reference4Ideal.Facts] [hPre_finite4 : Cert.Pre_finite4.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal_finite4 m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def preserves_Kernel_KernelIdeal : Prop :=
  IdealRules.named_const.Statement Cert.KernelIdeal.κ "mask" .f32 0xF149F2CA#32 ⊥

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v23_0)) (v1 : (c : Dev Cert.KernelIdeal.nD) → Buf (Elt Ideal) ((c.tc : Thread Cert.KernelIdeal.nD Cert.KernelIdeal.τ).loc Cert.KernelIdeal.main_v23_1)) (v2 : (c : Dev Cert.KernelIdeal.nD) → Buf (Elt Ideal) ((c.tc : Thread Cert.KernelIdeal.nD Cert.KernelIdeal.τ).loc Cert.KernelIdeal.main_v23_2)) (v3 : (c : Dev Cert.KernelIdeal.nD) → Buf (Elt Ideal) ((c.tc : Thread Cert.KernelIdeal.nD Cert.KernelIdeal.τ).loc Cert.KernelIdeal.main_v23_3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v23_0) = v0 c
          ∧ r.2.mem ((c.tc : Thread Cert.KernelIdeal.nD Cert.KernelIdeal.τ).loc Cert.KernelIdeal.main_v23_1) = v1 c
          ∧ r.2.mem ((c.tc : Thread Cert.KernelIdeal.nD Cert.KernelIdeal.τ).loc Cert.KernelIdeal.main_v23_2) = v2 c
          ∧ r.2.mem ((c.tc : Thread Cert.KernelIdeal.nD Cert.KernelIdeal.τ).loc Cert.KernelIdeal.main_v23_3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v205) = v0 c
          ∧ r.2.mem ((c.tc : Thread Cert.ReferenceIdeal.nD Cert.ReferenceIdeal.τ).loc Cert.ReferenceIdeal.main_v206) = v1 c
          ∧ r.2.mem ((c.tc : Thread Cert.ReferenceIdeal.nD Cert.ReferenceIdeal.τ).loc Cert.ReferenceIdeal.main_v207) = v2 c
          ∧ r.2.mem ((c.tc : Thread Cert.ReferenceIdeal.nD Cert.ReferenceIdeal.τ).loc Cert.ReferenceIdeal.main_v208) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v26_0)) (v1 : (c : Dev Cert.Kernel2Ideal.nD) → Buf (Elt Ideal) ((c.tc : Thread Cert.Kernel2Ideal.nD Cert.Kernel2Ideal.τ).loc Cert.Kernel2Ideal.main_v26_1)) (v2 : (c : Dev Cert.Kernel2Ideal.nD) → Buf (Elt Ideal) ((c.tc : Thread Cert.Kernel2Ideal.nD Cert.Kernel2Ideal.τ).loc Cert.Kernel2Ideal.main_v26_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v26_0) = v0 c
          ∧ r.2.mem ((c.tc : Thread Cert.Kernel2Ideal.nD Cert.Kernel2Ideal.τ).loc Cert.Kernel2Ideal.main_v26_1) = v1 c
          ∧ r.2.mem ((c.tc : Thread Cert.Kernel2Ideal.nD Cert.Kernel2Ideal.τ).loc Cert.Kernel2Ideal.main_v26_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v20) = v0 c
          ∧ r.2.mem ((c.tc : Thread Cert.Reference2Ideal.nD Cert.Reference2Ideal.τ).loc Cert.Reference2Ideal.main_v22) = v1 c
          ∧ r.2.mem ((c.tc : Thread Cert.Reference2Ideal.nD Cert.Reference2Ideal.τ).loc Cert.Reference2Ideal.main_v23) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v0)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v0) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v7) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal_pre_finite4 [hKernel4Ideal : Cert.Kernel4Ideal.Facts] [hReference4Ideal : Cert.Reference4Ideal.Facts] [hPre_finite4 : Cert.Pre_finite4.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal_finite4 m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v28_0)) (v1 : (c : Dev Cert.Kernel4Ideal.nD) → Buf (Elt Ideal) ((c.tc : Thread Cert.Kernel4Ideal.nD Cert.Kernel4Ideal.τ).loc Cert.Kernel4Ideal.main_v28_1)) (v2 : (c : Dev Cert.Kernel4Ideal.nD) → Buf (Elt Ideal) ((c.tc : Thread Cert.Kernel4Ideal.nD Cert.Kernel4Ideal.τ).loc Cert.Kernel4Ideal.main_v28_2)) (v3 : (c : Dev Cert.Kernel4Ideal.nD) → Buf (Elt Ideal) ((c.tc : Thread Cert.Kernel4Ideal.nD Cert.Kernel4Ideal.τ).loc Cert.Kernel4Ideal.main_v28_3)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v28_0) = v0 c
          ∧ r.2.mem ((c.tc : Thread Cert.Kernel4Ideal.nD Cert.Kernel4Ideal.τ).loc Cert.Kernel4Ideal.main_v28_1) = v1 c
          ∧ r.2.mem ((c.tc : Thread Cert.Kernel4Ideal.nD Cert.Kernel4Ideal.τ).loc Cert.Kernel4Ideal.main_v28_2) = v2 c
          ∧ r.2.mem ((c.tc : Thread Cert.Kernel4Ideal.nD Cert.Kernel4Ideal.τ).loc Cert.Kernel4Ideal.main_v28_3) = v3 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v55) = v0 c
          ∧ r.2.mem ((c.tc : Thread Cert.Reference4Ideal.nD Cert.Reference4Ideal.τ).loc Cert.Reference4Ideal.main_v58) = v1 c
          ∧ r.2.mem ((c.tc : Thread Cert.Reference4Ideal.nD Cert.Reference4Ideal.τ).loc Cert.Reference4Ideal.main_v61) = v2 c
          ∧ r.2.mem ((c.tc : Thread Cert.Reference4Ideal.nD Cert.Reference4Ideal.τ).loc Cert.Reference4Ideal.main_v38) = v3 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hPre_finite : Cert.Pre_finite.Facts) (hPre_finite4 : Cert.Pre_finite4.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Kernel4Ideal_pre_finite4 (hKernel4Ideal := hKernel4Ideal) (hPre_finite4 := hPre_finite4)
    ∧ quiescent_Reference4Ideal (hReference4Ideal := hReference4Ideal)
    ∧ quiescent_Reference4Ideal_pre_finite4 (hReference4Ideal := hReference4Ideal) (hPre_finite4 := hPre_finite4)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_pre_finite4 (hKernel4Ideal := hKernel4Ideal) (hReference4Ideal := hReference4Ideal) (hPre_finite4 := hPre_finite4)
-- ==== Pre_finite.lean ====
abbrev S4096x1536 : Shape := ⟨2, ![4096, 1536]⟩
abbrev S4096x512 : Shape := ⟨2, ![4096, 512]⟩
abbrev S8x513 : Shape := ⟨2, ![8, 513]⟩
abbrev S_ : Shape := ⟨0, ![]⟩

class Facts : Prop where
  bitsLt_bf16_f32 : FTy.bits .bf16 < FTy.bits .f32
  bcast_S_S4096x1536 : S_.BroadcastsInDim S4096x1536 (![] : Fin 0 → Fin S4096x1536.rank)
  bcast_S_S8x513 : S_.BroadcastsInDim S8x513 (![] : Fin 0 → Fin S8x513.rank)

variable [Facts]

def fn {F : FTy → Type} [FloatOps F] (main_arg0 : FVec F S4096x1536 .bf16) (main_arg1 : FVec F S4096x512 .bf16) (main_arg2 : FVec F S8x513 .f32) : IVec S4096x1536 1 × IVec S8x513 1 :=
  let main_v0 : FVec F S4096x1536 .f32 := (extf .f32 · bitsLt_bf16_f32) main_arg0
  let main_v1 : FVec F S4096x1536 .f32 := Host.absf main_v0
  let main_cst : FVec F S_ .f32 := constant S_ .f32 0x7F800000#32
  let main_v2 : FVec F S4096x1536 .f32 := broadcastInDim S4096x1536 ![] bcast_S_S4096x1536 main_cst
  let main_v3 : IVec S4096x1536 1 := cmpf .olt main_v1 main_v2
  let main_v4 : FVec F S8x513 .f32 := Host.absf main_arg2
  let main_cst_0 : FVec F S_ .f32 := constant S_ .f32 0x7F800000#32
  let main_v5 : FVec F S8x513 .f32 := broadcastInDim S8x513 ![] bcast_S_S8x513 main_cst_0
  let main_v6 : IVec S8x513 1 := cmpf .olt main_v4 main_v5
  (main_v3, main_v6)
-- ==== Pre_finite4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩

class Facts : Prop where
  bcast_S_S4096x1024 : S_.BroadcastsInDim S4096x1024 (![] : Fin 0 → Fin S4096x1024.rank)
  bcast_S_S1x1024 : S_.BroadcastsInDim S1x1024 (![] : Fin 0 → Fin S1x1024.rank)
  bcast_S_S1024x2816 : S_.BroadcastsInDim S1024x2816 (![] : Fin 0 → Fin S1024x2816.rank)
  bcast_S_S2816x1024 : S_.BroadcastsInDim S2816x1024 (![] : Fin 0 → Fin S2816x1024.rank)

variable [Facts]

def fn {F : FTy → Type} [FloatOps F] (main_arg0 : FVec F S4096x1024 .f32) (main_arg1 : FVec F S1x1024 .f32) (main_arg2 : FVec F S1024x2816 .f32) (main_arg3 : FVec F S1024x2816 .f32) (main_arg4 : FVec F S2816x1024 .f32) (main_arg5 : FVec F S4096x1024 .f32) : IVec S4096x1024 1 × IVec S1x1024 1 × IVec S1024x2816 1 × IVec S1024x2816 1 × IVec S2816x1024 1 × IVec S4096x1024 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_v3 : FVec F S1x1024 .f32 := Host.absf main_arg1
  let main_cst_0 : FVec F S_ .f32 := constant S_ .f32 0x7F800000#32
  let main_v4 : FVec F S1x1024 .f32 := broadcastInDim S1x1024 ![] bcast_S_S1x1024 main_cst_0
  let main_v5 : IVec S1x1024 1 := cmpf .olt main_v3 main_v4
  let main_v6 : FVec F S1024x2816 .f32 := Host.absf main_arg2
  let main_cst_1 : FVec F S_ .f32 := constant S_ .f32 0x7F800000#32
  let main_v7 : FVec F S1024x2816 .f32 := broadcastInDim S1024x2816 ![] bcast_S_S1024x2816 main_cst_1
  let main_v8 : IVec S1024x2816 1 := cmpf .olt main_v6 main_v7
  let main_v9 : FVec F S1024x2816 .f32 := Host.absf main_arg3
  let main_cst_2 : FVec F S_ .f32 := constant S_ .f32 0x7F800000#32
  let main_v10 : FVec F S1024x2816 .f32 := broadcastInDim S1024x2816 ![] bcast_S_S1024x2816 main_cst_2
  let main_v11 : IVec S1024x2816 1 := cmpf .olt main_v9 main_v10
  let main_v12 : FVec F S2816x1024 .f32 := Host.absf main_arg4
  let main_cst_3 : FVec F S_ .f32 := constant S_ .f32 0x7F800000#32
  let main_v13 : FVec F S2816x1024 .f32 := broadcastInDim S2816x1024 ![] bcast_S_S2816x1024 main_cst_3
  let main_v14 : IVec S2816x1024 1 := cmpf .olt main_v12 main_v13
  let main_v15 : FVec F S4096x1024 .f32 := Host.absf main_arg5
  let main_cst_4 : FVec F S_ .f32 := constant S_ .f32 0x7F800000#32
  let main_v16 : FVec F S4096x1024 .f32 := broadcastInDim S4096x1024 ![] bcast_S_S4096x1024 main_cst_4
  let main_v17 : IVec S4096x1024 1 := cmpf .olt main_v15 main_v16
  (main_v2, main_v5, main_v8, main_v11, main_v14, main_v17)
-- ==== Kernel.lean ====
abbrev S4096x1536 : Shape := ⟨2, ![4096, 1536]⟩
abbrev S4096x512 : Shape := ⟨2, ![4096, 512]⟩
abbrev S8x513 : Shape := ⟨2, ![8, 513]⟩
abbrev S640 : Shape := ⟨1, ![640]⟩
abbrev S_ : Shape := ⟨0, ![]⟩
abbrev S640x1 : Shape := ⟨2, ![640, 1]⟩
abbrev S8x640 : Shape := ⟨2, ![8, 640]⟩
abbrev S1x8x1x640 : Shape := ⟨4, ![1, 8, 1, 640]⟩
abbrev S1x8x64x640 : Shape := ⟨4, ![1, 8, 64, 640]⟩
abbrev S8x40960 : Shape := ⟨2, ![8, 40960]⟩
abbrev S8x40896 : Shape := ⟨2, ![8, 40896]⟩
abbrev S8x64x639 : Shape := ⟨3, ![8, 64, 639]⟩
abbrev S8x64x576 : Shape := ⟨3, ![8, 64, 576]⟩
abbrev S8x64x640 : Shape := ⟨3, ![8, 64, 640]⟩
abbrev S8x128x640 : Shape := ⟨3, ![8, 128, 640]⟩
abbrev S8x640x128 : Shape := ⟨3, ![8, 640, 128]⟩
abbrev S4608x512 : Shape := ⟨2, ![4608, 512]⟩
abbrev S3 : Shape := ⟨1, ![3]⟩
abbrev S1 : Shape := ⟨1, ![1]⟩
abbrev S512x512 : Shape := ⟨2, ![512, 512]⟩
abbrev S128x512 : Shape := ⟨2, ![128, 512]⟩
abbrev S640x512 : Shape := ⟨2, ![640, 512]⟩
abbrev S640x64 : Shape := ⟨2, ![640, 64]⟩
abbrev S128x64 : Shape := ⟨2, ![128, 64]⟩
abbrev S640x128 : Shape := ⟨2, ![640, 128]⟩
abbrev S1x640x128 : Shape := ⟨3, ![1, 640, 128]⟩
abbrev S640x1024 : Shape := ⟨2, ![640, 1024]⟩
abbrev S1024 : Shape := ⟨1, ![1024]⟩
abbrev S1x1024 : Shape := ⟨2, ![1, 1024]⟩

abbrev nBuf : Space → Nat
  | .hbm => 45
  | .vmem => 9
  | .smem => 0
  | _ => 0

abbrev bufTy : (tb : Table) → Fin (tcTables nBuf tb) → BufTy
  | .hbm, ⟨0, _⟩ => ⟨S4096x1536, .bf16⟩
  | .hbm, ⟨1, _⟩ => ⟨S4096x512, .bf16⟩
  | .hbm, ⟨2, _⟩ => ⟨S8x513, .f32⟩
  | .hbm, ⟨3, _⟩ => ⟨S640, .i32⟩
  | .hbm, ⟨4, _⟩ => ⟨S_, .i32⟩
  | .hbm, ⟨5, _⟩ => ⟨S640, .i32⟩
  | .hbm, ⟨6, _⟩ => ⟨S640, .i32⟩
  | .hbm, ⟨7, _⟩ => ⟨S_, .i32⟩
  | .hbm, ⟨8, _⟩ => ⟨S_, .i32⟩
  | .hbm, ⟨9, _⟩ => ⟨S_, .i32⟩
  | .hbm, ⟨10, _⟩ => ⟨S640, .i32⟩
  | .hbm, ⟨11, _⟩ => ⟨S640, .i32⟩
  | .hbm, ⟨12, _⟩ => ⟨S_, .i32⟩
  | .hbm, ⟨13, _⟩ => ⟨S640, .i32⟩
  | .hbm, ⟨14, _⟩ => ⟨S640, .i32⟩
  | .hbm, ⟨15, _⟩ => ⟨S_, .i32⟩
  | .hbm, ⟨16, _⟩ => ⟨S640, .i32⟩
  | .hbm, ⟨17, _⟩ => ⟨S640, .i32⟩
  | .hbm, ⟨18, _⟩ => ⟨S_, .i32⟩
  | .hbm, ⟨19, _⟩ => ⟨S640, .i32⟩
  | .hbm, ⟨20, _⟩ => ⟨S640, .i1⟩
  | .hbm, ⟨21, _⟩ => ⟨S_, .i32⟩
  | .hbm, ⟨22, _⟩ => ⟨S640, .i32⟩
  | .hbm, ⟨23, _⟩ => ⟨S640, .i32⟩
  | .hbm, ⟨24, _⟩ => ⟨S640, .i32⟩
  | .hbm, ⟨25, _⟩ => ⟨S640x1, .i32⟩
  | .hbm, ⟨26, _⟩ => ⟨S8x640, .f32⟩
  | .hbm, ⟨27, _⟩ => ⟨S1x8x1x640, .f32⟩
  | .hbm, ⟨28, _⟩ => ⟨S1x8x64x640, .f32⟩
  | .hbm, ⟨29, _⟩ => ⟨S8x40960, .f32⟩
  | .hbm, ⟨30, _⟩ => ⟨S8x40896, .f32⟩
  | .hbm, ⟨31, _⟩ => ⟨S8x64x639, .f32⟩
  | .hbm, ⟨32, _⟩ => ⟨S8x64x576, .f32⟩
  | .hbm, ⟨33, _⟩ => ⟨S_, .f32⟩
  | .hbm, ⟨34, _⟩ => ⟨S_, .f32⟩
  | .hbm, ⟨35, _⟩ => ⟨S8x64x640, .f32⟩
  | .hbm, ⟨36, _⟩ => ⟨S_, .f32⟩
  | .hbm, ⟨37, _⟩ => ⟨S_, .f32⟩
  | .hbm, ⟨38, _⟩ => ⟨S8x64x640, .f32⟩
  | .hbm, ⟨39, _⟩ => ⟨S8x128x640, .f32⟩
  | .hbm, ⟨40, _⟩ => ⟨S8x640x128, .f32⟩
  | .hbm, ⟨41, _⟩ => ⟨S4096x512, .bf16⟩
  | .hbm, ⟨42, _⟩ => ⟨S4608x512, .f32⟩
  | .hbm, ⟨43, _⟩ => ⟨S4608x512, .f32⟩
  | .hbm, ⟨44, _⟩ => ⟨S8x640x128, .f32⟩
  | .local _ .vmem, ⟨0, _⟩ => ⟨S4096x512, .bf16⟩
  | .local _ .vmem, ⟨1, _⟩ => ⟨S8x640x128, .f32⟩
  | .local _ .vmem, ⟨2, _⟩ => ⟨S4096x512, .bf16⟩
  | .local _ .vmem, ⟨3, _⟩ => ⟨S4608x512, .f32⟩
  | .local _ .vmem, ⟨4, _⟩ => ⟨S4608x512, .f32⟩
  | .local _ .vmem, ⟨5, _⟩ => ⟨S8x640x128, .f32⟩
  | .local _ .vmem, ⟨6, _⟩ => ⟨S4096x512, .bf16⟩
  | .local _ .vmem, ⟨7, _⟩ => ⟨S4608x512, .bf16⟩
  | .local _ .vmem, ⟨8, _⟩ => ⟨S4608x512, .bf16⟩
  | _, _ => ⟨S4096x1536, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_c_0 : Ref sig .tc := ⟨.hbm, 7, rfl⟩
abbrev main_c_1 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_v3 : Ref sig .tc := ⟨.hbm, 14, rfl⟩
abbrev main_c_2 : Ref sig .tc := ⟨.hbm, 15, rfl⟩
abbrev main_v4 : Ref sig .tc := ⟨.hbm, 16, rfl⟩
abbrev main_v5 : Ref sig .tc := ⟨.hbm, 17, rfl⟩
abbrev main_c_3 : Ref sig .tc := ⟨.hbm, 18, rfl⟩
abbrev main_v6 : Ref sig .tc := ⟨.hbm, 19, rfl⟩
abbrev main_v7 : Ref sig .tc := ⟨.hbm, 20, rfl⟩
abbrev main_c_4 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_cst : Ref sig .tc := ⟨.hbm, 33, rfl⟩
abbrev main_call1_v0 : Ref sig .tc := ⟨.hbm, 34, rfl⟩
abbrev main_v19 : Ref sig .tc := ⟨.hbm, 35, rfl⟩
abbrev main_cst_5 : Ref sig .tc := ⟨.hbm, 36, rfl⟩
abbrev main_call2_v0 : Ref sig .tc := ⟨.hbm, 37, rfl⟩
abbrev main_v20 : Ref sig .tc := ⟨.hbm, 38, rfl⟩
abbrev main_v21 : Ref sig .tc := ⟨.hbm, 39, rfl⟩
abbrev main_v22 : Ref sig .tc := ⟨.hbm, 40, rfl⟩
abbrev main_v23_0 : Ref sig .tc := ⟨.hbm, 41, rfl⟩
abbrev main_v23_1 : Ref sig .tc := ⟨.hbm, 42, rfl⟩
abbrev main_v23_2 : Ref sig .tc := ⟨.hbm, 43, rfl⟩
abbrev main_v23_3 : Ref sig .tc := ⟨.hbm, 44, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_scratch0 : Ref sig .tc := ⟨.vmem, 6, rfl⟩
abbrev cc0_scratch1 : Ref sig .tc := ⟨.vmem, 7, rfl⟩
abbrev cc0_scratch2 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5

abbrev nD : Nat := 1
abbrev τ : Topo := Topo.v7x

variable {F : FTy → Type} [FloatOps F]

abbrev grid0 : Pipeline.Grid := .none

@[reducible] def k0_t1_loop : Scf.Loop 32 :=
  let c0_i32_35 : BitVec 32 := 0#32
  let c4_i32 : BitVec 32 := 4#32
  let v36 : BitVec 32 := Scalar.addi c0_i32_35 c4_i32
  let c1_i32_36 : BitVec 32 := 1#32
  ⟨c0_i32_35, v36, c1_i32_36⟩
def k0_mult1 (k0_t1 : Fin k0_t1_loop.trips) : BitVec 32 :=
  let c0_i32_35 : BitVec 32 := 0#32
  let c1_i32_36 : BitVec 32 := 1#32
  let arg11 : BitVec 32 := Scf.iv c0_i32_35 c1_i32_36 k0_t1
  let c128_i32_43 : BitVec 32 := 128#32
  let v45 : BitVec 32 := Scalar.muli arg11 c128_i32_43
  v45
def k0_off1 (k0_t1 : Fin k0_t1_loop.trips) : Fin 2 → Nat :=
  let c0_i32_35 : BitVec 32 := 0#32
  let c1_i32_36 : BitVec 32 := 1#32
  let arg11 : BitVec 32 := Scf.iv c0_i32_35 c1_i32_36 k0_t1
  let c128_i32_43 : BitVec 32 := 128#32
  let v45 : BitVec 32 := Scalar.muli arg11 c128_i32_43
  let v46 : BitVec 32 := v45
  let v47 : Index := Scalar.indexCast v46
  let c0_44 : Index := 0#32
  ![v47.toNat, 0]
def k0_off2 (k0_t1 : Fin k0_t1_loop.trips) : Fin 2 → Nat :=
  let c0_i32_35 : BitVec 32 := 0#32
  let c1_i32_36 : BitVec 32 := 1#32
  let arg11 : BitVec 32 := Scf.iv c0_i32_35 c1_i32_36 k0_t1
  let c128_i32_43 : BitVec 32 := 128#32
  let v45 : BitVec 32 := Scalar.muli arg11 c128_i32_43
  let v46 : BitVec 32 := v45
  let v51 : Index := Scalar.indexCast v46
  let c0_46 : Index := 0#32
  ![v51.toNat, 0]
@[reducible] def k0_t2_loop : Scf.Loop 32 :=
  let c4_i32_38 : BitVec 32 := 4#32
  let c28_i32 : BitVec 32 := 28#32
  let v37 : BitVec 32 := Scalar.addi c4_i32_38 c28_i32
  let c1_i32_39 : BitVec 32 := 1#32
  ⟨c4_i32_38, v37, c1_i32_39⟩
def k0_mult2 (k0_t2 : Fin k0_t2_loop.trips) : BitVec 32 :=
  let c4_i32_38 : BitVec 32 := 4#32
  let c1_i32_39 : BitVec 32 := 1#32
  let arg11 : BitVec 32 := Scf.iv c4_i32_38 c1_i32_39 k0_t2
  let c128_i32 : BitVec 32 := 128#32
  let v38 : BitVec 32 := Scalar.muli arg11 c128_i32
  v38
def k0_off3 (k0_t2 : Fin k0_t2_loop.trips) : Fin 2 → Nat :=
  let c4_i32_38 : BitVec 32 := 4#32
  let c1_i32_39 : BitVec 32 := 1#32
  let arg11 : BitVec 32 := Scf.iv c4_i32_38 c1_i32_39 k0_t2
  let c128_i32 : BitVec 32 := 128#32
  let v38 : BitVec 32 := Scalar.muli arg11 c128_i32
  let v39 : BitVec 32 := v38
  let v40 : Index := Scalar.indexCast v39
  let c0_41 : Index := 0#32
  ![v40.toNat, 0]
def k0_off4 (k0_t2 : Fin k0_t2_loop.trips) : Fin 2 → Nat :=
  let c4_i32_38 : BitVec 32 := 4#32
  let c1_i32_39 : BitVec 32 := 1#32
  let arg11 : BitVec 32 := Scf.iv c4_i32_38 c1_i32_39 k0_t2
  let c128_i32 : BitVec 32 := 128#32
  let v38 : BitVec 32 := Scalar.muli arg11 c128_i32
  let v39 : BitVec 32 := v38
  let v44 : Index := Scalar.indexCast v39
  let c0_43 : Index := 0#32
  ![v44.toNat, 0]
abbrev stage0_0 : Fin 1 → Memref sig .tc .vmem S4096x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x640x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S4096x512 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4608x512 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S4608x512 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x640x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
-- ==== KernelIdeal.lean ====
variable {F : FTy → Type} [FloatOps F] [Named F]
def κ : String → Option EReal := fun
  | "mask" => some ⊥
  | _ => none
-- ==== ReferenceIdeal.lean ====
abbrev S4096x1536 : Shape := ⟨2, ![4096, 1536]⟩
abbrev S4096x512 : Shape := ⟨2, ![4096, 512]⟩
abbrev S8x513 : Shape := ⟨2, ![8, 513]⟩
abbrev S64 : Shape := ⟨1, ![64]⟩
abbrev S64x1 : Shape := ⟨2, ![64, 1]⟩
abbrev S576 : Shape := ⟨1, ![576]⟩
abbrev S1x576 : Shape := ⟨2, ![1, 576]⟩
abbrev S_ : Shape := ⟨0, ![]⟩
abbrev S64x576 : Shape := ⟨2, ![64, 576]⟩
abbrev S64x576x1 : Shape := ⟨3, ![64, 576, 1]⟩
abbrev S8x64x576 : Shape := ⟨3, ![8, 64, 576]⟩
abbrev S1x8x64x576 : Shape := ⟨4, ![1, 8, 64, 576]⟩
abbrev S2x8x64x576 : Shape := ⟨4, ![2, 8, 64, 576]⟩
abbrev S64x64x8x64 : Shape := ⟨4, ![64, 64, 8, 64]⟩
abbrev S512x512 : Shape := ⟨2, ![512, 512]⟩
abbrev S4608x512 : Shape := ⟨2, ![4608, 512]⟩
abbrev S72x64x8x64 : Shape := ⟨4, ![72, 64, 8, 64]⟩
abbrev S64x576x8x64 : Shape := ⟨4, ![64, 576, 8, 64]⟩
abbrev S64x8x64x576 : Shape := ⟨4, ![64, 8, 64, 576]⟩
abbrev S32x2x8x64x576 : Shape := ⟨5, ![32, 2, 8, 64, 576]⟩
abbrev S1x2x8x64x576 : Shape := ⟨5, ![1, 2, 8, 64, 576]⟩
abbrev S64x1x1x576 : Shape := ⟨4, ![64, 1, 1, 576]⟩
abbrev S64x8x64 : Shape := ⟨3, ![64, 8, 64]⟩
abbrev S64x8x64x1 : Shape := ⟨4, ![64, 8, 64, 1]⟩
abbrev S64x8x64x64 : Shape := ⟨4, ![64, 8, 64, 64]⟩
abbrev S64x8x576x64 : Shape := ⟨4, ![64, 8, 576, 64]⟩
abbrev S8x576x64 : Shape := ⟨3, ![8, 576, 64]⟩
abbrev S8x640x64 : Shape := ⟨3, ![8, 640, 64]⟩
abbrev S8x640x128 : Shape := ⟨3, ![8, 640, 128]⟩

abbrev nBuf : Space → Nat
  | .hbm => 279
  | .vmem => 0
  | .smem => 0
  | _ => 0

abbrev hbmTy0_0 (i : Nat) : BufTy := match i % 128 with
  | 0 => ⟨S4096x1536, .bf16⟩
  | 1 => ⟨S4096x512, .bf16⟩
  | 2 => ⟨S8x513, .f32⟩
  | 3 => ⟨S4096x1536, .f32⟩
  | 4 => ⟨S4096x512, .f32⟩
  | 5 => ⟨S4096x512, .f32⟩
  | 6 => ⟨S4096x512, .f32⟩
  | 7 => ⟨S64, .i32⟩
  | 8 => ⟨S64x1, .i32⟩
  | 9 => ⟨S576, .i32⟩
  | 10 => ⟨S1x576, .i32⟩
  | 11 => ⟨S_, .i32⟩
  | 12 => ⟨S64x1, .i32⟩
  | 13 => ⟨S64x1, .i32⟩
  | 14 => ⟨S64x576, .i32⟩
  | 15 => ⟨S64x576, .i32⟩
  | 16 => ⟨S64x576, .i32⟩
  | 17 => ⟨S_, .i32⟩
  | 18 => ⟨S_, .i32⟩
  | 19 => ⟨S_, .i32⟩
  | 20 => ⟨S64x576, .i32⟩
  | 21 => ⟨S64x576, .i32⟩
  | 22 => ⟨S_, .i32⟩
  | 23 => ⟨S64x576, .i32⟩
  | 24 => ⟨S64x576, .i32⟩
  | 25 => ⟨S_, .i32⟩
  | 26 => ⟨S64x576, .i32⟩
  | 27 => ⟨S64x576, .i32⟩
  | 28 => ⟨S_, .i32⟩
  | 29 => ⟨S64x576, .i32⟩
  | 30 => ⟨S64x576, .i1⟩
  | 31 => ⟨S_, .i32⟩
  | 32 => ⟨S64x576, .i32⟩
  | 33 => ⟨S64x576, .i32⟩
  | 34 => ⟨S64x576, .i32⟩
  | 35 => ⟨S64x576x1, .i32⟩
  | 36 => ⟨S8x64x576, .f32⟩
  | 37 => ⟨S1x8x64x576, .f32⟩
  | 38 => ⟨S1x8x64x576, .f32⟩
  | 39 => ⟨S2x8x64x576, .f32⟩
  | 40 => ⟨S64x64x8x64, .f32⟩
  | 41 => ⟨S_, .f32⟩
  | 42 => ⟨S512x512, .f32⟩
  | 43 => ⟨S4608x512, .f32⟩
  | 44 => ⟨S_, .f32⟩
  | 45 => ⟨S512x512, .f32⟩
  | 46 => ⟨S72x64x8x64, .f32⟩
  | 47 => ⟨S4608x512, .f32⟩
  | 48 => ⟨S_, .f32⟩
  | 49 => ⟨S512x512, .f32⟩
  | 50 => ⟨S72x64x8x64, .f32⟩
  | 51 => ⟨S64x64x8x64, .f32⟩
  | 52 => ⟨S64x64x8x64, .f32⟩
  | 53 => ⟨S64x64x8x64, .f32⟩
  | 54 => ⟨S64x64x8x64, .f32⟩
  | 55 => ⟨S64x64x8x64, .f32⟩
  | 56 => ⟨S64x64x8x64, .f32⟩
  | 57 => ⟨S64x64x8x64, .f32⟩
  | 58 => ⟨S64x64x8x64, .f32⟩
  | 59 => ⟨S64x64x8x64, .f32⟩
  | 60 => ⟨S64x576x8x64, .f32⟩
  | 61 => ⟨S64x64x8x64, .f32⟩
  | 62 => ⟨S64x64x8x64, .f32⟩
  | 63 => ⟨S64x64x8x64, .f32⟩
  | 64 => ⟨S64x64x8x64, .f32⟩
  | 65 => ⟨S64x64x8x64, .f32⟩
  | 66 => ⟨S64x64x8x64, .f32⟩
  | 67 => ⟨S64x64x8x64, .f32⟩
  | 68 => ⟨S64x64x8x64, .f32⟩
  | 69 => ⟨S64x64x8x64, .f32⟩
  | 70 => ⟨S64x576x8x64, .f32⟩
  | 71 => ⟨S64x8x64x576, .f32⟩
  | 72 => ⟨S_, .f32⟩
  | 73 => ⟨S64x8x64x576, .f32⟩
  | 74 => ⟨S64x8x64x576, .f32⟩
  | 75 => ⟨S32x2x8x64x576, .f32⟩
  | 76 => ⟨S1x2x8x64x576, .f32⟩
  | 77 => ⟨S32x2x8x64x576, .f32⟩
  | 78 => ⟨S32x2x8x64x576, .f32⟩
  | 79 => ⟨S64, .i32⟩
  | 80 => ⟨S64x1, .i32⟩
  | 81 => ⟨S_, .i32⟩
  | 82 => ⟨S64x1, .i32⟩
  | 83 => ⟨S64x1, .i32⟩
  | 84 => ⟨S576, .i32⟩
  | 85 => ⟨S1x576, .i32⟩
  | 86 => ⟨S64x576, .i32⟩
  | 87 => ⟨S64x576, .i32⟩
  | 88 => ⟨S64x576, .i32⟩
  | 89 => ⟨S_, .i32⟩
  | 90 => ⟨S64x576, .i32⟩
  | 91 => ⟨S64x576, .i32⟩
  | 92 => ⟨S_, .i32⟩
  | 93 => ⟨S64x576, .i32⟩
  | 94 => ⟨S64x576, .i1⟩
  | 95 => ⟨S64x1x1x576, .i1⟩
  | 96 => ⟨S64x8x64x576, .f32⟩
  | 97 => ⟨S_, .f32⟩
  | 98 => ⟨S_, .f32⟩
  | 99 => ⟨S64x8x64x576, .i1⟩
  | 100 => ⟨S64x8x64x576, .f32⟩
  | 101 => ⟨S64x8x64x576, .f32⟩
  | 102 => ⟨S_, .f32⟩
  | 103 => ⟨S64x8x64x576, .f32⟩
  | 104 => ⟨S_, .f32⟩
  | 105 => ⟨S64x8x64, .f32⟩
  | 106 => ⟨S64x8x64x1, .f32⟩
  | 107 => ⟨S64x8x64x576, .f32⟩
  | 108 => ⟨S64x8x64x576, .i1⟩
  | 109 => ⟨S64x8x64x576, .f32⟩
  | 110 => ⟨S_, .f32⟩
  | 111 => ⟨S64x8x64, .f32⟩
  | 112 => ⟨S_, .f32⟩
  | 113 => ⟨S64x8x64, .f32⟩
  | 114 => ⟨S64x8x64, .f32⟩
  | 115 => ⟨S_, .f32⟩
  | 116 => ⟨S64x8x64, .f32⟩
  | 117 => ⟨S64x8x64, .i1⟩
  | 118 => ⟨S_, .f32⟩
  | 119 => ⟨S64x8x64, .f32⟩
  | 120 => ⟨S64x8x64, .i1⟩
  | 121 => ⟨S_, .f32⟩
  | 122 => ⟨S64x8x64, .f32⟩
  | 123 => ⟨S_, .f32⟩
  | 124 => ⟨S64x8x64, .f32⟩
  | 125 => ⟨S_, .f32⟩
  | 126 => ⟨S64x8x64, .f32⟩
  | 127 => ⟨S64x8x64, .f32⟩
  | _ => ⟨S4096x1536, .bf16⟩

abbrev hbmTy0_1 (i : Nat) : BufTy := match i % 128 with
  | 0 => ⟨S64x8x64, .f32⟩
  | 1 => ⟨S64x8x64x1, .f32⟩
  | 2 => ⟨S64x8x64x576, .f32⟩
  | 3 => ⟨S64x8x64x576, .f32⟩
  | 4 => ⟨S64x8x64x576, .f32⟩
  | 5 => ⟨S_, .f32⟩
  | 6 => ⟨S64x8x64, .f32⟩
  | 7 => ⟨S64x8x64x1, .f32⟩
  | 8 => ⟨S64x8x64x576, .f32⟩
  | 9 => ⟨S64x8x64x576, .f32⟩
  | 10 => ⟨S64x8x64x1, .f32⟩
  | 11 => ⟨S_, .f32⟩
  | 12 => ⟨S64x8x64x1, .f32⟩
  | 13 => ⟨S64x8x64x1, .f32⟩
  | 14 => ⟨S64x8x64x64, .f32⟩
  | 15 => ⟨S64x64x8x64, .f32⟩
  | 16 => ⟨S4096x512, .f32⟩
  | 17 => ⟨S4096x512, .f32⟩
  | 18 => ⟨S64x64x8x64, .f32⟩
  | 19 => ⟨S64x8x64x64, .f32⟩
  | 20 => ⟨S64x8x64x576, .f32⟩
  | 21 => ⟨S64x8x64x576, .f32⟩
  | 22 => ⟨S64x576x8x64, .f32⟩
  | 23 => ⟨S64x8x64x576, .f32⟩
  | 24 => ⟨S64x8x64x576, .f32⟩
  | 25 => ⟨S64x8x64x576, .f32⟩
  | 26 => ⟨S_, .f32⟩
  | 27 => ⟨S64x8x64, .f32⟩
  | 28 => ⟨S64x8x64x1, .f32⟩
  | 29 => ⟨S64x8x64x1, .f32⟩
  | 30 => ⟨S64x8x64x576, .f32⟩
  | 31 => ⟨S64x8x64x576, .f32⟩
  | 32 => ⟨S_, .f32⟩
  | 33 => ⟨S64x8x64, .f32⟩
  | 34 => ⟨S64x8x64x576, .f32⟩
  | 35 => ⟨S64x8x64x576, .f32⟩
  | 36 => ⟨S64x8x64x576, .f32⟩
  | 37 => ⟨S_, .f32⟩
  | 38 => ⟨S64x8x64x576, .f32⟩
  | 39 => ⟨S64x8x64x576, .f32⟩
  | 40 => ⟨S32x2x8x64x576, .f32⟩
  | 41 => ⟨S_, .f32⟩
  | 42 => ⟨S2x8x64x576, .f32⟩
  | 43 => ⟨S1x2x8x64x576, .f32⟩
  | 44 => ⟨S_, .f32⟩
  | 45 => ⟨S2x8x64x576, .f32⟩
  | 46 => ⟨S64x8x64x576, .f32⟩
  | 47 => ⟨S_, .f32⟩
  | 48 => ⟨S64x8x64x576, .f32⟩
  | 49 => ⟨S64x8x64x576, .f32⟩
  | 50 => ⟨S64x8x576x64, .f32⟩
  | 51 => ⟨S64x576x8x64, .f32⟩
  | 52 => ⟨S64x8x64x64, .f32⟩
  | 53 => ⟨S64x64x8x64, .f32⟩
  | 54 => ⟨S64x64x8x64, .f32⟩
  | 55 => ⟨S64x64x8x64, .f32⟩
  | 56 => ⟨S64x64x8x64, .f32⟩
  | 57 => ⟨S64x64x8x64, .f32⟩
  | 58 => ⟨S64x64x8x64, .f32⟩
  | 59 => ⟨S64x64x8x64, .f32⟩
  | 60 => ⟨S64x64x8x64, .f32⟩
  | 61 => ⟨S64x64x8x64, .f32⟩
  | 62 => ⟨S64x64x8x64, .f32⟩
  | 63 => ⟨S_, .f32⟩
  | 64 => ⟨S72x64x8x64, .f32⟩
  | 65 => ⟨S_, .f32⟩
  | 66 => ⟨S72x64x8x64, .f32⟩
  | 67 => ⟨S72x64x8x64, .f32⟩
  | 68 => ⟨S_, .f32⟩
  | 69 => ⟨S72x64x8x64, .f32⟩
  | 70 => ⟨S72x64x8x64, .f32⟩
  | 71 => ⟨S_, .f32⟩
  | 72 => ⟨S72x64x8x64, .f32⟩
  | 73 => ⟨S72x64x8x64, .f32⟩
  | 74 => ⟨S_, .f32⟩
  | 75 => ⟨S72x64x8x64, .f32⟩
  | 76 => ⟨S72x64x8x64, .f32⟩
  | 77 => ⟨S_, .f32⟩
  | 78 => ⟨S72x64x8x64, .f32⟩
  | 79 => ⟨S72x64x8x64, .f32⟩
  | 80 => ⟨S_, .f32⟩
  | 81 => ⟨S72x64x8x64, .f32⟩
  | 82 => ⟨S72x64x8x64, .f32⟩
  | 83 => ⟨S_, .f32⟩
  | 84 => ⟨S72x64x8x64, .f32⟩
  | 85 => ⟨S72x64x8x64, .f32⟩
  | 86 => ⟨S_, .f32⟩
  | 87 => ⟨S72x64x8x64, .f32⟩
  | 88 => ⟨S72x64x8x64, .f32⟩
  | 89 => ⟨S64x64x8x64, .f32⟩
  | 90 => ⟨S64x64x8x64, .f32⟩
  | 91 => ⟨S64x64x8x64, .f32⟩
  | 92 => ⟨S64x64x8x64, .f32⟩
  | 93 => ⟨S64x64x8x64, .f32⟩
  | 94 => ⟨S64x64x8x64, .f32⟩
  | 95 => ⟨S64x64x8x64, .f32⟩
  | 96 => ⟨S64x64x8x64, .f32⟩
  | 97 => ⟨S64x64x8x64, .f32⟩
  | 98 => ⟨S_, .f32⟩
  | 99 => ⟨S72x64x8x64, .f32⟩
  | 100 => ⟨S_, .f32⟩
  | 101 => ⟨S72x64x8x64, .f32⟩
  | 102 => ⟨S72x64x8x64, .f32⟩
  | 103 => ⟨S_, .f32⟩
  | 104 => ⟨S72x64x8x64, .f32⟩
  | 105 => ⟨S72x64x8x64, .f32⟩
  | 106 => ⟨S_, .f32⟩
  | 107 => ⟨S72x64x8x64, .f32⟩
  | 108 => ⟨S72x64x8x64, .f32⟩
  | 109 => ⟨S_, .f32⟩
  | 110 => ⟨S72x64x8x64, .f32⟩
  | 111 => ⟨S72x64x8x64, .f32⟩
  | 112 => ⟨S_, .f32⟩
  | 113 => ⟨S72x64x8x64, .f32⟩
  | 114 => ⟨S72x64x8x64, .f32⟩
  | 115 => ⟨S_, .f32⟩
  | 116 => ⟨S72x64x8x64, .f32⟩
  | 117 => ⟨S72x64x8x64, .f32⟩
  | 118 => ⟨S_, .f32⟩
  | 119 => ⟨S72x64x8x64, .f32⟩
  | 120 => ⟨S72x64x8x64, .f32⟩
  | 121 => ⟨S_, .f32⟩
  | 122 => ⟨S72x64x8x64, .f32⟩
  | 123 => ⟨S72x64x8x64, .f32⟩
  | 124 => ⟨S4608x512, .f32⟩
  | 125 => ⟨S512x512, .f32⟩
  | 126 => ⟨S4096x512, .f32⟩
  | 127 => ⟨S4608x512, .f32⟩
  | _ => ⟨S4096x1536, .bf16⟩

abbrev hbmTy0_2 (i : Nat) : BufTy := match i % 128 with
  | 0 => ⟨S512x512, .f32⟩
  | 1 => ⟨S4096x512, .f32⟩
  | 2 => ⟨S4096x512, .f32⟩
  | 3 => ⟨S1x8x64x576, .f32⟩
  | 4 => ⟨S8x64x576, .f32⟩
  | 5 => ⟨S8x576x64, .f32⟩
  | 6 => ⟨S_, .i32⟩
  | 7 => ⟨S_, .f32⟩
  | 8 => ⟨S8x640x64, .f32⟩
  | 9 => ⟨S1x8x64x576, .f32⟩
  | 10 => ⟨S8x64x576, .f32⟩
  | 11 => ⟨S8x576x64, .f32⟩
  | 12 => ⟨S_, .i32⟩
  | 13 => ⟨S_, .f32⟩
  | 14 => ⟨S8x640x64, .f32⟩
  | 15 => ⟨S4096x512, .bf16⟩
  | 16 => ⟨S_, .i32⟩
  | 17 => ⟨S_, .f32⟩
  | 18 => ⟨S4608x512, .f32⟩
  | 19 => ⟨S_, .i32⟩
  | 20 => ⟨S_, .f32⟩
  | 21 => ⟨S4608x512, .f32⟩
  | 22 => ⟨S8x640x128, .f32⟩
  | _ => ⟨S4096x1536, .bf16⟩

abbrev hbmTy (i : Nat) : BufTy := match i / 128 with
  | 0 => hbmTy0_0 i
  | 1 => hbmTy0_1 i
  | 2 => hbmTy0_2 i
  | _ => ⟨S4096x1536, .bf16⟩

abbrev bufTy : (tb : Table) → Fin (tcTables nBuf tb) → BufTy
  | .hbm, ⟨i, _⟩ => hbmTy i
  | _, _ => ⟨S4096x1536, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_c : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_c_0 : Ref sig .tc := ⟨.hbm, 17, rfl⟩
abbrev main_c_1 : Ref sig .tc := ⟨.hbm, 18, rfl⟩
abbrev main_call0_v0 : Ref sig .tc := ⟨.hbm, 19, rfl⟩
abbrev main_call0_v1 : Ref sig .tc := ⟨.hbm, 20, rfl⟩
abbrev main_call0_v2 : Ref sig .tc := ⟨.hbm, 21, rfl⟩
abbrev main_call0_v3 : Ref sig .tc := ⟨.hbm, 22, rfl⟩
abbrev main_call0_v4 : Ref sig .tc := ⟨.hbm, 23, rfl⟩
abbrev main_v13 : Ref sig .tc := ⟨.hbm, 24, rfl⟩
abbrev main_c_2 : Ref sig .tc := ⟨.hbm, 25, rfl⟩
abbrev main_v14 : Ref sig .tc := ⟨.hbm, 26, rfl⟩
abbrev main_v15 : Ref sig .tc := ⟨.hbm, 27, rfl⟩
abbrev main_c_3 : Ref sig .tc := ⟨.hbm, 28, rfl⟩
abbrev main_v16 : Ref sig .tc := ⟨.hbm, 29, rfl⟩
abbrev main_v17 : Ref sig .tc := ⟨.hbm, 30, rfl⟩
abbrev main_c_4 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_cst : Ref sig .tc := ⟨.hbm, 41, rfl⟩
abbrev main_v27 : Ref sig .tc := ⟨.hbm, 42, rfl⟩
abbrev main_v28 : Ref sig .tc := ⟨.hbm, 43, rfl⟩
abbrev main_cst_5 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_cst_6 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_v39 : Ref sig .tc := ⟨.hbm, 56, rfl⟩
abbrev main_v40 : Ref sig .tc := ⟨.hbm, 57, rfl⟩
abbrev main_v41 : Ref sig .tc := ⟨.hbm, 58, rfl⟩
abbrev main_v42 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_cst_7 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_v61 : Ref sig .tc := ⟨.hbm, 79, rfl⟩
abbrev main_v62 : Ref sig .tc := ⟨.hbm, 80, rfl⟩
abbrev main_c_8 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_c_9 : Ref sig .tc := ⟨.hbm, 89, rfl⟩
abbrev main_v70 : Ref sig .tc := ⟨.hbm, 90, rfl⟩
abbrev main_v71 : Ref sig .tc := ⟨.hbm, 91, rfl⟩
abbrev main_c_10 : Ref sig .tc := ⟨.hbm, 92, rfl⟩
abbrev main_v72 : Ref sig .tc := ⟨.hbm, 93, rfl⟩
abbrev main_v73 : Ref sig .tc := ⟨.hbm, 94, rfl⟩
abbrev main_v74 : Ref sig .tc := ⟨.hbm, 95, rfl⟩
abbrev main_v75 : Ref sig .tc := ⟨.hbm, 96, rfl⟩
abbrev main_cst_11 : Ref sig .tc := ⟨.hbm, 97, rfl⟩
abbrev main_call1_v0 : Ref sig .tc := ⟨.hbm, 98, rfl⟩
abbrev main_v76_1 : Ref sig .tc := ⟨.hbm, 99, rfl⟩
abbrev main_call1_v2 : Ref sig .tc := ⟨.hbm, 100, rfl⟩
abbrev main_v76_0 : Ref sig .tc := ⟨.hbm, 101, rfl⟩
abbrev main_call1_cst : Ref sig .tc := ⟨.hbm, 102, rfl⟩
abbrev main_v76_2 : Ref sig .tc := ⟨.hbm, 103, rfl⟩
abbrev main_cst_12 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩
abbrev main_v80 : Ref sig .tc := ⟨.hbm, 108, rfl⟩
abbrev main_v81 : Ref sig .tc := ⟨.hbm, 109, rfl⟩
abbrev main_cst_13 : Ref sig .tc := ⟨.hbm, 110, rfl⟩
abbrev main_v82 : Ref sig .tc := ⟨.hbm, 111, rfl⟩
abbrev main_cst_14 : Ref sig .tc := ⟨.hbm, 112, rfl⟩
abbrev main_v83 : Ref sig .tc := ⟨.hbm, 113, rfl⟩
abbrev main_v84 : Ref sig .tc := ⟨.hbm, 114, rfl⟩
abbrev main_cst_15 : Ref sig .tc := ⟨.hbm, 115, rfl⟩
abbrev main_v85 : Ref sig .tc := ⟨.hbm, 116, rfl⟩
abbrev main_v86 : Ref sig .tc := ⟨.hbm, 117, rfl⟩
abbrev main_cst_16 : Ref sig .tc := ⟨.hbm, 118, rfl⟩
abbrev main_v87 : Ref sig .tc := ⟨.hbm, 119, rfl⟩
abbrev main_v88 : Ref sig .tc := ⟨.hbm, 120, rfl⟩
abbrev main_cst_17 : Ref sig .tc := ⟨.hbm, 121, rfl⟩
abbrev main_v89 : Ref sig .tc := ⟨.hbm, 122, rfl⟩
abbrev main_cst_18 : Ref sig .tc := ⟨.hbm, 123, rfl⟩
abbrev main_v90 : Ref sig .tc := ⟨.hbm, 124, rfl⟩
abbrev main_cst_19 : Ref sig .tc := ⟨.hbm, 125, rfl⟩
abbrev main_v91 : Ref sig .tc := ⟨.hbm, 126, rfl⟩
abbrev main_v92 : Ref sig .tc := ⟨.hbm, 127, rfl⟩
abbrev main_v93 : Ref sig .tc := ⟨.hbm, 128, rfl⟩
abbrev main_v94 : Ref sig .tc := ⟨.hbm, 129, rfl⟩
abbrev main_v95 : Ref sig .tc := ⟨.hbm, 130, rfl⟩
abbrev main_v96 : Ref sig .tc := ⟨.hbm, 131, rfl⟩
abbrev main_v97 : Ref sig .tc := ⟨.hbm, 132, rfl⟩
abbrev main_cst_20 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_cst_21 : Ref sig .tc := ⟨.hbm, 139, rfl⟩
abbrev main_v103 : Ref sig .tc := ⟨.hbm, 140, rfl⟩
abbrev main_v104 : Ref sig .tc := ⟨.hbm, 141, rfl⟩
abbrev main_v105 : Ref sig .tc := ⟨.hbm, 142, rfl⟩
abbrev main_v106 : Ref sig .tc := ⟨.hbm, 143, rfl⟩
abbrev main_v107 : Ref sig .tc := ⟨.hbm, 144, rfl⟩
abbrev main_v108 : Ref sig .tc := ⟨.hbm, 145, rfl⟩
abbrev main_v109 : Ref sig .tc := ⟨.hbm, 146, rfl⟩
abbrev main_v110 : Ref sig .tc := ⟨.hbm, 147, rfl⟩
abbrev main_v111 : Ref sig .tc := ⟨.hbm, 148, rfl⟩
abbrev main_v112 : Ref sig .tc := ⟨.hbm, 149, rfl⟩
abbrev main_v113 : Ref sig .tc := ⟨.hbm, 150, rfl⟩
abbrev main_v114 : Ref sig .tc := ⟨.hbm, 151, rfl⟩
abbrev main_v115 : Ref sig .tc := ⟨.hbm, 152, rfl⟩
abbrev main_v116 : Ref sig .tc := ⟨.hbm, 153, rfl⟩
abbrev main_cst_22 : Ref sig .tc := ⟨.hbm, 154, rfl⟩
abbrev main_v117 : Ref sig .tc := ⟨.hbm, 155, rfl⟩
abbrev main_v118 : Ref sig .tc := ⟨.hbm, 156, rfl⟩
abbrev main_v119 : Ref sig .tc := ⟨.hbm, 157, rfl⟩
abbrev main_v120 : Ref sig .tc := ⟨.hbm, 158, rfl⟩
abbrev main_v121 : Ref sig .tc := ⟨.hbm, 159, rfl⟩
abbrev main_cst_23 : Ref sig .tc := ⟨.hbm, 160, rfl⟩
abbrev main_v122 : Ref sig .tc := ⟨.hbm, 161, rfl⟩
abbrev main_v123 : Ref sig .tc := ⟨.hbm, 162, rfl⟩
abbrev main_v124 : Ref sig .tc := ⟨.hbm, 163, rfl⟩
abbrev main_v125 : Ref sig .tc := ⟨.hbm, 164, rfl⟩
abbrev main_call2_cst : Ref sig .tc := ⟨.hbm, 165, rfl⟩
abbrev main_call2_v0 : Ref sig .tc := ⟨.hbm, 166, rfl⟩
abbrev main_v126 : Ref sig .tc := ⟨.hbm, 167, rfl⟩
abbrev main_v127 : Ref sig .tc := ⟨.hbm, 168, rfl⟩
abbrev main_cst_24 : Ref sig .tc := ⟨.hbm, 169, rfl⟩
abbrev main_v128 : Ref sig .tc := ⟨.hbm, 170, rfl⟩
abbrev main_v129 : Ref sig .tc := ⟨.hbm, 171, rfl⟩
abbrev main_cst_25 : Ref sig .tc := ⟨.hbm, 172, rfl⟩
abbrev main_v130 : Ref sig .tc := ⟨.hbm, 173, rfl⟩
abbrev main_v131 : Ref sig .tc := ⟨.hbm, 174, rfl⟩
abbrev main_cst_26 : Ref sig .tc := ⟨.hbm, 175, rfl⟩
abbrev main_v132 : Ref sig .tc := ⟨.hbm, 176, rfl⟩
abbrev main_v133 : Ref sig .tc := ⟨.hbm, 177, rfl⟩
abbrev main_v134 : Ref sig .tc := ⟨.hbm, 178, rfl⟩
abbrev main_v135 : Ref sig .tc := ⟨.hbm, 179, rfl⟩
abbrev main_v136 : Ref sig .tc := ⟨.hbm, 180, rfl⟩
abbrev main_v137 : Ref sig .tc := ⟨.hbm, 181, rfl⟩
abbrev main_v138 : Ref sig .tc := ⟨.hbm, 182, rfl⟩
abbrev main_v139 : Ref sig .tc := ⟨.hbm, 183, rfl⟩
abbrev main_v140 : Ref sig .tc := ⟨.hbm, 184, rfl⟩
abbrev main_v141 : Ref sig .tc := ⟨.hbm, 185, rfl⟩
abbrev main_v142 : Ref sig .tc := ⟨.hbm, 186, rfl⟩
abbrev main_v143 : Ref sig .tc := ⟨.hbm, 187, rfl⟩
abbrev main_v144 : Ref sig .tc := ⟨.hbm, 188, rfl⟩
abbrev main_v145 : Ref sig .tc := ⟨.hbm, 189, rfl⟩
abbrev main_v146 : Ref sig .tc := ⟨.hbm, 190, rfl⟩
abbrev main_cst_27 : Ref sig .tc := ⟨.hbm, 191, rfl⟩
abbrev main_v147 : Ref sig .tc := ⟨.hbm, 192, rfl⟩
abbrev main_cst_28 : Ref sig .tc := ⟨.hbm, 193, rfl⟩
abbrev main_v148 : Ref sig .tc := ⟨.hbm, 194, rfl⟩
abbrev main_v149 : Ref sig .tc := ⟨.hbm, 195, rfl⟩
abbrev main_cst_29 : Ref sig .tc := ⟨.hbm, 196, rfl⟩
abbrev main_v150 : Ref sig .tc := ⟨.hbm, 197, rfl⟩
abbrev main_v151 : Ref sig .tc := ⟨.hbm, 198, rfl⟩
abbrev main_cst_30 : Ref sig .tc := ⟨.hbm, 199, rfl⟩
abbrev main_v152 : Ref sig .tc := ⟨.hbm, 200, rfl⟩
abbrev main_v153 : Ref sig .tc := ⟨.hbm, 201, rfl⟩
abbrev main_cst_31 : Ref sig .tc := ⟨.hbm, 202, rfl⟩
abbrev main_v154 : Ref sig .tc := ⟨.hbm, 203, rfl⟩
abbrev main_v155 : Ref sig .tc := ⟨.hbm, 204, rfl⟩
abbrev main_cst_32 : Ref sig .tc := ⟨.hbm, 205, rfl⟩
abbrev main_v156 : Ref sig .tc := ⟨.hbm, 206, rfl⟩
abbrev main_v157 : Ref sig .tc := ⟨.hbm, 207, rfl⟩
abbrev main_cst_33 : Ref sig .tc := ⟨.hbm, 208, rfl⟩
abbrev main_v158 : Ref sig .tc := ⟨.hbm, 209, rfl⟩
abbrev main_v159 : Ref sig .tc := ⟨.hbm, 210, rfl⟩
abbrev main_cst_34 : Ref sig .tc := ⟨.hbm, 211, rfl⟩
abbrev main_v160 : Ref sig .tc := ⟨.hbm, 212, rfl⟩
abbrev main_v161 : Ref sig .tc := ⟨.hbm, 213, rfl⟩
abbrev main_cst_35 : Ref sig .tc := ⟨.hbm, 214, rfl⟩
abbrev main_v162 : Ref sig .tc := ⟨.hbm, 215, rfl⟩
abbrev main_v163 : Ref sig .tc := ⟨.hbm, 216, rfl⟩
abbrev main_v164 : Ref sig .tc := ⟨.hbm, 217, rfl⟩
abbrev main_v165 : Ref sig .tc := ⟨.hbm, 218, rfl⟩
abbrev main_v166 : Ref sig .tc := ⟨.hbm, 219, rfl⟩
abbrev main_v167 : Ref sig .tc := ⟨.hbm, 220, rfl⟩
abbrev main_v168 : Ref sig .tc := ⟨.hbm, 221, rfl⟩
abbrev main_v169 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_cst_36 : Ref sig .tc := ⟨.hbm, 226, rfl⟩
abbrev main_v173 : Ref sig .tc := ⟨.hbm, 227, rfl⟩
abbrev main_cst_37 : Ref sig .tc := ⟨.hbm, 228, rfl⟩
abbrev main_v174 : Ref sig .tc := ⟨.hbm, 229, rfl⟩
abbrev main_v175 : Ref sig .tc := ⟨.hbm, 230, rfl⟩
abbrev main_cst_38 : Ref sig .tc := ⟨.hbm, 231, rfl⟩
abbrev main_v176 : Ref sig .tc := ⟨.hbm, 232, rfl⟩
abbrev main_v177 : Ref sig .tc := ⟨.hbm, 233, rfl⟩
abbrev main_cst_39 : Ref sig .tc := ⟨.hbm, 234, rfl⟩
abbrev main_v178 : Ref sig .tc := ⟨.hbm, 235, rfl⟩
abbrev main_v179 : Ref sig .tc := ⟨.hbm, 236, rfl⟩
abbrev main_cst_40 : Ref sig .tc := ⟨.hbm, 237, rfl⟩
abbrev main_v180 : Ref sig .tc := ⟨.hbm, 238, rfl⟩
abbrev main_v181 : Ref sig .tc := ⟨.hbm, 239, rfl⟩
abbrev main_cst_41 : Ref sig .tc := ⟨.hbm, 240, rfl⟩
abbrev main_v182 : Ref sig .tc := ⟨.hbm, 241, rfl⟩
abbrev main_v183 : Ref sig .tc := ⟨.hbm, 242, rfl⟩
abbrev main_cst_42 : Ref sig .tc := ⟨.hbm, 243, rfl⟩
abbrev main_v184 : Ref sig .tc := ⟨.hbm, 244, rfl⟩
abbrev main_v185 : Ref sig .tc := ⟨.hbm, 245, rfl⟩
abbrev main_cst_43 : Ref sig .tc := ⟨.hbm, 246, rfl⟩
abbrev main_v186 : Ref sig .tc := ⟨.hbm, 247, rfl⟩
abbrev main_v187 : Ref sig .tc := ⟨.hbm, 248, rfl⟩
abbrev main_cst_44 : Ref sig .tc := ⟨.hbm, 249, rfl⟩
abbrev main_v188 : Ref sig .tc := ⟨.hbm, 250, rfl⟩
abbrev main_v189 : Ref sig .tc := ⟨.hbm, 251, rfl⟩
abbrev main_v190 : Ref sig .tc := ⟨.hbm, 252, rfl⟩
abbrev main_v191 : Ref sig .tc := ⟨.hbm, 253, rfl⟩
abbrev main_v192 : Ref sig .tc := ⟨.hbm, 254, rfl⟩
abbrev main_v193 : Ref sig .tc := ⟨.hbm, 255, rfl⟩
abbrev main_v194 : Ref sig .tc := ⟨.hbm, 256, rfl⟩
abbrev main_v195 : Ref sig .tc := ⟨.hbm, 257, rfl⟩
abbrev main_v196 : Ref sig .tc := ⟨.hbm, 258, rfl⟩
abbrev main_v197 : Ref sig .tc := ⟨.hbm, 259, rfl⟩
abbrev main_v198 : Ref sig .tc := ⟨.hbm, 260, rfl⟩
abbrev main_v199 : Ref sig .tc := ⟨.hbm, 261, rfl⟩
abbrev main_c_45 : Ref sig .tc := ⟨.hbm, 262, rfl⟩
abbrev main_call3_v0 : Ref sig .tc := ⟨.hbm, 263, rfl⟩
abbrev main_v200 : Ref sig .tc := ⟨.hbm, 264, rfl⟩
abbrev main_v201 : Ref sig .tc := ⟨.hbm, 265, rfl⟩
abbrev main_v202 : Ref sig .tc := ⟨.hbm, 266, rfl⟩
abbrev main_v203 : Ref sig .tc := ⟨.hbm, 267, rfl⟩
abbrev main_c_46 : Ref sig .tc := ⟨.hbm, 268, rfl⟩
abbrev main_call4_v0 : Ref sig .tc := ⟨.hbm, 269, rfl⟩
abbrev main_v204 : Ref sig .tc := ⟨.hbm, 270, rfl⟩
abbrev main_v205 : Ref sig .tc := ⟨.hbm, 271, rfl⟩
abbrev main_c_47 : Ref sig .tc := ⟨.hbm, 272, rfl⟩
abbrev main_call5_v0 : Ref sig .tc := ⟨.hbm, 273, rfl⟩
abbrev main_v206 : Ref sig .tc := ⟨.hbm, 274, rfl⟩
abbrev main_c_48 : Ref sig .tc := ⟨.hbm, 275, rfl⟩
abbrev main_call6_v0 : Ref sig .tc := ⟨.hbm, 276, rfl⟩
abbrev main_v207 : Ref sig .tc := ⟨.hbm, 277, rfl⟩
abbrev main_v208 : Ref sig .tc := ⟨.hbm, 278, rfl⟩

abbrev nD : Nat := 1
abbrev τ : Topo := Topo.v7x

variable {F : FTy → Type} [FloatOps F]
-- ==== Kernel2.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4096x4x704 : Shape := ⟨3, ![4096, 4, 704]⟩
abbrev S4x4096x704 : Shape := ⟨3, ![4, 4096, 704]⟩
abbrev S4x704x1024 : Shape := ⟨3, ![4, 704, 1024]⟩
abbrev S1024x1024 : Shape := ⟨2, ![1024, 1024]⟩
abbrev S1x1024x704 : Shape := ⟨3, ![1, 1024, 704]⟩
abbrev S1x704x1024 : Shape := ⟨3, ![1, 704, 1024]⟩
abbrev S704x1024 : Shape := ⟨2, ![704, 1024]⟩
abbrev S1024x704 : Shape := ⟨2, ![1024, 704]⟩

abbrev nBuf : Space → Nat
  | .hbm => 51
  | .vmem => 18
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S4096x2816, .f32⟩
  | .hbm, ⟨9, _⟩ => ⟨S_, .f32⟩
  | .hbm, ⟨10, _⟩ => ⟨S4096x2816, .f32⟩
  | .hbm, ⟨11, _⟩ => ⟨S4096x2816, .f32⟩
  | .hbm, ⟨12, _⟩ => ⟨S_, .f32⟩
  | .hbm, ⟨13, _⟩ => ⟨S4096x2816, .f32⟩
  | .hbm, ⟨14, _⟩ => ⟨S4096x2816, .f32⟩
  | .hbm, ⟨15, _⟩ => ⟨S_, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S4096x2816, .f32⟩
  | .hbm, ⟨34, _⟩ => ⟨S4096x2816, .f32⟩
  | .hbm, ⟨35, _⟩ => ⟨S4096x1024, .bf16⟩
  | .hbm, ⟨36, _⟩ => ⟨S4096x4x704, .f32⟩
  | .hbm, ⟨37, _⟩ => ⟨S4x4096x704, .f32⟩
  | .hbm, ⟨38, _⟩ => ⟨S4x4096x704, .bf16⟩
  | .hbm, ⟨39, _⟩ => ⟨S4096x4x704, .f32⟩
  | .hbm, ⟨40, _⟩ => ⟨S4x4096x704, .f32⟩
  | .hbm, ⟨41, _⟩ => ⟨S4x4096x704, .bf16⟩
  | .hbm, ⟨42, _⟩ => ⟨S4096x4x704, .f32⟩
  | .hbm, ⟨43, _⟩ => ⟨S4x4096x704, .f32⟩
  | .hbm, ⟨44, _⟩ => ⟨S4x4096x704, .bf16⟩
  | .hbm, ⟨45, _⟩ => ⟨S4096x4x704, .f32⟩
  | .hbm, ⟨46, _⟩ => ⟨S4x4096x704, .f32⟩
  | .hbm, ⟨47, _⟩ => ⟨S4x4096x704, .bf16⟩
  | .hbm, ⟨48, _⟩ => ⟨S4x704x1024, .f32⟩
  | .hbm, ⟨49, _⟩ => ⟨S4x704x1024, .f32⟩
  | .hbm, ⟨50, _⟩ => ⟨S4x704x1024, .f32⟩
  | .local _ .vmem, ⟨0, _⟩ => ⟨S1024x1024, .bf16⟩
  | .local _ .vmem, ⟨1, _⟩ => ⟨S1024x1024, .bf16⟩
  | .local _ .vmem, ⟨2, _⟩ => ⟨S1024x1024, .f32⟩
  | .local _ .vmem, ⟨3, _⟩ => ⟨S1024x1024, .f32⟩
  | .local _ .vmem, ⟨4, _⟩ => ⟨S1x1024x704, .bf16⟩
  | .local _ .vmem, ⟨5, _⟩ => ⟨S1x1024x704, .bf16⟩
  | .local _ .vmem, ⟨6, _⟩ => ⟨S1x1024x704, .bf16⟩
  | .local _ .vmem, ⟨7, _⟩ => ⟨S1x1024x704, .bf16⟩
  | .local _ .vmem, ⟨8, _⟩ => ⟨S1x1024x704, .bf16⟩
  | .local _ .vmem, ⟨9, _⟩ => ⟨S1x1024x704, .bf16⟩
  | .local _ .vmem, ⟨10, _⟩ => ⟨S1x1024x704, .bf16⟩
  | .local _ .vmem, ⟨11, _⟩ => ⟨S1x1024x704, .bf16⟩
  | .local _ .vmem, ⟨12, _⟩ => ⟨S1x704x1024, .f32⟩
  | .local _ .vmem, ⟨13, _⟩ => ⟨S1x704x1024, .f32⟩
  | .local _ .vmem, ⟨14, _⟩ => ⟨S1x704x1024, .f32⟩
  | .local _ .vmem, ⟨15, _⟩ => ⟨S1x704x1024, .f32⟩
  | .local _ .vmem, ⟨16, _⟩ => ⟨S1x704x1024, .f32⟩
  | .local _ .vmem, ⟨17, _⟩ => ⟨S1x704x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_v2_2 : Ref sig .tc := ⟨.hbm, 14, rfl⟩
abbrev main_call0_cst_1 : Ref sig .tc := ⟨.hbm, 15, rfl⟩
abbrev main_call0_v6 : Ref sig .tc := ⟨.hbm, 16, rfl⟩
abbrev main_call0_v7 : Ref sig .tc := ⟨.hbm, 17, rfl⟩
abbrev main_v2_1 : Ref sig .tc := ⟨.hbm, 18, rfl⟩
abbrev main_v2_0 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_call1_v0 : Ref sig .tc := ⟨.hbm, 31, rfl⟩
abbrev main_call1_v1 : Ref sig .tc := ⟨.hbm, 32, rfl⟩
abbrev main_call1_v2 : Ref sig .tc := ⟨.hbm, 33, rfl⟩
abbrev main_v12 : Ref sig .tc := ⟨.hbm, 34, rfl⟩
abbrev main_v13 : Ref sig .tc := ⟨.hbm, 35, rfl⟩
abbrev main_v14 : Ref sig .tc := ⟨.hbm, 36, rfl⟩
abbrev main_v15 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26_0 : Ref sig .tc := ⟨.hbm, 48, rfl⟩
abbrev main_v26_1 : Ref sig .tc := ⟨.hbm, 49, rfl⟩
abbrev main_v26_2 : Ref sig .tc := ⟨.hbm, 50, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x1024x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1024x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1024x704 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1024x704 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x704x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x704x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x704x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]
-- ==== Reference2Ideal.lean ====
abbrev S4096x1024 : Shape := ⟨2, ![4096, 1024]⟩
abbrev S1024x2816 : Shape := ⟨2, ![1024, 2816]⟩
abbrev S2816x1024 : Shape := ⟨2, ![2816, 1024]⟩
abbrev S4096x2816 : Shape := ⟨2, ![4096, 2816]⟩
abbrev S_ : Shape := ⟨0, ![]⟩
abbrev S4x704x1024 : Shape := ⟨3, ![4, 704, 1024]⟩

abbrev nBuf : Space → Nat
  | .hbm => 46
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S4096x1024, .f32⟩
  | .hbm, ⟨5, _⟩ => ⟨S4096x2816, .f32⟩
  | .hbm, ⟨6, _⟩ => ⟨S4096x2816, .f32⟩
  | .hbm, ⟨7, _⟩ => ⟨S4096x2816, .f32⟩
  | .hbm, ⟨8, _⟩ => ⟨S_, .f32⟩
  | .hbm, ⟨9, _⟩ => ⟨S4096x2816, .f32⟩
  | .hbm, ⟨10, _⟩ => ⟨S4096x2816, .f32⟩
  | .hbm, ⟨11, _⟩ => ⟨S_, .f32⟩
  | .hbm, ⟨12, _⟩ => ⟨S4096x2816, .f32⟩
  | .hbm, ⟨13, _⟩ => ⟨S4096x2816, .f32⟩
  | .hbm, ⟨14, _⟩ => ⟨S_, .f32⟩
  | .hbm, ⟨15, _⟩ => ⟨S4096x2816, .f32⟩
  | .hbm, ⟨16, _⟩ => ⟨S4096x2816, .f32⟩
  | .hbm, ⟨17, _⟩ => ⟨S4096x2816, .f32⟩
  | .hbm, ⟨18, _⟩ => ⟨S4096x2816, .f32⟩
  | .hbm, ⟨19, _⟩ => ⟨S4096x2816, .f32⟩
  | .hbm, ⟨20, _⟩ => ⟨S4096x2816, .f32⟩
  | .hbm, ⟨21, _⟩ => ⟨S4096x1024, .f32⟩
  | .hbm, ⟨22, _⟩ => ⟨S_, .f32⟩
  | .hbm, ⟨23, _⟩ => ⟨S4096x1024, .f32⟩
  | .hbm, ⟨24, _⟩ => ⟨S4096x1024, .f32⟩
  | .hbm, ⟨25, _⟩ => ⟨S_, .f32⟩
  | .hbm, ⟨26, _⟩ => ⟨S4096x1024, .f32⟩
  | .hbm, ⟨27, _⟩ => ⟨S4096x1024, .f32⟩
  | .hbm, ⟨28, _⟩ => ⟨S1024x2816, .f32⟩
  | .hbm, ⟨29, _⟩ => ⟨S2816x1024, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S2816x1024, .f32⟩
  | .hbm, ⟨34, _⟩ => ⟨S1024x2816, .f32⟩
  | .hbm, ⟨35, _⟩ => ⟨S4096x2816, .f32⟩
  | .hbm, ⟨36, _⟩ => ⟨S4096x2816, .f32⟩
  | .hbm, ⟨37, _⟩ => ⟨S4096x2816, .f32⟩
  | .hbm, ⟨38, _⟩ => ⟨S4096x2816, .f32⟩
  | .hbm, ⟨39, _⟩ => ⟨S2816x1024, .f32⟩
  | .hbm, ⟨40, _⟩ => ⟨S1024x2816, .f32⟩
  | .hbm, ⟨41, _⟩ => ⟨S2816x1024, .f32⟩
  | .hbm, ⟨42, _⟩ => ⟨S4x704x1024, .f32⟩
  | .hbm, ⟨43, _⟩ => ⟨S2816x1024, .f32⟩
  | .hbm, ⟨44, _⟩ => ⟨S4x704x1024, .f32⟩
  | .hbm, ⟨45, _⟩ => ⟨S4x704x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_v1_2 : Ref sig .tc := ⟨.hbm, 13, rfl⟩
abbrev main_call0_cst_1 : Ref sig .tc := ⟨.hbm, 14, rfl⟩
abbrev main_call0_v6 : Ref sig .tc := ⟨.hbm, 15, rfl⟩
abbrev main_call0_v7 : Ref sig .tc := ⟨.hbm, 16, rfl⟩
abbrev main_v1_1 : Ref sig .tc := ⟨.hbm, 17, rfl⟩
abbrev main_v1_0 : Ref sig .tc := ⟨.hbm, 18, rfl⟩
abbrev main_v2 : Ref sig .tc := ⟨.hbm, 19, rfl⟩
abbrev main_v3 : Ref sig .tc := ⟨.hbm, 20, rfl⟩
abbrev main_v4 : Ref sig .tc := ⟨.hbm, 21, rfl⟩
abbrev main_cst : Ref sig .tc := ⟨.hbm, 22, rfl⟩
abbrev main_v5 : Ref sig .tc := ⟨.hbm, 23, rfl⟩
abbrev main_v6 : Ref sig .tc := ⟨.hbm, 24, rfl⟩
abbrev main_cst_0 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_v16 : Ref sig .tc := ⟨.hbm, 38, rfl⟩
abbrev main_v17 : Ref sig .tc := ⟨.hbm, 39, rfl⟩
abbrev main_v18 : Ref sig .tc := ⟨.hbm, 40, rfl⟩
abbrev main_v19 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩

abbrev nD : Nat := 1
abbrev τ : Topo := Topo.v7x

variable {F : FTy → Type} [FloatOps F]
-- ==== Kernel3.lean ====
abbrev S4096x1024 : Shape := ⟨2, ![4096, 1024]⟩
abbrev S4096x4608 : Shape := ⟨2, ![4096, 4608]⟩
abbrev S4x1024x1152 : Shape := ⟨3, ![4, 1024, 1152]⟩
abbrev S1024x1024 : Shape := ⟨2, ![1024, 1024]⟩
abbrev S1024x1152 : Shape := ⟨2, ![1024, 1152]⟩
abbrev S1x1024x1152 : Shape := ⟨3, ![1, 1024, 1152]⟩

abbrev nBuf : Space → Nat
  | .hbm => 3
  | .vmem => 6
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4x1024x1152, .f32⟩
  | .local _ .vmem, ⟨0, _⟩ => ⟨S1024x1024, .bf16⟩
  | .local _ .vmem, ⟨1, _⟩ => ⟨S1024x1024, .bf16⟩
  | .local _ .vmem, ⟨2, _⟩ => ⟨S1024x1152, .bf16⟩
  | .local _ .vmem, ⟨3, _⟩ => ⟨S1024x1152, .bf16⟩
  | .local _ .vmem, ⟨4, _⟩ => ⟨S1x1024x1152, .f32⟩
  | .local _ .vmem, ⟨5, _⟩ => ⟨S1x1024x1152, .f32⟩
  | _, _ => ⟨S4096x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 4], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1024x1152 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1024x1152 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]
-- ==== Reference3Ideal.lean ====
abbrev S4096x1024 : Shape := ⟨2, ![4096, 1024]⟩
abbrev S4096x4608 : Shape := ⟨2, ![4096, 4608]⟩
abbrev S_ : Shape := ⟨0, ![]⟩
abbrev S1024x4608 : Shape := ⟨2, ![1024, 4608]⟩
abbrev S4608x1024 : Shape := ⟨2, ![4608, 1024]⟩
abbrev S1024x4x1152 : Shape := ⟨3, ![1024, 4, 1152]⟩
abbrev S4x1024x1152 : Shape := ⟨3, ![4, 1024, 1152]⟩

abbrev nBuf : Space → Nat
  | .hbm => 11
  | .vmem => 0
  | .smem => 0
  | _ => 0

abbrev bufTy : (tb : Table) → Fin (tcTables nBuf tb) → BufTy
  | .hbm, ⟨0, _⟩ => ⟨S4096x1024, .bf16⟩
  | .hbm, ⟨1, _⟩ => ⟨S4096x4608, .bf16⟩
  | .hbm, ⟨2, _⟩ => ⟨S4096x1024, .f32⟩
  | .hbm, ⟨3, _⟩ => ⟨S4096x4608, .f32⟩
  | .hbm, ⟨4, _⟩ => ⟨S_, .f32⟩
  | .hbm, ⟨5, _⟩ => ⟨S1024x4608, .f32⟩
  | .hbm, ⟨6, _⟩ => ⟨S4096x4608, .f32⟩
  | .hbm, ⟨7, _⟩ => ⟨S4608x1024, .f32⟩
  | .hbm, ⟨8, _⟩ => ⟨S1024x4608, .f32⟩
  | .hbm, ⟨9, _⟩ => ⟨S1024x4x1152, .f32⟩
  | .hbm, ⟨10, _⟩ => ⟨S4x1024x1152, .f32⟩
  | _, _ => ⟨S4096x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩

abbrev nD : Nat := 1
abbrev τ : Topo := Topo.v7x

variable {F : FTy → Type} [FloatOps F]
-- ==== Kernel4.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096 : Shape := ⟨1, ![4096]⟩
abbrev S4096x1 : Shape := ⟨2, ![4096, 1]⟩
abbrev S4x704x1024 : Shape := ⟨3, ![4, 704, 1024]⟩
abbrev S4096x2816 : Shape := ⟨2, ![4096, 2816]⟩
abbrev S4096x4x704 : Shape := ⟨3, ![4096, 4, 704]⟩
abbrev S4x4096x704 : Shape := ⟨3, ![4, 4096, 704]⟩
abbrev S256x1024 : Shape := ⟨2, ![256, 1024]⟩
abbrev S4x256x704 : Shape := ⟨3, ![4, 256, 704]⟩
abbrev S1x704x1024 : Shape := ⟨3, ![1, 704, 1024]⟩
abbrev S704x1024 : Shape := ⟨2, ![704, 1024]⟩
abbrev S256x704 : Shape := ⟨2, ![256, 704]⟩
abbrev S1x64x704 : Shape := ⟨3, ![1, 64, 704]⟩
abbrev S64x704 : Shape := ⟨2, ![64, 704]⟩
abbrev S1x256x704 : Shape := ⟨3, ![1, 256, 704]⟩
abbrev S256 : Shape := ⟨1, ![256]⟩
abbrev S256x1 : Shape := ⟨2, ![256, 1]⟩
abbrev S1024 : Shape := ⟨1, ![1024]⟩

abbrev nBuf : Space → Nat
  | .hbm => 41
  | .vmem => 19
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S4096x1024, .f32⟩
  | .hbm, ⟨7, _⟩ => ⟨S_, .f32⟩
  | .hbm, ⟨8, _⟩ => ⟨S4096, .f32⟩
  | .hbm, ⟨9, _⟩ => ⟨S4096x1, .f32⟩
  | .hbm, ⟨10, _⟩ => ⟨S_, .f32⟩
  | .hbm, ⟨11, _⟩ => ⟨S4096x1, .f32⟩
  | .hbm, ⟨12, _⟩ => ⟨S4096x1, .f32⟩
  | .hbm, ⟨13, _⟩ => ⟨S_, .f32⟩
  | .hbm, ⟨14, _⟩ => ⟨S4096x1, .f32⟩
  | .hbm, ⟨15, _⟩ => ⟨S4096x1, .f32⟩
  | .hbm, ⟨16, _⟩ => ⟨S4096x1, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S4096x1024, .f32⟩
  | .hbm, ⟨21, _⟩ => ⟨S2816x1024, .f32⟩
  | .hbm, ⟨22, _⟩ => ⟨S4x704x1024, .f32⟩
  | .hbm, ⟨23, _⟩ => ⟨S4x704x1024, .bf16⟩
  | .hbm, ⟨24, _⟩ => ⟨S2816x1024, .f32⟩
  | .hbm, ⟨25, _⟩ => ⟨S4x704x1024, .f32⟩
  | .hbm, ⟨26, _⟩ => ⟨S4x704x1024, .bf16⟩
  | .hbm, ⟨27, _⟩ => ⟨S4x704x1024, .f32⟩
  | .hbm, ⟨28, _⟩ => ⟨S4x704x1024, .bf16⟩
  | .hbm, ⟨29, _⟩ => ⟨S4096x2816, .f32⟩
  | .hbm, ⟨30, _⟩ => ⟨S4096x4x704, .f32⟩
  | .hbm, ⟨31, _⟩ => ⟨S4x4096x704, .f32⟩
  | .hbm, ⟨32, _⟩ => ⟨S4x4096x704, .bf16⟩
  | .hbm, ⟨33, _⟩ => ⟨S4096x2816, .f32⟩
  | .hbm, ⟨34, _⟩ => ⟨S4096x4x704, .f32⟩
  | .hbm, ⟨35, _⟩ => ⟨S4x4096x704, .f32⟩
  | .hbm, ⟨36, _⟩ => ⟨S4x4096x704, .bf16⟩
  | .hbm, ⟨37, _⟩ => ⟨S4096x1024, .f32⟩
  | .hbm, ⟨38, _⟩ => ⟨S4x4096x704, .bf16⟩
  | .hbm, ⟨39, _⟩ => ⟨S4x4096x704, .bf16⟩
  | .hbm, ⟨40, _⟩ => ⟨S1x1024, .f32⟩
  | .local _ .vmem, ⟨0, _⟩ => ⟨S256x1024, .f32⟩
  | .local _ .vmem, ⟨1, _⟩ => ⟨S256x1024, .f32⟩
  | .local _ .vmem, ⟨2, _⟩ => ⟨S256x1024, .f32⟩
  | .local _ .vmem, ⟨3, _⟩ => ⟨S256x1024, .f32⟩
  | .local _ .vmem, ⟨4, _⟩ => ⟨S4x256x704, .bf16⟩
  | .local _ .vmem, ⟨5, _⟩ => ⟨S4x256x704, .bf16⟩
  | .local _ .vmem, ⟨6, _⟩ => ⟨S4x256x704, .bf16⟩
  | .local _ .vmem, ⟨7, _⟩ => ⟨S4x256x704, .bf16⟩
  | .local _ .vmem, ⟨8, _⟩ => ⟨S1x1024, .f32⟩
  | .local _ .vmem, ⟨9, _⟩ => ⟨S4x704x1024, .bf16⟩
  | .local _ .vmem, ⟨10, _⟩ => ⟨S4x704x1024, .bf16⟩
  | .local _ .vmem, ⟨11, _⟩ => ⟨S4x704x1024, .bf16⟩
  | .local _ .vmem, ⟨12, _⟩ => ⟨S256x1024, .f32⟩
  | .local _ .vmem, ⟨13, _⟩ => ⟨S256x1024, .f32⟩
  | .local _ .vmem, ⟨14, _⟩ => ⟨S4x256x704, .bf16⟩
  | .local _ .vmem, ⟨15, _⟩ => ⟨S4x256x704, .bf16⟩
  | .local _ .vmem, ⟨16, _⟩ => ⟨S4x256x704, .bf16⟩
  | .local _ .vmem, ⟨17, _⟩ => ⟨S4x256x704, .bf16⟩
  | .local _ .vmem, ⟨18, _⟩ => ⟨S1x1024, .f32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_cst_1 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28_0 : Ref sig .tc := ⟨.hbm, 37, rfl⟩
abbrev main_v28_1 : Ref sig .tc := ⟨.hbm, 38, rfl⟩
abbrev main_v28_2 : Ref sig .tc := ⟨.hbm, 39, rfl⟩
abbrev main_v28_3 : Ref sig .tc := ⟨.hbm, 40, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg8_1 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg10_1 : Ref sig .tc := ⟨.vmem, 17, rfl⟩
abbrev cc0_stg11_0 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem7_0 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let v0 : BitVec 32 := Scalar.addi arg0 c0_i32
  let c0_i32_0 : BitVec 32 := 0#32
  let c0_i32_1 : BitVec 32 := 0#32
  ![v0.toNat, c0_i32_0.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S4x256x704 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S4x256x704 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S4x704x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S4x704x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S4x704x1024 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x256x704 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x256x704 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S1x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== Reference4Ideal.lean ====
abbrev S4096x1024 : Shape := ⟨2, ![4096, 1024]⟩
abbrev S1x1024 : Shape := ⟨2, ![1, 1024]⟩
abbrev S1024x2816 : Shape := ⟨2, ![1024, 2816]⟩
abbrev S2816x1024 : Shape := ⟨2, ![2816, 1024]⟩
abbrev S_ : Shape := ⟨0, ![]⟩
abbrev S4096x2816 : Shape := ⟨2, ![4096, 2816]⟩
abbrev S4096 : Shape := ⟨1, ![4096]⟩
abbrev S4096x1 : Shape := ⟨2, ![4096, 1]⟩
abbrev S1024 : Shape := ⟨1, ![1024]⟩
abbrev S4096x4x704 : Shape := ⟨3, ![4096, 4, 704]⟩
abbrev S4x4096x704 : Shape := ⟨3, ![4, 4096, 704]⟩

abbrev nBuf : Space → Nat
  | .hbm => 94
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1x1024, .f32⟩
  | .hbm, ⟨2, _⟩ => ⟨S1024x2816, .f32⟩
  | .hbm, ⟨3, _⟩ => ⟨S1024x2816, .f32⟩
  | .hbm, ⟨4, _⟩ => ⟨S2816x1024, .f32⟩
  | .hbm, ⟨5, _⟩ => ⟨S4096x1024, .f32⟩
  | .hbm, ⟨6, _⟩ => ⟨S_, .f32⟩
  | .hbm, ⟨7, _⟩ => ⟨S4096x2816, .f32⟩
  | .hbm, ⟨8, _⟩ => ⟨S4096x1024, .f32⟩
  | .hbm, ⟨9, _⟩ => ⟨S_, .f32⟩
  | .hbm, ⟨10, _⟩ => ⟨S4096, .f32⟩
  | .hbm, ⟨11, _⟩ => ⟨S4096x1, .f32⟩
  | .hbm, ⟨12, _⟩ => ⟨S_, .f32⟩
  | .hbm, ⟨13, _⟩ => ⟨S4096x1, .f32⟩
  | .hbm, ⟨14, _⟩ => ⟨S4096x1, .f32⟩
  | .hbm, ⟨15, _⟩ => ⟨S_, .f32⟩
  | .hbm, ⟨16, _⟩ => ⟨S4096x1, .f32⟩
  | .hbm, ⟨17, _⟩ => ⟨S4096x1, .f32⟩
  | .hbm, ⟨18, _⟩ => ⟨S4096x1, .f32⟩
  | .hbm, ⟨19, _⟩ => ⟨S4096x1, .f32⟩
  | .hbm, ⟨20, _⟩ => ⟨S_, .f32⟩
  | .hbm, ⟨21, _⟩ => ⟨S4096x1, .f32⟩
  | .hbm, ⟨22, _⟩ => ⟨S4096x1, .f32⟩
  | .hbm, ⟨23, _⟩ => ⟨S4096x1024, .f32⟩
  | .hbm, ⟨24, _⟩ => ⟨S4096x1024, .f32⟩
  | .hbm, ⟨25, _⟩ => ⟨S4096x1024, .f32⟩
  | .hbm, ⟨26, _⟩ => ⟨S4096x1024, .f32⟩
  | .hbm, ⟨27, _⟩ => ⟨S4096x2816, .f32⟩
  | .hbm, ⟨28, _⟩ => ⟨S4096x2816, .f32⟩
  | .hbm, ⟨29, _⟩ => ⟨S4096x2816, .f32⟩
  | .hbm, ⟨30, _⟩ => ⟨S4096x2816, .f32⟩
  | .hbm, ⟨31, _⟩ => ⟨S4096x2816, .f32⟩
  | .hbm, ⟨32, _⟩ => ⟨S4096x2816, .f32⟩
  | .hbm, ⟨33, _⟩ => ⟨S_, .f32⟩
  | .hbm, ⟨34, _⟩ => ⟨S4096x2816, .f32⟩
  | .hbm, ⟨35, _⟩ => ⟨S4096x2816, .f32⟩
  | .hbm, ⟨36, _⟩ => ⟨S_, .f32⟩
  | .hbm, ⟨37, _⟩ => ⟨S4096x2816, .f32⟩
  | .hbm, ⟨38, _⟩ => ⟨S4096x2816, .f32⟩
  | .hbm, ⟨39, _⟩ => ⟨S_, .f32⟩
  | .hbm, ⟨40, _⟩ => ⟨S4096x2816, .f32⟩
  | .hbm, ⟨41, _⟩ => ⟨S4096x2816, .f32⟩
  | .hbm, ⟨42, _⟩ => ⟨S4096x2816, .f32⟩
  | .hbm, ⟨43, _⟩ => ⟨S4096x2816, .f32⟩
  | .hbm, ⟨44, _⟩ => ⟨S4096x2816, .f32⟩
  | .hbm, ⟨45, _⟩ => ⟨S4096x1024, .f32⟩
  | .hbm, ⟨46, _⟩ => ⟨S_, .f32⟩
  | .hbm, ⟨47, _⟩ => ⟨S4096x1024, .f32⟩
  | .hbm, ⟨48, _⟩ => ⟨S4096x1024, .f32⟩
  | .hbm, ⟨49, _⟩ => ⟨S4096x1024, .f32⟩
  | .hbm, ⟨50, _⟩ => ⟨S4096x1024, .f32⟩
  | .hbm, ⟨51, _⟩ => ⟨S_, .f32⟩
  | .hbm, ⟨52, _⟩ => ⟨S4096x1024, .f32⟩
  | .hbm, ⟨53, _⟩ => ⟨S4096x1024, .f32⟩
  | .hbm, ⟨54, _⟩ => ⟨S4096x2816, .f32⟩
  | .hbm, ⟨55, _⟩ => ⟨S4096x2816, .f32⟩
  | .hbm, ⟨56, _⟩ => ⟨S4096x2816, .f32⟩
  | .hbm, ⟨57, _⟩ => ⟨S4096x2816, .f32⟩
  | .hbm, ⟨58, _⟩ => ⟨S4096x2816, .f32⟩
  | .hbm, ⟨59, _⟩ => ⟨S4096x2816, .f32⟩
  | .hbm, ⟨60, _⟩ => ⟨S4096x2816, .f32⟩
  | .hbm, ⟨61, _⟩ => ⟨S4096x1024, .f32⟩
  | .hbm, ⟨62, _⟩ => ⟨S4096x1024, .f32⟩
  | .hbm, ⟨63, _⟩ => ⟨S4096x1024, .f32⟩
  | .hbm, ⟨64, _⟩ => ⟨S4096x1024, .f32⟩
  | .hbm, ⟨65, _⟩ => ⟨S_, .f32⟩
  | .hbm, ⟨66, _⟩ => ⟨S1024, .f32⟩
  | .hbm, ⟨67, _⟩ => ⟨S1x1024, .f32⟩
  | .hbm, ⟨68, _⟩ => ⟨S4096x1024, .f32⟩
  | .hbm, ⟨69, _⟩ => ⟨S4096x1024, .f32⟩
  | .hbm, ⟨70, _⟩ => ⟨S4096x1024, .f32⟩
  | .hbm, ⟨71, _⟩ => ⟨S_, .f32⟩
  | .hbm, ⟨72, _⟩ => ⟨S4096, .f32⟩
  | .hbm, ⟨73, _⟩ => ⟨S4096x1, .f32⟩
  | .hbm, ⟨74, _⟩ => ⟨S4096x1024, .f32⟩
  | .hbm, ⟨75, _⟩ => ⟨S4096x1024, .f32⟩
  | .hbm, ⟨76, _⟩ => ⟨S4096x1024, .f32⟩
  | .hbm, ⟨77, _⟩ => ⟨S4096x1, .f32⟩
  | .hbm, ⟨78, _⟩ => ⟨S_, .f32⟩
  | .hbm, ⟨79, _⟩ => ⟨S4096x1, .f32⟩
  | .hbm, ⟨80, _⟩ => ⟨S4096x1, .f32⟩
  | .hbm, ⟨81, _⟩ => ⟨S_, .f32⟩
  | .hbm, ⟨82, _⟩ => ⟨S4096, .f32⟩
  | .hbm, ⟨83, _⟩ => ⟨S4096x1024, .f32⟩
  | .hbm, ⟨84, _⟩ => ⟨S4096x1024, .f32⟩
  | .hbm, ⟨85, _⟩ => ⟨S4096x1024, .f32⟩
  | .hbm, ⟨86, _⟩ => ⟨S4096x1024, .f32⟩
  | .hbm, ⟨87, _⟩ => ⟨S4096x1024, .f32⟩
  | .hbm, ⟨88, _⟩ => ⟨S4096x4x704, .f32⟩
  | .hbm, ⟨89, _⟩ => ⟨S4x4096x704, .f32⟩
  | .hbm, ⟨90, _⟩ => ⟨S4x4096x704, .bf16⟩
  | .hbm, ⟨91, _⟩ => ⟨S4096x4x704, .f32⟩
  | .hbm, ⟨92, _⟩ => ⟨S4x4096x704, .f32⟩
  | .hbm, ⟨93, _⟩ => ⟨S4x4096x704, .bf16⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_cst_0 : Ref sig .tc := ⟨.hbm, 9, rfl⟩
abbrev main_v2 : Ref sig .tc := ⟨.hbm, 10, rfl⟩
abbrev main_v3 : Ref sig .tc := ⟨.hbm, 11, rfl⟩
abbrev main_cst_1 : Ref sig .tc := ⟨.hbm, 12, rfl⟩
abbrev main_v4 : Ref sig .tc := ⟨.hbm, 13, rfl⟩
abbrev main_v5 : Ref sig .tc := ⟨.hbm, 14, rfl⟩
abbrev main_cst_2 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_cst_3 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_call0_v0 : Ref sig .tc := ⟨.hbm, 31, rfl⟩
abbrev main_call0_v1 : Ref sig .tc := ⟨.hbm, 32, rfl⟩
abbrev main_call0_cst : Ref sig .tc := ⟨.hbm, 33, rfl⟩
abbrev main_call0_v2 : Ref sig .tc := ⟨.hbm, 34, rfl⟩
abbrev main_call0_v3 : Ref sig .tc := ⟨.hbm, 35, rfl⟩
abbrev main_call0_cst_0 : Ref sig .tc := ⟨.hbm, 36, rfl⟩
abbrev main_call0_v4 : Ref sig .tc := ⟨.hbm, 37, rfl⟩
abbrev main_v20_2 : Ref sig .tc := ⟨.hbm, 38, rfl⟩
abbrev main_call0_cst_1 : Ref sig .tc := ⟨.hbm, 39, rfl⟩
abbrev main_call0_v6 : Ref sig .tc := ⟨.hbm, 40, rfl⟩
abbrev main_call0_v7 : Ref sig .tc := ⟨.hbm, 41, rfl⟩
abbrev main_v20_1 : Ref sig .tc := ⟨.hbm, 42, rfl⟩
abbrev main_v20_0 : Ref sig .tc := ⟨.hbm, 43, rfl⟩
abbrev main_v21 : Ref sig .tc := ⟨.hbm, 44, rfl⟩
abbrev main_v22 : Ref sig .tc := ⟨.hbm, 45, rfl⟩
abbrev main_cst_4 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_cst_5 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_v31 : Ref sig .tc := ⟨.hbm, 56, rfl⟩
abbrev main_call1_v0 : Ref sig .tc := ⟨.hbm, 57, rfl⟩
abbrev main_call1_v1 : Ref sig .tc := ⟨.hbm, 58, rfl⟩
abbrev main_call1_v2 : Ref sig .tc := ⟨.hbm, 59, rfl⟩
abbrev main_v32 : Ref sig .tc := ⟨.hbm, 60, rfl⟩
abbrev main_v33 : Ref sig .tc := ⟨.hbm, 61, rfl⟩
abbrev main_v34 : Ref sig .tc := ⟨.hbm, 62, rfl⟩
abbrev main_v35 : Ref sig .tc := ⟨.hbm, 63, rfl⟩
abbrev main_v36 : Ref sig .tc := ⟨.hbm, 64, rfl⟩
abbrev main_cst_6 : Ref sig .tc := ⟨.hbm, 65, rfl⟩
abbrev main_v37 : Ref sig .tc := ⟨.hbm, 66, rfl⟩
abbrev main_v38 : Ref sig .tc := ⟨.hbm, 67, rfl⟩
abbrev main_v39 : Ref sig .tc := ⟨.hbm, 68, rfl⟩
abbrev main_v40 : Ref sig .tc := ⟨.hbm, 69, rfl⟩
abbrev main_v41 : Ref sig .tc := ⟨.hbm, 70, rfl⟩
abbrev main_cst_7 : Ref sig .tc := ⟨.hbm, 71, rfl⟩
abbrev main_v42 : Ref sig .tc := ⟨.hbm, 72, rfl⟩
abbrev main_v43 : Ref sig .tc := ⟨.hbm, 73, rfl⟩
abbrev main_v44 : Ref sig .tc := ⟨.hbm, 74, rfl⟩
abbrev main_v45 : Ref sig .tc := ⟨.hbm, 75, rfl⟩
abbrev main_v46 : Ref sig .tc := ⟨.hbm, 76, rfl⟩
abbrev main_v47 : Ref sig .tc := ⟨.hbm, 77, rfl⟩
abbrev main_cst_8 : Ref sig .tc := ⟨.hbm, 78, rfl⟩
abbrev main_v48 : Ref sig .tc := ⟨.hbm, 79, rfl⟩
abbrev main_v49 : Ref sig .tc := ⟨.hbm, 80, rfl⟩
abbrev main_cst_9 : Ref sig .tc := ⟨.hbm, 81, rfl⟩
abbrev main_v50 : Ref sig .tc := ⟨.hbm, 82, rfl⟩
abbrev main_v51 : Ref sig .tc := ⟨.hbm, 83, rfl⟩
abbrev main_v52 : Ref sig .tc := ⟨.hbm, 84, rfl⟩
abbrev main_v53 : Ref sig .tc := ⟨.hbm, 85, rfl⟩
abbrev main_v54 : Ref sig .tc := ⟨.hbm, 86, rfl⟩
abbrev main_v55 : Ref sig .tc := ⟨.hbm, 87, rfl⟩
abbrev main_v56 : Ref sig .tc := ⟨.hbm, 88, rfl⟩
abbrev main_v57 : Ref sig .tc := ⟨.hbm, 89, rfl⟩
abbrev main_v58 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩

abbrev nD : Nat := 1
abbrev τ : Topo := Topo.v7x

variable {F : FTy → Type} [FloatOps F]
-- ==== Proof.Att.Softmax.lean ====
/- The softmax and its gradient over the extended reals, as functions of a row of scores: a row may be extended by
   entries `⊥` without changing either, and the two ways of writing the gradient agree. -/
module

public import Idealize.ShloMosaic.PureOps.Ideal.Laws

@[expose] public section

noncomputable section

namespace Cert.Att

open Idealize.ShloMosaic

variable {ι κ : Type} [Fintype ι] [Fintype κ]

/-- The largest entry of a row (`⊥` of an empty one). -/
def top (s : ι → EReal) : EReal := Finset.univ.sup s

/-- The exponential of an entry after the largest is subtracted. -/
def expo (s : ι → EReal) (j : ι) : EReal := Ideal.exp (s j - top s)

/-- The sum of a row's exponentials. -/
def mass (s : ι → EReal) : EReal := ∑ i, expo s i

/-- The softmax of a row. -/
def soft (s : ι → EReal) (j : ι) : EReal := expo s j * Ideal.div 1 (mass s)

/-- The gradient of the softmax of `s` against the cotangent `dp` of its result. -/
def dsoft (s dp : ι → EReal) (j : ι) : EReal := soft s j * (dp j - ∑ i, soft s i * dp i)

theorem expo_of_bot (s : ι → EReal) (j : ι) (h : s j = ⊥) : expo s j = 0 := by
  unfold expo; rw [h, EReal.bot_sub]; rfl

theorem soft_of_bot (s : ι → EReal) (j : ι) (h : s j = ⊥) : soft s j = 0 := by
  unfold soft; rw [expo_of_bot s j h, zero_mul]

theorem dsoft_of_bot (s dp : ι → EReal) (j : ι) (h : s j = ⊥) : dsoft s dp j = 0 := by
  unfold dsoft; rw [soft_of_bot s j h, zero_mul]

/-- A sum over a row equals the sum over a longer one into which it is laid, whose further entries vanish. -/
theorem sum_extend (g : ι → κ) (hg : Function.Injective g) (f : κ → EReal) (h : ∀ n, (∀ j, g j ≠ n) → f n = 0) :
    ∑ j, f (g j) = ∑ n, f n := by
  classical
  rw [← Finset.sum_image (s := Finset.univ) (g := g) (f := f) (fun a _ b _ hab => hg hab)]
  refine Finset.sum_subset (Finset.subset_univ _) fun n _ hn => h n fun j hj => hn ?_
  rw [← hj]; exact Finset.mem_image_of_mem _ (Finset.mem_univ j)

section Extend

variable (g : ι → κ) (hg : Function.Injective g) (s : κ → EReal) (h : ∀ n, (∀ j, g j ≠ n) → s n = ⊥)

include h in
theorem top_extend : top (fun j => s (g j)) = top s := by
  refine le_antisymm (Finset.sup_le fun j _ => Finset.le_sup (Finset.mem_univ (g j))) (Finset.sup_le fun n _ => ?_)
  by_cases hn : ∃ j, g j = n
  · obtain ⟨j, rfl⟩ := hn
    exact Finset.le_sup (f := fun j => s (g j)) (Finset.mem_univ j)
  · rw [h n (fun j hj => hn ⟨j, hj⟩)]; exact bot_le

include h in
theorem expo_extend (j : ι) : expo (fun j => s (g j)) j = expo s (g j) := by
  unfold expo; rw [top_extend g s h]

include hg h in
theorem mass_extend : mass (fun j => s (g j)) = mass s := by
  unfold mass
  rw [← sum_extend g hg (expo s) fun n hn => expo_of_bot s n (h n hn)]
  exact Finset.sum_congr rfl fun j _ => expo_extend g s h j

include hg h in
/-- Entries `⊥` beside a row leave its softmax what it was. -/
theorem soft_extend (j : ι) : soft (fun j => s (g j)) j = soft s (g j) := by
  unfold soft; rw [mass_extend g hg s h, expo_extend g s h]

include hg h in
/-- Entries `⊥` beside a row leave the gradient of its softmax what it was. -/
theorem dsoft_extend (dp : κ → EReal) (j : ι) :
    dsoft (fun j => s (g j)) (fun j => dp (g j)) j = dsoft s dp (g j) := by
  unfold dsoft
  rw [soft_extend g hg s h]
  congr 2
  rw [← sum_extend g hg (fun n => soft s n * dp n) fun n hn => by rw [soft_of_bot s n (h n hn), zero_mul]]
  exact Finset.sum_congr rfl fun j _ => by rw [soft_extend g hg s h]

end Extend

/-- A positive real factor goes through a sum. -/
theorem sum_scale (c : ℝ) (hc : 0 ≤ c) (f : ι → EReal) : (∑ i, f i) * (c : EReal) = ∑ i, f i * (c : EReal) := by
  classical
  induction (Finset.univ : Finset ι) using Finset.induction_on with
  | empty => simp
  | insert a t ha ih =>
    rw [Finset.sum_insert ha, Finset.sum_insert ha, ← ih]
    exact EReal.right_distrib_of_nonneg_of_ne_top (EReal.coe_nonneg.mpr hc) (EReal.coe_ne_top c) _ _

/-- A row none of whose entries is `⊤` and one of which is real has a positive real mass. -/
theorem mass_real (s : ι → EReal) (ht : ∀ j, s j ≠ ⊤) (hr : ∃ j, s j ≠ ⊥) :
    ∃ σ : ℝ, 0 < σ ∧ mass s = (σ : EReal) := by
  classical
  obtain ⟨j₀, hj₀⟩ := hr
  have htop : top s ≠ ⊤ := by
    intro hT
    obtain ⟨j, _, hj⟩ := Finset.exists_mem_eq_sup Finset.univ ⟨j₀, Finset.mem_univ _⟩ s
    exact ht j (by rw [← hj]; exact hT)
  have hbot : top s ≠ ⊥ := fun hB => hj₀ (le_bot_iff.mp (hB ▸ Finset.le_sup (f := s) (Finset.mem_univ j₀)))
  obtain ⟨m, hm⟩ : ∃ m : ℝ, top s = (m : EReal) := ⟨(top s).toReal, (EReal.coe_toReal htop hbot).symm⟩
  have he : ∀ j, ∃ r : ℝ, 0 ≤ r ∧ expo s j = (r : EReal) ∧ (s j ≠ ⊥ → 0 < r) := by
    intro j
    by_cases hb : s j = ⊥
    · exact ⟨0, le_refl _, by rw [expo_of_bot s j hb]; rfl, fun h => absurd hb h⟩
    · refine ⟨Real.exp ((s j).toReal - m), (Real.exp_pos _).le, ?_, fun _ => Real.exp_pos _⟩
      unfold expo
      rw [hm, ← EReal.coe_toReal (ht j) hb, ← EReal.coe_sub]
      simp only [EReal.toReal_coe]
      rfl
  choose r hr0 hre hrp using he
  refine ⟨∑ j, r j, ?_, ?_⟩
  · exact Finset.sum_pos' (fun j _ => hr0 j) ⟨j₀, Finset.mem_univ _, hrp j₀ hj₀⟩
  · unfold mass
    rw [Finset.sum_congr rfl fun j _ => hre j]
    exact (map_sum (⟨⟨((↑) : ℝ → EReal), EReal.coe_zero⟩, EReal.coe_add⟩ : ℝ →+ EReal) r Finset.univ).symm

theorem div_real (x : EReal) (σ : ℝ) (hσ : 0 < σ) : Ideal.div x (σ : EReal) = x * ((σ⁻¹ : ℝ) : EReal) := by
  unfold Ideal.div
  rw [if_neg (by exact_mod_cast hσ.ne'), EReal.coe_inv]

/-- Dividing an exponential by the mass is multiplying it by the mass's inverse, where the mass is a positive real. -/
theorem soft_eq_div (s : ι → EReal) (hm : ∃ σ : ℝ, 0 < σ ∧ mass s = (σ : EReal)) (j : ι) :
    Ideal.div (expo s j) (mass s) = soft s j := by
  obtain ⟨σ, hσ, h⟩ := hm
  unfold soft
  rw [h, div_real _ σ hσ, div_real _ σ hσ, one_mul]

/-- The gradient as the derivative of a quotient is written: `(dp / σ - Σ dp · σ⁻² · e) · e`. -/
theorem dsoft_eq_quotient (s dp : ι → EReal) (hm : ∃ σ : ℝ, 0 < σ ∧ mass s = (σ : EReal)) (j : ι) :
    (Ideal.div (dp j) (mass s) + -(∑ i, dp i * Ideal.div 1 (mass s * mass s) * expo s i)) * expo s j
      = dsoft s dp j := by
  obtain ⟨σ, hσ, h⟩ := hm
  have h2 : (σ : EReal) * (σ : EReal) = ((σ * σ : ℝ) : EReal) := (EReal.coe_mul _ _).symm
  have hs : ∀ i, soft s i = expo s i * ((σ⁻¹ : ℝ) : EReal) := fun i => by
    unfold soft; rw [h, div_real _ σ hσ, one_mul]
  have hsum : (∑ i, dp i * Ideal.div 1 (mass s * mass s) * expo s i)
      = (∑ i, soft s i * dp i) * ((σ⁻¹ : ℝ) : EReal) := by
    rw [sum_scale _ (inv_nonneg.mpr hσ.le)]
    refine Finset.sum_congr rfl fun i _ => ?_
    rw [h, h2, div_real _ _ (mul_pos hσ hσ), one_mul, hs, mul_inv, EReal.coe_mul]
    ac_rfl
  unfold dsoft
  rw [hsum, h, div_real _ σ hσ, ← EReal.neg_mul,
    ← EReal.right_distrib_of_nonneg_of_ne_top (EReal.coe_nonneg.mpr (inv_nonneg.mpr hσ.le)) (EReal.coe_ne_top _), hs,
    sub_eq_add_neg]
  ac_rfl

end Cert.Att

end
-- ==== Proof.Att.Block.lean ====
/- One block of the kernel's loop, as terms over the windows it loads: 128 query rows against the 640 key rows that begin
   at the same row, each of the eight heads in 128 lanes of its own; and what each term holds at an index, over the
   extended reals. -/
module

public import proofs.«01_k».proof.KernelIdeal
public import proofs.«01_k».proof.Proof.Att.Softmax
public import Idealize.ShloMosaic.Lib.Pipeline.Value
public import Idealize.ShloMosaic.Lib.ValueIdx
public import Idealize.ShloMosaic.Lib.Pointwise.Index
public import Idealize.ShloMosaic.PureOps.Ideal.Laws

@[expose] public section

set_option maxRecDepth 16384

noncomputable section

namespace Cert.Att

open Idealize.ShloMosaic Cert.KernelIdeal
open Idealize.ShloMosaic.Ideal (matmul_constant_zero_apply multiReduction_maximumf_single multiReduction_add_single)
open Idealize.ShloMosaic.ValueIdx (contrEquiv1 contrEquiv1_symm_val)
open Cert.KernelIdeal.Facts₀ Cert.KernelIdeal.Facts

/-- Column `d` of head `h` among the 512 columns of the queries, the keys or the values. -/
def col (h : Fin 8) (d : Fin 64) : Fin 512 := ⟨64 * h.val + d.val, by omega⟩

/-- Lane `r` of head `h` among a block's 1024 lanes. -/
def lane (h : Fin 8) (r : Fin 128) : Fin 1024 := ⟨128 * h.val + r.val, by omega⟩

section Terms

variable [Cert.KernelIdeal.Facts] {F : FTy → Type} [FloatOps F] [Named F] {φ : FTy}

theorem slicesK (h : Fin 8) : S640x512.Slices ![0, 64 * h.val] S640x64 :=
  ⟨rfl, fun a => by
    match a with
    | ⟨0, _⟩ => show 0 + 640 ≤ 640; omega
    | ⟨1, _⟩ => show 64 * h.val + 64 ≤ 512; omega⟩

theorem slicesQ (h : Fin 8) : S128x512.Slices ![0, 64 * h.val] S128x64 :=
  ⟨rfl, fun a => by
    match a with
    | ⟨0, _⟩ => show 0 + 128 ≤ 128; omega
    | ⟨1, _⟩ => show 64 * h.val + 64 ≤ 512; omega⟩

theorem slicesL (h : Fin 8) : S640x1024.Slices ![0, 128 * h.val] S640x128 :=
  ⟨rfl, fun a => by
    match a with
    | ⟨0, _⟩ => show 0 + 640 ≤ 640; omega
    | ⟨1, _⟩ => show 128 * h.val + 128 ≤ 1024; omega⟩

/-- Head `h`'s columns of 640 key rows. -/
def headK (x : FVec F S640x512 φ) (h : Fin 8) : FVec F S640x64 φ := extractStridedSlice S640x64 ![0, 64 * h.val] x (slicesK h)

/-- Head `h`'s columns of 128 query rows. -/
def headQ (x : FVec F S128x512 φ) (h : Fin 8) : FVec F S128x64 φ := extractStridedSlice S128x64 ![0, 64 * h.val] x (slicesQ h)

/-- Head `h`'s lanes of a block. -/
def lanes (x : FVec F S640x1024 φ) (h : Fin 8) : FVec F S640x128 φ := extractStridedSlice S640x128 ![0, 128 * h.val] x (slicesL h)

/-- Eight heads' lanes side by side. -/
def catL (f : Fin 8 → FVec F S640x128 .f32) : FVec F S640x1024 .f32 :=
  concatenate S640x1024 1 [⟨S640x128, f 0⟩, ⟨S640x128, f 1⟩, ⟨S640x128, f 2⟩, ⟨S640x128, f 3⟩, ⟨S640x128, f 4⟩, ⟨S640x128, f 5⟩, ⟨S640x128, f 6⟩, ⟨S640x128, f 7⟩]
    concatenates_S640x128_S640x128_S640x128_S640x128_S640x128_S640x128_S640x128_S640x128_S640x1024_d1

/-- Eight heads' columns of 640 rows side by side. -/
def catK (f : Fin 8 → FVec F S640x64 .f32) : FVec F S640x512 .f32 :=
  concatenate S640x512 1 [⟨S640x64, f 0⟩, ⟨S640x64, f 1⟩, ⟨S640x64, f 2⟩, ⟨S640x64, f 3⟩, ⟨S640x64, f 4⟩, ⟨S640x64, f 5⟩, ⟨S640x64, f 6⟩, ⟨S640x64, f 7⟩]
    concatenates_S640x64_S640x64_S640x64_S640x64_S640x64_S640x64_S640x64_S640x64_S640x512_d1

/-- Eight heads' columns of 128 rows side by side. -/
def catQ (f : Fin 8 → FVec F S128x64 .f32) : FVec F S128x512 .f32 :=
  concatenate S128x512 1 [⟨S128x64, f 0⟩, ⟨S128x64, f 1⟩, ⟨S128x64, f 2⟩, ⟨S128x64, f 3⟩, ⟨S128x64, f 4⟩, ⟨S128x64, f 5⟩, ⟨S128x64, f 6⟩, ⟨S128x64, f 7⟩]
    concatenates_S128x64_S128x64_S128x64_S128x64_S128x64_S128x64_S128x64_S128x64_S128x512_d1

/-- The queries scaled. -/
def scaled (q : FVec F S128x512 .bf16) : FVec F S128x512 .bf16 := mulf q (broadcast S128x512 (Scalar.ofBits .bf16 0x3E00#16))

/-- Keys times queries of one head. -/
def keyDot (k : FVec F S640x512 .bf16) (q : FVec F S128x512 .bf16) (h : Fin 8) : FVec F S640x128 .f32 :=
  matmul dot_S640x64_S128x64_S640x128_1_1_0_0_n_n none (headK k h) (headQ q h) (constant S640x128 .f32 0x00000000#32)

/-- The scores of a block: keys times scaled queries plus the head's biases. -/
def scores (q : FVec F S128x512 .bf16) (k : FVec F S640x512 .bf16) (b : Fin 8 → FVec F S1x640x128 .f32) : FVec F S640x1024 .f32 :=
  catL fun h => addf (keyDot k (scaled q) h) (shapeCast S640x128 (b h) shapeCasts_S1x640x128_S640x128)

/-- Scores with the rows that `v` does not select replaced by the mask. -/
def masked (v : IVec S640x1 1) (s : FVec F S640x1024 .f32) : FVec F S640x1024 .f32 :=
  select (broadcastTo S640x1024 (shapeCast S640x1 v shapeCasts_S640x1_S640x1) broadcasts_S640x1_S640x1024) s
    (broadcast S640x1024 (Named.named κ "mask" 0xF149F2CA#32 : F .f32))

/-- The rows of the block that begins at row `128 · i` which lie at row 512 or after it. -/
def validRows (i : BitVec 32) : IVec S640x1 1 :=
  cmpi .sge (addi (iota .tc S640x1 32 [0] iota_S640x1_d0_w32) (broadcast S640x1 (Scalar.subi (Scalar.muli i 128#32) 512#32)))
    (broadcast S640x1 0#32)

/-- Scores less their lane's largest. -/
def centred (s : FVec F S640x1024 .f32) : FVec F S640x1024 .f32 :=
  subf s (broadcastTo S640x1024 (shapeCast S1x1024 (multiReduction .maximumf [0] S1024 s 0xFF800000#32 reduces_S640x1024_S1024 (.inl rfl) rfl)
    shapeCasts_S1024_S1x1024) broadcasts_S1x1024_S640x1024)

/-- The probabilities, of the centred scores. -/
def probs (s : FVec F S640x1024 .f32) : FVec F S640x1024 .f32 :=
  mulf (exp s) (broadcastTo S640x1024 (divf (broadcast S1x1024 (Scalar.ofBits .f32 0x3F800000#32))
    (shapeCast S1x1024 (multiReduction .add [0] S1024 (exp s) 0x00000000#32 reduces_S640x1024_S1024 (.inl rfl) rfl)
    shapeCasts_S1024_S1x1024)) broadcasts_S1x1024_S640x1024)

/-- The cotangent of the probabilities: values times the cotangent of the output. -/
def probsCt (v : FVec F S640x512 .bf16) (dy : FVec F S128x512 .bf16) : FVec F S640x1024 .f32 := catL fun h => keyDot v dy h

/-- The cotangent of the scores. -/
def scoresCt (p dp : FVec F S640x1024 .f32) : FVec F S640x1024 .f32 :=
  mulf p (subf dp (broadcastTo S640x1024 (shapeCast S1x1024 (multiReduction .add [0] S1024 (mulf p dp) 0x00000000#32 reduces_S640x1024_S1024 (.inl rfl) rfl)
    shapeCasts_S1024_S1x1024) broadcasts_S1x1024_S640x1024))

/-- The gradient of the queries of a block. -/
def dqBlock (ds : FVec F S640x1024 .f32) (k : FVec F S640x512 .bf16) : FVec F S128x512 .bf16 :=
  truncf .bf16 (mulf (catQ fun h => matmul dot_S640x128_S640x64_S128x64_0_0_1_1_n_n none (lanes (truncf .bf16 ds bitsLt_bf16_f32) h) (headK k h)
    (constant S128x64 .f32 0x00000000#32)) (broadcast S128x512 (Scalar.ofBits .f32 0x3E000000#32))) bitsLt_bf16_f32

/-- What a block adds to the gradient of the keys (`w` the scores' cotangent, `x` the scaled queries) or of the values
    (`w` the probabilities, `x` the output's cotangent), added to what it finds. -/
def addBlock (w : FVec F S640x1024 .f32) (x : FVec F S128x512 .bf16) (acc : FVec F S640x512 .f32) : FVec F S640x512 .f32 :=
  addf (shapeCast S640x512 acc shapeCasts_S640x512_S640x512)
    (catK fun h => matmul dot_S640x128_S128x64_S640x64_1_0_0_1_n_n none (lanes (truncf .bf16 w bitsLt_bf16_f32) h) (headQ x h) (constant S640x64 .f32 0x00000000#32))

/-- What a block adds to head `h`'s bias gradient, added to what it finds. -/
def addBias (ds : FVec F S640x1024 .f32) (h : Fin 8) (acc : FVec F S1x640x128 .f32) : FVec F S1x640x128 .f32 :=
  shapeCast S1x640x128 (addf (shapeCast S640x128 acc shapeCasts_S1x640x128_S640x128) (lanes ds h)) shapeCasts_S640x128_S1x640x128

end Terms

section Read

variable [Cert.KernelIdeal.Facts] {φ : FTy}

theorem headK_apply (x : FVec Ideal S640x512 φ) (h : Fin 8) (j : Fin 640) (d : Fin 64) :
    headK x h (ix2 j d) = x (ix2 j (col h d)) :=
  extractStridedSlice_apply _ _ _ _ _ fun a => by
    match a with
    | ⟨0, _⟩ => show j.val = 0 + j.val; omega
    | ⟨1, _⟩ => rfl

theorem headQ_apply (x : FVec Ideal S128x512 φ) (h : Fin 8) (r : Fin 128) (d : Fin 64) :
    headQ x h (ix2 r d) = x (ix2 r (col h d)) :=
  extractStridedSlice_apply _ _ _ _ _ fun a => by
    match a with
    | ⟨0, _⟩ => show r.val = 0 + r.val; omega
    | ⟨1, _⟩ => rfl

theorem lanes_apply (x : FVec Ideal S640x1024 φ) (h : Fin 8) (j : Fin 640) (r : Fin 128) :
    lanes x h (ix2 j r) = x (ix2 j (lane h r)) :=
  extractStridedSlice_apply _ _ _ _ _ fun a => by
    match a with
    | ⟨0, _⟩ => show j.val = 0 + j.val; omega
    | ⟨1, _⟩ => rfl

theorem catL_apply (f : Fin 8 → FVec Ideal S640x128 .f32) (j : Fin 640) (h : Fin 8) (r : Fin 128) :
    catL f (ix2 j (lane h r)) = f h (ix2 j r) := by
  unfold catL
  refine concatenate_ofFn_apply (t := S640x1024) (s₁ := S640x128) (N := 8) 1 f _ rfl 128 rfl _ h ?_ (ix2 j r) ?_ fun b hb => ?_
  · show (128 * h.val + r.val) / 128 = h.val; omega
  · show r.val = (128 * h.val + r.val) % 128; omega
  · match b with
    | ⟨0, _⟩ => rfl
    | ⟨1, _⟩ => exact absurd rfl hb

theorem catK_apply (f : Fin 8 → FVec Ideal S640x64 .f32) (j : Fin 640) (h : Fin 8) (d : Fin 64) :
    catK f (ix2 j (col h d)) = f h (ix2 j d) := by
  unfold catK
  refine concatenate_ofFn_apply (t := S640x512) (s₁ := S640x64) (N := 8) 1 f _ rfl 64 rfl _ h ?_ (ix2 j d) ?_ fun b hb => ?_
  · show (64 * h.val + d.val) / 64 = h.val; omega
  · show d.val = (64 * h.val + d.val) % 64; omega
  · match b with
    | ⟨0, _⟩ => rfl
    | ⟨1, _⟩ => exact absurd rfl hb

theorem catQ_apply (f : Fin 8 → FVec Ideal S128x64 .f32) (r : Fin 128) (h : Fin 8) (d : Fin 64) :
    catQ f (ix2 r (col h d)) = f h (ix2 r d) := by
  unfold catQ
  refine concatenate_ofFn_apply (t := S128x512) (s₁ := S128x64) (N := 8) 1 f _ rfl 64 rfl _ h ?_ (ix2 r d) ?_ fun b hb => ?_
  · show (64 * h.val + d.val) / 64 = h.val; omega
  · show d.val = (64 * h.val + d.val) % 64; omega
  · match b with
    | ⟨0, _⟩ => rfl
    | ⟨1, _⟩ => exact absurd rfl hb

/-- A block's product of keys and queries at a key and a query row. -/
theorem keyDot_apply (k : FVec Ideal S640x512 .bf16) (q : FVec Ideal S128x512 .bf16) (h : Fin 8) (j : Fin 640) (r : Fin 128) :
    keyDot k q h (ix2 j r) = ∑ d : Fin 64, k (ix2 j (col h d)) * q (ix2 r (col h d)) := by
  unfold keyDot
  simp only [matmul]
  rw [matmul_constant_zero_apply, ← Equiv.sum_comp (contrEquiv1 dot_S640x64_S128x64_S640x128_1_1_0_0_n_n 64 rfl rfl).symm]
  refine Finset.sum_congr rfl fun d _ => ?_
  have hd := contrEquiv1_symm_val dot_S640x64_S128x64_S640x128_1_1_0_0_n_n 64 rfl rfl d
  have e1 : DotDims.lhsIdx dot_S640x64_S128x64_S640x128_1_1_0_0_n_n (ix2 j r) ((contrEquiv1 dot_S640x64_S128x64_S640x128_1_1_0_0_n_n 64 rfl rfl).symm d) = ix2 j d := by
    funext a; refine Fin.ext ?_
    match a with
    | ⟨0, _⟩ => rfl
    | ⟨1, _⟩ => exact hd
  have e2 : DotDims.rhsIdx dot_S640x64_S128x64_S640x128_1_1_0_0_n_n (ix2 j r) ((contrEquiv1 dot_S640x64_S128x64_S640x128_1_1_0_0_n_n 64 rfl rfl).symm d) = ix2 r d := by
    funext a; refine Fin.ext ?_
    match a with
    | ⟨0, _⟩ => rfl
    | ⟨1, _⟩ => exact hd
  rw [e1, e2, headK_apply, headQ_apply]

/-- The scores of a block, at the lanes of a head. -/
theorem scores_apply (q : FVec Ideal S128x512 .bf16) (k : FVec Ideal S640x512 .bf16) (b : Fin 8 → FVec Ideal S1x640x128 .f32)
    (j : Fin 640) (h : Fin 8) (r : Fin 128) :
    scores q k b (ix2 j (lane h r)) = (∑ d : Fin 64, k (ix2 j (col h d)) * scaled q (ix2 r (col h d))) + b h (ix3 0 j r) := by
  unfold scores
  rw [catL_apply]
  show keyDot k (scaled q) h (ix2 j r) + shapeCast S640x128 (b h) shapeCasts_S1x640x128_S640x128 (ix2 j r) = _
  rw [keyDot_apply]
  congr 1
  exact shapeCast_apply _ _ _ _ (by
    rw [Shape.rowMajor_val_two, Shape.rowMajor_val_three]; show (0 * 640 + j.val) * 128 + r.val = j.val * 128 + r.val; omega)

/-- A masked score is the score where the row is selected, and minus infinity elsewhere. -/
theorem masked_apply (v : IVec S640x1 1) (s : FVec Ideal S640x1024 .f32) (j : Fin 640) (c : Fin 1024) :
    masked v s (ix2 j c) = if v (ix2 j 0) = 1#1 then s (ix2 j c) else ⊥ := by
  unfold masked
  show Scalar.select (broadcastTo S640x1024 (shapeCast S640x1 v shapeCasts_S640x1_S640x1) broadcasts_S640x1_S640x1024 (ix2 j c)) (s (ix2 j c))
    (Named.named (F := Ideal) κ "mask" 0xF149F2CA#32 : Ideal .f32) = _
  rw [shapeCast_self, broadcastTo_apply _ _ _ (ix2 j 0) (fun a => by
    match a with
    | ⟨0, _⟩ => rfl
    | ⟨1, _⟩ => rfl), IdealRules.named_const.ideal_named_scalar κ "mask" _ ⊥ rfl]
  rfl

theorem lift_apply (c : Fin 1024) (j : Fin 640) :
    Shape.Reduces.lift reduces_S640x1024_S1024 (ix1 c) j = ix2 j c := by
  funext a; refine Fin.ext ?_
  match a with
  | ⟨0, _⟩ => rfl
  | ⟨1, _⟩ => rfl

/-- A row over the lanes, read at any row of the block. -/
theorem row_apply (x : FVec Ideal S1x1024 .f32) (j : Fin 640) (c : Fin 1024) :
    broadcastTo S640x1024 x broadcasts_S1x1024_S640x1024 (ix2 j c) = x (ix2 0 c) :=
  broadcastTo_apply _ _ _ (ix2 0 c) fun a => by
    match a with
    | ⟨0, _⟩ => rfl
    | ⟨1, _⟩ => rfl

theorem unit_apply (x : FVec Ideal S1024 .f32) (c : Fin 1024) :
    shapeCast S1x1024 x shapeCasts_S1024_S1x1024 (ix2 0 c) = x (ix1 c) :=
  shapeCast_apply _ _ _ _ (by rw [Shape.rowMajor_val_one, Shape.rowMajor_val_two]; show c.val = 0 * 1024 + c.val; omega)

theorem ofBits_negInf : Ideal.ofBits .f32 0xFF800000#32 = ⊥ := by simp [Ideal.ofBits, Ideal.ieee]

theorem ofBits_one : Ideal.ofBits .f32 0x3F800000#32 = 1 := by
  simp [Ideal.ofBits, Ideal.ieee, -EReal.coe_mul]; norm_num

theorem centred_apply (s : FVec Ideal S640x1024 .f32) (j : Fin 640) (c : Fin 1024) :
    centred s (ix2 j c) = s (ix2 j c) - top fun i : Fin 640 => s (ix2 i c) := by
  unfold centred
  show s (ix2 j c) - broadcastTo S640x1024 _ broadcasts_S1x1024_S640x1024 (ix2 j c) = _
  rw [row_apply, unit_apply]
  refine congrArg (s (ix2 j c) - ·) ((multiReduction_maximumf_single _ _ reduces_S640x1024_S1024 _ _ _).trans ?_)
  show Finset.univ.fold max (Ideal.ofBits .f32 0xFF800000#32) _ = _
  rw [ofBits_negInf]
  exact congrArg (fun f => Finset.univ.fold max ⊥ f) (funext fun i => congrArg s (lift_apply c i))

theorem mass_apply (s : FVec Ideal S640x1024 .f32) (c : Fin 1024) :
    multiReduction .add [0] S1024 s 0x00000000#32 reduces_S640x1024_S1024 (.inl rfl) rfl (ix1 c) = ∑ i : Fin 640, s (ix2 i c) := by
  refine (multiReduction_add_single _ _ reduces_S640x1024_S1024 _ _ _).trans ?_
  exact Finset.sum_congr rfl fun i _ => congrArg s (lift_apply c i)

/-- A block's probabilities are the softmax of its scores down each lane. -/
theorem probs_apply (s : FVec Ideal S640x1024 .f32) (j : Fin 640) (c : Fin 1024) :
    probs (centred s) (ix2 j c) = soft (fun i : Fin 640 => s (ix2 i c)) j := by
  unfold probs
  show Ideal.exp (centred s (ix2 j c)) * broadcastTo S640x1024 _ broadcasts_S1x1024_S640x1024 (ix2 j c) = _
  rw [row_apply]
  show _ * Ideal.div (Ideal.ofBits .f32 0x3F800000#32) (shapeCast S1x1024 _ shapeCasts_S1024_S1x1024 (ix2 0 c)) = _
  rw [unit_apply, ofBits_one, centred_apply]
  refine congrArg (fun z => Ideal.exp (s (ix2 j c) - top fun i : Fin 640 => s (ix2 i c)) * Ideal.div 1 z) ((mass_apply _ c).trans ?_)
  refine Finset.sum_congr rfl fun i _ => ?_
  show Ideal.exp (centred s (ix2 i c)) = _
  rw [centred_apply]; rfl

/-- The cotangent of a block's scores is the softmax's gradient down each lane. -/
theorem scoresCt_apply (s dp : FVec Ideal S640x1024 .f32) (j : Fin 640) (c : Fin 1024) :
    scoresCt (probs (centred s)) dp (ix2 j c) = dsoft (fun i : Fin 640 => s (ix2 i c)) (fun i => dp (ix2 i c)) j := by
  unfold scoresCt
  show probs (centred s) (ix2 j c) * (dp (ix2 j c) - broadcastTo S640x1024 _ broadcasts_S1x1024_S640x1024 (ix2 j c)) = _
  rw [row_apply, unit_apply, probs_apply]
  refine congrArg (fun z => soft (fun i : Fin 640 => s (ix2 i c)) j * (dp (ix2 j c) - z)) ((mass_apply _ c).trans ?_)
  refine Finset.sum_congr rfl fun i _ => ?_
  show probs (centred s) (ix2 i c) * dp (ix2 i c) = _
  rw [probs_apply]

/-- The gradient of a block's queries. -/
theorem dqBlock_apply (ds : FVec Ideal S640x1024 .f32) (k : FVec Ideal S640x512 .bf16) (r : Fin 128) (h : Fin 8) (d : Fin 64) :
    dqBlock ds k (ix2 r (col h d)) = (∑ j : Fin 640, ds (ix2 j (lane h r)) * k (ix2 j (col h d))) * Ideal.ofBits .f32 0x3E000000#32 := by
  unfold dqBlock
  show catQ _ (ix2 r (col h d)) * Ideal.ofBits .f32 0x3E000000#32 = _
  rw [catQ_apply]
  simp only [matmul]
  rw [matmul_constant_zero_apply, ← Equiv.sum_comp (contrEquiv1 dot_S640x128_S640x64_S128x64_0_0_1_1_n_n 640 rfl rfl).symm]
  congr 1
  refine Finset.sum_congr rfl fun j _ => ?_
  have hd := contrEquiv1_symm_val dot_S640x128_S640x64_S128x64_0_0_1_1_n_n 640 rfl rfl j
  have e1 : DotDims.lhsIdx dot_S640x128_S640x64_S128x64_0_0_1_1_n_n (ix2 r d) ((contrEquiv1 dot_S640x128_S640x64_S128x64_0_0_1_1_n_n 640 rfl rfl).symm j) = ix2 j r := by
    funext a; refine Fin.ext ?_
    match a with
    | ⟨0, _⟩ => exact hd
    | ⟨1, _⟩ => rfl
  have e2 : DotDims.rhsIdx dot_S640x128_S640x64_S128x64_0_0_1_1_n_n (ix2 r d) ((contrEquiv1 dot_S640x128_S640x64_S128x64_0_0_1_1_n_n 640 rfl rfl).symm j) = ix2 j d := by
    funext a; refine Fin.ext ?_
    match a with
    | ⟨0, _⟩ => exact hd
    | ⟨1, _⟩ => rfl
  rw [e1, e2, headK_apply, lanes_apply]
  rfl

/-- A block's share of the keys' or the values' gradient, added to what was there. -/
theorem addBlock_apply (w : FVec Ideal S640x1024 .f32) (x : FVec Ideal S128x512 .bf16) (acc : FVec Ideal S640x512 .f32) (j : Fin 640) (h : Fin 8) (d : Fin 64) :
    addBlock w x acc (ix2 j (col h d)) = acc (ix2 j (col h d)) + ∑ r : Fin 128, w (ix2 j (lane h r)) * x (ix2 r (col h d)) := by
  unfold addBlock
  show shapeCast S640x512 acc shapeCasts_S640x512_S640x512 (ix2 j (col h d)) + catK _ (ix2 j (col h d)) = _
  rw [catK_apply, shapeCast_self]
  simp only [matmul]
  rw [matmul_constant_zero_apply, ← Equiv.sum_comp (contrEquiv1 dot_S640x128_S128x64_S640x64_1_0_0_1_n_n 128 rfl rfl).symm]
  congr 1
  refine Finset.sum_congr rfl fun r _ => ?_
  have hd := contrEquiv1_symm_val dot_S640x128_S128x64_S640x64_1_0_0_1_n_n 128 rfl rfl r
  have e1 : DotDims.lhsIdx dot_S640x128_S128x64_S640x64_1_0_0_1_n_n (ix2 j d) ((contrEquiv1 dot_S640x128_S128x64_S640x64_1_0_0_1_n_n 128 rfl rfl).symm r) = ix2 j r := by
    funext a; refine Fin.ext ?_
    match a with
    | ⟨0, _⟩ => rfl
    | ⟨1, _⟩ => exact hd
  have e2 : DotDims.rhsIdx dot_S640x128_S128x64_S640x64_1_0_0_1_n_n (ix2 j d) ((contrEquiv1 dot_S640x128_S128x64_S640x64_1_0_0_1_n_n 128 rfl rfl).symm r) = ix2 r d := by
    funext a; refine Fin.ext ?_
    match a with
    | ⟨0, _⟩ => exact hd
    | ⟨1, _⟩ => rfl
  rw [e1, e2, headQ_apply, lanes_apply]
  rfl

/-- A block's share of a head's bias gradient, added to what was there. -/
theorem addBias_apply (ds : FVec Ideal S640x1024 .f32) (h : Fin 8) (acc : FVec Ideal S1x640x128 .f32) (j : Fin 640) (r : Fin 128) :
    addBias ds h acc (ix3 0 j r) = acc (ix3 0 j r) + ds (ix2 j (lane h r)) := by
  unfold addBias
  rw [shapeCast_apply _ _ (ix3 0 j r) (ix2 j r) (by
    rw [Shape.rowMajor_val_two, Shape.rowMajor_val_three]; show j.val * 128 + r.val = (0 * 640 + j.val) * 128 + r.val; omega)]
  show shapeCast S640x128 acc shapeCasts_S1x640x128_S640x128 (ix2 j r) + lanes ds h (ix2 j r) = _
  rw [lanes_apply, shapeCast_apply _ _ (ix2 j r) (ix3 0 j r) (by
    rw [Shape.rowMajor_val_two, Shape.rowMajor_val_three]; show (0 * 640 + j.val) * 128 + r.val = j.val * 128 + r.val; omega)]

end Read

end Cert.Att

end
-- ==== Proof.Att.Blocks.lean ====
/- The kernel's loop over its 32 blocks, on whole arrays: what block `i` adds to the gradients, and the arrays after the
   first `n` blocks. -/
module

public import proofs.«01_k».proof.Proof.Att.Block
public import Idealize.ShloMosaic.Lib.VecWindow

@[expose] public section

set_option maxRecDepth 16384

noncomputable section

namespace Cert.Att

open Idealize.ShloMosaic Cert.KernelIdeal

variable {F : FTy → Type} [FloatOps F] [Named F] [Cert.KernelIdeal.Facts]

theorem inbQ (i : Fin 32) : ∀ a, (![128 * i.val, 0] : Fin 2 → ℕ) a + S128x512.size a ≤ S4096x512.size a := fun a => by
  match a with
  | ⟨0, _⟩ => show 128 * i.val + 128 ≤ 4096; omega
  | ⟨1, _⟩ => exact Nat.le_refl _

theorem inbK (i : Fin 32) : ∀ a, (![128 * i.val, 0] : Fin 2 → ℕ) a + S640x512.size a ≤ S4608x512.size a := fun a => by
  match a with
  | ⟨0, _⟩ => show 128 * i.val + 640 ≤ 4608; omega
  | ⟨1, _⟩ => exact Nat.le_refl _

theorem inbB (h : Fin 8) : ∀ a, (![h.val, 0, 0] : Fin 3 → ℕ) a + S1x640x128.size a ≤ S8x640x128.size a := fun a => by
  match a with
  | ⟨0, _⟩ => show h.val + 1 ≤ 8; omega
  | ⟨1, _⟩ => exact Nat.le_refl _
  | ⟨2, _⟩ => exact Nat.le_refl _

/-- Block `i`'s 128 query rows. -/
def rowsQ {φ : FTy} (x : FVec F S4096x512 φ) (i : Fin 32) : FVec F S128x512 φ := VecWindow.window x ![128 * i.val, 0] S128x512.size (inbQ i)

/-- Block `i`'s 640 key rows, of an array with 512 rows ahead of the first key. -/
def rowsK {φ : FTy} (x : FVec F S4608x512 φ) (i : Fin 32) : FVec F S640x512 φ := VecWindow.window x ![128 * i.val, 0] S640x512.size (inbK i)

/-- Head `h`'s slab. -/
def slab {φ : FTy} (x : FVec F S8x640x128 φ) (h : Fin 8) : FVec F S1x640x128 φ := VecWindow.window x ![h.val, 0, 0] S1x640x128.size (inbB h)

/-- What the loop reads: queries, the output's cotangent, the padded keys and values, the slabs of biases. -/
structure Ins (F : FTy → Type) where
  q : FVec F S4096x512 .bf16
  dy : FVec F S4096x512 .bf16
  k : FVec F S4608x512 .bf16
  v : FVec F S4608x512 .bf16
  b : FVec F S8x640x128 .f32

namespace Ins

variable (x : Ins F)

/-- Block `i`'s scores; in the first four the rows ahead of the first key are masked. -/
def s (i : Fin 32) : FVec F S640x1024 .f32 :=
  if i.val < 4 then masked (validRows (BitVec.ofNat 32 i.val)) (scores (rowsQ x.q i) (rowsK x.k i) (slab x.b))
  else scores (rowsQ x.q i) (rowsK x.k i) (slab x.b)

/-- Block `i`'s probabilities. -/
def p (i : Fin 32) : FVec F S640x1024 .f32 := probs (centred (x.s i))

/-- The cotangent of block `i`'s scores. -/
def ds (i : Fin 32) : FVec F S640x1024 .f32 := scoresCt (x.p i) (probsCt (rowsK x.v i) (rowsQ x.dy i))

/-- The queries' gradient of block `i`. -/
def dqOf (i : Fin 32) : FVec F S128x512 .bf16 := dqBlock (x.ds i) (rowsK x.k i)

/-- Block `i` puts its rows of the queries' gradient. -/
def dqStep (i : Fin 32) (a : FVec F S4096x512 .bf16) : FVec F S4096x512 .bf16 := VecWindow.put a ![128 * i.val, 0] S128x512.size (x.dqOf i)

/-- Block `i` adds to the keys' gradient. -/
def dkStep (i : Fin 32) (a : FVec F S4608x512 .f32) : FVec F S4608x512 .f32 :=
  VecWindow.put a ![128 * i.val, 0] S640x512.size (addBlock (x.ds i) (scaled (rowsQ x.q i)) (rowsK a i))

/-- Block `i` adds to the values' gradient. -/
def dvStep (i : Fin 32) (a : FVec F S4608x512 .f32) : FVec F S4608x512 .f32 :=
  VecWindow.put a ![128 * i.val, 0] S640x512.size (addBlock (x.p i) (rowsQ x.dy i) (rowsK a i))

/-- Block `i` adds to the biases' gradient. -/
def dbStep (i : Fin 32) (a : FVec F S8x640x128 .f32) : FVec F S8x640x128 .f32 :=
  fun y => addBias (x.ds i) (y 0) (slab a (y 0)) (ix3 0 (y 1) (y 2))

/-- The keys' gradient after the first `n` blocks. -/
def dkUpTo : ℕ → FVec F S4608x512 .f32
  | 0 => constant S4608x512 .f32 0x00000000#32
  | n + 1 => if h : n < 32 then x.dkStep ⟨n, h⟩ (dkUpTo n) else dkUpTo n

/-- The values' gradient after the first `n` blocks. -/
def dvUpTo : ℕ → FVec F S4608x512 .f32
  | 0 => constant S4608x512 .f32 0x00000000#32
  | n + 1 => if h : n < 32 then x.dvStep ⟨n, h⟩ (dvUpTo n) else dvUpTo n

/-- The biases' gradient after the first `n` blocks. -/
def dbUpTo : ℕ → FVec F S8x640x128 .f32
  | 0 => constant S8x640x128 .f32 0x00000000#32
  | n + 1 => if h : n < 32 then x.dbStep ⟨n, h⟩ (dbUpTo n) else dbUpTo n

theorem dkUpTo_succ (i : Fin 32) : x.dkUpTo (i.val + 1) = x.dkStep i (x.dkUpTo i.val) := dif_pos i.isLt
theorem dvUpTo_succ (i : Fin 32) : x.dvUpTo (i.val + 1) = x.dvStep i (x.dvUpTo i.val) := dif_pos i.isLt
theorem dbUpTo_succ (i : Fin 32) : x.dbUpTo (i.val + 1) = x.dbStep i (x.dbUpTo i.val) := dif_pos i.isLt

/-- Block of a query row, and the row within it. -/
def blockOf (r : Fin 4096) : Fin 32 := ⟨r.val / 128, by omega⟩
def within (r : Fin 4096) : Fin 128 := ⟨r.val % 128, by omega⟩

/-- The queries' gradient. -/
def dq : FVec F S4096x512 .bf16 := fun y => x.dqOf (blockOf (y 0)) (ix2 (within (y 0)) (y 1))

end Ins

end Cert.Att

end
-- ==== Proof.Att.Pieces.lean ====
/- The lists of pieces a trip of each of the kernel's two loops writes, in the words of one block (Block.lean, Blocks.lean). -/
module

public import proofs.«01_k».proof.Proof.Gen.KernelIdeal.Loops
public import proofs.«01_k».proof.Proof.Att.Blocks

@[expose] public section

set_option maxRecDepth 16384
set_option maxHeartbeats 4000000

noncomputable section

namespace Cert.Att

open Idealize.ShloMosaic Cert.KernelIdeal Cert.KernelIdeal.Gen

variable {F : FTy → Type} [FloatOps F] [Named F]
variable (𝒱 : Variants) (c : Dev nD) (bd : Option 𝒱.V)
  (arg0 : Memref sig .tc .hbm S4096x1536 .bf16) (harg0 : arg0.IsWhole)
  (arg1 : Memref sig .tc .vmem S4096x512 .bf16) (harg1 : arg1.IsWhole)
  (arg2 : Memref sig .tc .vmem S8x640x128 .f32) (harg2 : arg2.IsWhole)
  (arg3 : Memref sig .tc .vmem S4096x512 .bf16) (harg3 : arg3.IsWhole)
  (arg4 : Memref sig .tc .vmem S4608x512 .f32) (harg4 : arg4.IsWhole)
  (arg5 : Memref sig .tc .vmem S4608x512 .f32) (harg5 : arg5.IsWhole)
  (arg6 : Memref sig .tc .vmem S8x640x128 .f32) (harg6 : arg6.IsWhole)
  (arg7 : Memref sig .tc .vmem S4096x512 .bf16) (harg7 : arg7.IsWhole)
  (arg8 : Memref sig .tc .vmem S4608x512 .bf16) (harg8 : arg8.IsWhole)
  (arg9 : Memref sig .tc .vmem S4608x512 .bf16) (harg9 : arg9.IsWhole)
  (arg10 : DmaSems sig S3)
  (X1 : BufTy.Contents (Elt F) arg1.view.ty)  (X2 : BufTy.Contents (Elt F) arg2.view.ty)  (X7 : BufTy.Contents (Elt F) arg7.view.ty)  (X8 : BufTy.Contents (Elt F) arg8.view.ty)  (X9 : BufTy.Contents (Elt F) arg9.view.ty)
  (f3 : BufTy.Contents (Elt F) arg3.view.ty)  (f4 : BufTy.Contents (Elt F) arg4.view.ty)  (f5 : BufTy.Contents (Elt F) arg5.view.ty)  (f6 : BufTy.Contents (Elt F) arg6.view.ty)

/-- Head `h`'s slab of a head-by-head array. -/
abbrev slabRect (h : Fin 8) : Rect S8x640x128 := Rect.unit (s := S8x640x128) ![h.val, 0, 0] S1x640x128.size (inbB h)

/-- The biases a trip loads. -/
def bias (h : Fin 8) : FVec F S1x640x128 .f32 := View.readAt (Elt F) arg2.view (slabRect h).toLoadRect X2

/-! ### The trips of the first loop: the key rows below 512 are masked -/

/-- The block a trip works on. -/
def blk1 (k : Fin k0_t1_loop.trips) : Fin 32 := ⟨k.val, Nat.lt_of_lt_of_le k.isLt (k0_t1_abs.2.1.trans (by decide))⟩

/-- The queries a trip loads. -/
abbrev q1 (k : Fin k0_t1_loop.trips) : FVec F S128x512 .bf16 := View.readAt (Elt F) arg7.view (Rect.unit (s := S4096x512) (k0_off1 k) S128x512.size (k0_off1_inb k)).toLoadRect X7
/-- The keys a trip loads. -/
abbrev k1 (k : Fin k0_t1_loop.trips) : FVec F S640x512 .bf16 := View.readAt (Elt F) arg8.view (Rect.unit (s := S4608x512) (k0_off2 k) S640x512.size (k0_off2_inb k)).toLoadRect X8
/-- The values a trip loads. -/
abbrev v1 (k : Fin k0_t1_loop.trips) : FVec F S640x512 .bf16 := View.readAt (Elt F) arg9.view (Rect.unit (s := S4608x512) (k0_off2 k) S640x512.size (k0_off2_inb k)).toLoadRect X9
/-- The cotangent rows a trip loads. -/
abbrev y1 (k : Fin k0_t1_loop.trips) : FVec F S128x512 .bf16 := View.readAt (Elt F) arg1.view (Rect.unit (s := S4096x512) (k0_off1 k) S128x512.size (k0_off1_inb k)).toLoadRect X1
/-- A trip's probabilities. -/
def p1 (k : Fin k0_t1_loop.trips) : FVec F S640x1024 .f32 :=
  probs (centred (masked (validRows (Scf.iv 0#32 1#32 k)) (scores (q1 arg7 X7 k) (k1 arg8 X8 k) (bias arg2 X2))))
/-- The cotangent of a trip's scores. -/
def ds1 (k : Fin k0_t1_loop.trips) : FVec F S640x1024 .f32 :=
  scoresCt (p1 arg2 arg7 arg8 X2 X7 X8 k) (probsCt (v1 arg9 X9 k) (y1 arg1 X1 k))

theorem pieces1_q (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).1 f3 f4 f5 f6
      = [⟨Rect.unit (s := S4096x512) (k0_off1 k) S128x512.size (k0_off1_inb k), dqBlock (ds1 arg1 arg2 arg7 arg8 arg9 X1 X2 X7 X8 X9 k) (k1 arg8 X8 k)⟩] := by
  unfold trip_k0_t1; dsimp only; rfl

theorem pieces1_k (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).2.1 f3 f4 f5 f6
      = [⟨Rect.unit (s := S4608x512) (k0_off2 k) S640x512.size (k0_off2_inb k), addBlock (ds1 arg1 arg2 arg7 arg8 arg9 X1 X2 X7 X8 X9 k) (scaled (q1 arg7 X7 k))
          (View.readAt (Elt F) arg4.view (Rect.unit (s := S4608x512) (k0_off2 k) S640x512.size (k0_off2_inb k)).toLoadRect f4)⟩] := by
  unfold trip_k0_t1; dsimp only; rfl

theorem pieces1_v (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).2.2.1 f3 f4 f5 f6
      = [⟨Rect.unit (s := S4608x512) (k0_off2 k) S640x512.size (k0_off2_inb k), addBlock (p1 arg2 arg7 arg8 X2 X7 X8 k) (y1 arg1 X1 k)
          (View.readAt (Elt F) arg5.view (Rect.unit (s := S4608x512) (k0_off2 k) S640x512.size (k0_off2_inb k)).toLoadRect f5)⟩] := by
  unfold trip_k0_t1; dsimp only; rfl

theorem pieces1_b (k : Fin k0_t1_loop.trips) :
    (trip_k0_t1 𝒱 c bd arg0 harg0 arg1 harg1 arg2 harg2 arg3 harg3 arg4 harg4 arg5 harg5 arg6 harg6 arg7 harg7 arg8 harg8 arg9 harg9 arg10 X1 X2 X7 X8 X9 k).2.2.2.1 f3 f4 f5 f6
      = List.ofFn fun h : Fin 8 => ⟨slabRect h.rev, addBias (ds1 arg1 arg2 arg7 arg8 arg9 X1 X2 X7 X8 X9 k) h.rev (View.readAt (Elt F) arg6.view (slabRect h.rev).toLoadRect f6)⟩ := by
  unfold trip_k0_t1; dsimp only; rfl

/-! ### The trips of the second loop: no row is masked -/

/-- The block a trip works on. -/
def blk2 (k : Fin k0_t2_loop.trips) : Fin 32 := ⟨k.val + 4, by have := Nat.lt_of_lt_of_le k.isLt k0_t2_abs.2.1; omega⟩

theorem off3_eq (k : Fin k0_t2_loop.trips) : k0_off3 k = ![128 * (blk2 k).val, 0] := (k0_off3_eq k).trans (by show ![128 * k.val + 512, 0] = ![128 * (k.val + 4), 0]; rw [Nat.mul_add])
theorem off4_eq (k : Fin k0_t2_loop.trips) : k0_off4 k = ![128 * (blk2 k).val, 0] := (k0_off4_eq k).trans (by show ![128 * k.val + 512, 0] = ![128 * (k.val + 4), 0]; rw [Nat.mul_add])

/-- The queries a trip loads. -/
abbrev q2 (k : Fin k0_t2_loop.trips) : FVec F S128x512 .bf16 := View.readAt (Elt F) arg7.view (Rect.unit (s := S4096x512) (k0_off3 k) S128x512.size (k0_off3_inb k)).toLoadRect X7
/-- The keys a trip loads. -/
abbrev k2 (k : Fin k0_t2_loop.trips) : FVec F S640x512 .bf16 := View.readAt (Elt F) arg8.view (Rect.unit (s := S4608x512) (k0_off4 k) S640x512.size (k0_off4_inb k)).toLoadRect X8
/-- The values a trip loads. -/
abbrev v2 (k : Fin k0_t2_loop.trips) : FVec F S640x512 .bf16 := View.readAt (Elt F) arg9.view (Rect.unit (s := S4608x512) (k0_off4 k) S640x512.size (k0_off4_inb k)).toLoadRect X9
/-- The cotangent rows a trip loads. -/
abbrev y2 (k : Fin k0_t2_loop.trips) : FVec F S128x512 .bf16 := View.readAt (Elt F) arg1.view (Rect.unit (s := S4096x512) (k0_off3 k) S128x512.size (k0_off3_inb k)).toLoadRect X1
/-- A trip's probabilities. -/
def p2 (k : Fin k0_t2_loop.trips) : FVec F S640x1024 .f32 :=
  probs (centred ((scores (q2 arg7 X7 k) (k2 arg8 X8 k) (bias arg2 X2))))
/-- The cotangent of a trip's scores. -/
def ds2 (k : Fin k0_t2_loop.trips) : FVec F S640x1024 .f32 :=
  scoresCt (p2 arg2 arg7 arg8 X2 X7 X8 k) (probsCt (v2 arg9 X9 k) (y2 arg1 X1 k))

theorem pieces2_q (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).1 f3 f4 f5 f6
      = [⟨Rect.unit (s := S4096x512) (k0_off3 k) S128x512.size (k0_off3_inb k), dqBlock (ds2 arg1 arg2 arg7 arg8 arg9 X1 X2 X7 X8 X9 k) (k2 arg8 X8 k)⟩] := by
  unfold trip_k0_t2; dsimp only; rfl

theorem pieces2_k (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).2.1 f3 f4 f5 f6
      = [⟨Rect.unit (s := S4608x512) (k0_off4 k) S640x512.size (k0_off4_inb k), addBlock (ds2 arg1 arg2 arg7 arg8 arg9 X1 X2 X7 X8 X9 k) (scaled (q2 arg7 X7 k))
          (View.readAt (Elt F) arg4.view (Rect.unit (s := S4608x512) (k0_off4 k) S640x512.size (k0_off4_inb k)).toLoadRect f4)⟩] := by
  unfold trip_k0_t2; dsimp only; rfl

theorem pieces2_v (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).2.2.1 f3 f4 f5 f6
      = [⟨Rect.unit (s := S4608x512) (k0_off4 k) S640x512.size (k0_off4_inb k), addBlock (p2 arg2 arg7 arg8 X2 X7 X8 k) (y2 arg1 X1 k)
          (View.readAt (Elt F) arg5.view (Rect.unit (s := S4608x512) (k0_off4 k) S640x512.size (k0_off4_inb k)).toLoadRect f5)⟩] := by
  unfold trip_k0_t2; dsimp only; rfl

theorem pieces2_b (k : Fin k0_t2_loop.trips) :
    (trip_k0_t2 𝒱 c bd arg0 harg0 arg1 harg1 arg2 harg2 arg3 harg3 arg4 harg4 arg5 harg5 arg6 harg6 arg7 harg7 arg8 harg8 arg9 harg9 arg10 X1 X2 X7 X8 X9 k).2.2.2.1 f3 f4 f5 f6
      = List.ofFn fun h : Fin 8 => ⟨slabRect h.rev, addBias (ds2 arg1 arg2 arg7 arg8 arg9 X1 X2 X7 X8 X9 k) h.rev (View.readAt (Elt F) arg6.view (slabRect h.rev).toLoadRect f6)⟩ := by
  unfold trip_k0_t2; dsimp only; rfl

end Cert.Att

end
-- ==== Proof.Att.Trip.lean ====
/- What each trip of the kernel's two loops leaves in the buffers it stores into: its block's gradients at the windows the
   trip loads. -/
module

public import proofs.«01_k».proof.Proof.Att.Pieces

@[expose] public section

set_option maxRecDepth 16384
set_option maxHeartbeats 1000000

noncomputable section

namespace Cert.Att

open Idealize.ShloMosaic Cert.KernelIdeal Cert.KernelIdeal.Gen

variable {F : FTy → Type} [FloatOps F] [Named F]
variable (𝒱 : Variants) (c : Dev nD) (bd : Option 𝒱.V)
  (arg0 : Memref sig .tc .hbm S4096x1536 .bf16) (harg0 : arg0.IsWhole)
  (arg1 : Memref sig .tc .vmem S4096x512 .bf16) (harg1 : arg1.IsWhole)
  (arg2 : Memref sig .tc .vmem S8x640x128 .f32) (harg2 : arg2.IsWhole)
  (arg3 : Memref sig .tc .vmem S4096x512 .bf16) (harg3 : arg3.IsWhole)
  (arg4 : Memref sig .tc .vmem S4608x512 .f32) (harg4 : arg4.IsWhole)
  (arg5 : Memref sig .tc .vmem S4608x512 .f32) (harg5 : arg5.IsWhole)
  (arg6 : Memref sig .tc .vmem S8x640x128 .f32) (harg6 : arg6.IsWhole)
  (arg7 : Memref sig .tc .vmem S4096x512 .bf16) (harg7 : arg7.IsWhole)
  (arg8 : Memref sig .tc .vmem S4608x512 .bf16) (harg8 : arg8.IsWhole)
  (arg9 : Memref sig .tc .vmem S4608x512 .bf16) (harg9 : arg9.IsWhole)
  (arg10 : DmaSems sig S3)
  (X1 : BufTy.Contents (Elt F) arg1.view.ty)  (X2 : BufTy.Contents (Elt F) arg2.view.ty)  (X7 : BufTy.Contents (Elt F) arg7.view.ty)  (X8 : BufTy.Contents (Elt F) arg8.view.ty)  (X9 : BufTy.Contents (Elt F) arg9.view.ty)
  (f3 : BufTy.Contents (Elt F) arg3.view.ty)  (f4 : BufTy.Contents (Elt F) arg4.view.ty)  (f5 : BufTy.Contents (Elt F) arg5.view.ty)  (f6 : BufTy.Contents (Elt F) arg6.view.ty)

theorem bias_eq (x : Ins F) (h2 : arg2.view.read (Elt F) X2 = x.b) : bias arg2 X2 = Att.slab x.b := by
  rw [← h2]; funext h; exact View.readAt_unit _ _ _ rfl _

/-- Eight slabs stored, one a head, leave each head's slab. -/
theorem read_slabs (g : Fin 8 → FVec F S1x640x128 .f32) :
    arg6.view.read (Elt F) (arg6.view.writes (Elt F) f6 (List.ofFn fun h : Fin 8 => ⟨slabRect h.rev, g h.rev⟩))
      = fun y => g (y 0) (ix3 0 (y 1) (y 2)) := by
  funext y
  have hmem : ∃ p ∈ (List.ofFn fun h : Fin 8 => (⟨slabRect h.rev, g h.rev⟩ : View.Piece (Elt F) S8x640x128 .f32)), y ∈ p.1.set := by
    refine ⟨⟨slabRect (y 0), g (y 0)⟩, (List.mem_ofFn' _ _).mpr ⟨(y 0 : Fin 8).rev, ?_⟩, ?_⟩
    · have key : ∀ h : Fin 8, (⟨slabRect h.rev.rev, g h.rev.rev⟩ : View.Piece (Elt F) S8x640x128 .f32) = ⟨slabRect h, g h⟩ := fun h => by rw [Fin.rev_rev]
      exact key (y 0)
    · rw [Rect.mem_set_unit]
      intro a
      match a with
      | ⟨0, _⟩ => exact ⟨Nat.le_refl _, Nat.lt_succ_self _⟩
      | ⟨1, _⟩ => exact ⟨Nat.zero_le _, lt_of_lt_of_eq (y 1).isLt (Nat.zero_add _).symm⟩
      | ⟨2, _⟩ => exact ⟨Nat.zero_le _, lt_of_lt_of_eq (y 2).isLt (Nat.zero_add _).symm⟩
  rw [View.read_writes_apply_eq_canon _ _ _ _ hmem]
  refine View.canon_apply_of_pieces (fun y : S8x640x128.Idx => g (y 0) (ix3 0 (y 1) (y 2))) _ ?_ y hmem
  intro p hp x
  obtain ⟨h, rfl⟩ := (List.mem_ofFn' _ _).mp hp
  have e0 : (slabRect h.rev).emb x 0 = h.rev := Fin.ext (by
    show h.rev.val + 1 * (x 0).val = h.rev.val
    have : (x 0).val < 1 := (x 0).isLt
    omega)
  show g h.rev x = g ((slabRect h.rev).emb x 0) (ix3 0 ((slabRect h.rev).emb x 1) ((slabRect h.rev).emb x 2))
  rw [e0]
  refine congrArg (g h.rev) (funext fun a => Fin.ext ?_)
  match a with
  | ⟨0, _⟩ => show (x 0).val = 0; have : (x 0).val < 1 := (x 0).isLt; omega
  | ⟨1, _⟩ => show (x 1).val = 0 + 1 * (x 1).val; omega
  | ⟨2, _⟩ => show (x 2).val = 0 + 1 * (x 2).val; omega

/-- The biases' gradient after a trip, from the stored slabs. -/
theorem read_bias_slabs (x : Ins F) (i : Fin 32) :
    arg6.view.read (Elt F) (arg6.view.writes (Elt F) f6 (List.ofFn fun h : Fin 8 => ⟨slabRect h.rev, addBias (x.ds i) h.rev (View.readAt (Elt F) arg6.view (slabRect h.rev).toLoadRect f6)⟩))
      = x.dbStep i (arg6.view.read (Elt F) f6) := by
  refine (read_slabs arg6 f6 (fun h => addBias (x.ds i) h (View.readAt (Elt F) arg6.view (slabRect h).toLoadRect f6))).trans ?_
  have e : ∀ h : Fin 8, View.readAt (Elt F) arg6.view (slabRect h).toLoadRect f6 = slab (arg6.view.read (Elt F) f6) h :=
    fun h => View.readAt_unit _ _ _ rfl (inbB h)
  funext y
  exact congrArg (fun a => addBias (x.ds i) (y 0) a (ix3 0 (y 1) (y 2))) (e (y 0))

section
variable (x : Ins F)

theorem q1_eq (h7 : arg7.view.read (Elt F) X7 = x.q) (k : Fin k0_t1_loop.trips) : q1 arg7 X7 k = rowsQ x.q (blk1 k) := by
  rw [← h7]; exact View.readAt_unit _ _ _ (k0_off1_eq k) _
theorem k1_eq (h8 : arg8.view.read (Elt F) X8 = x.k) (k : Fin k0_t1_loop.trips) : k1 arg8 X8 k = rowsK x.k (blk1 k) := by
  rw [← h8]; exact View.readAt_unit _ _ _ (k0_off2_eq k) _
theorem v1_eq (h9 : arg9.view.read (Elt F) X9 = x.v) (k : Fin k0_t1_loop.trips) : v1 arg9 X9 k = rowsK x.v (blk1 k) := by
  rw [← h9]; exact View.readAt_unit _ _ _ (k0_off2_eq k) _
theorem y1_eq (h1 : arg1.view.read (Elt F) X1 = x.dy) (k : Fin k0_t1_loop.trips) : y1 arg1 X1 k = rowsQ x.dy (blk1 k) := by
  rw [← h1]; exact View.readAt_unit _ _ _ (k0_off1_eq k) _

theorem p1_eq (h2 : arg2.view.read (Elt F) X2 = x.b) (h7 : arg7.view.read (Elt F) X7 = x.q) (h8 : arg8.view.read (Elt F) X8 = x.k) (k : Fin k0_t1_loop.trips) :
    p1 arg2 arg7 arg8 X2 X7 X8 k = x.p (blk1 k) := by
  have hs : x.s (blk1 k) = masked (validRows (Scf.iv 0#32 1#32 k)) (scores (rowsQ x.q (blk1 k)) (rowsK x.k (blk1 k)) (Att.slab x.b)) := by
    unfold Ins.s
    refine (if_pos (show (blk1 k).val < 4 from Nat.lt_of_lt_of_le k.isLt k0_t1_abs.2.1)).trans ?_
    rw [show Scf.iv 0#32 1#32 k.val = BitVec.ofNat 32 k.val by simp [Scf.iv]]
    rfl
  unfold p1 Ins.p
  rw [hs, q1_eq arg7 X7 x h7, k1_eq arg8 X8 x h8, bias_eq arg2 X2 x h2]

theorem ds1_eq (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t1_loop.trips) : ds1 arg1 arg2 arg7 arg8 arg9 X1 X2 X7 X8 X9 k = x.ds (blk1 k) := by
  unfold ds1 Ins.ds
  rw [p1_eq arg2 arg7 arg8 X2 X7 X8 x h2 h7 h8, v1_eq arg9 X9 x h9, y1_eq arg1 X1 x h1]

/-- A trip puts its block's rows of the queries' gradient. -/
theorem trip1_q (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t1_loop.trips) :
    arg3.view.read (Elt F) (arg3.view.writes (Elt F) f3 ((trip_k0_t1 𝒱 c bd arg0 harg0 arg1 harg1 arg2 harg2 arg3 harg3 arg4 harg4 arg5 harg5 arg6 harg6 arg7 harg7 arg8 harg8 arg9 harg9 arg10 X1 X2 X7 X8 X9 k).1 f3 f4 f5 f6)) = x.dqStep (blk1 k) (arg3.view.read (Elt F) f3) := by
  rw [pieces1_q, View.read_writes_cons_put _ _ _ _ _ (k0_off1_eq k), ds1_eq (x := x) (h1 := h1) (h2 := h2) (h7 := h7) (h8 := h8) (h9 := h9), k1_eq arg8 X8 x h8]
  rfl

/-- A trip adds its block's share of the keys' gradient. -/
theorem trip1_k (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t1_loop.trips) :
    arg4.view.read (Elt F) (arg4.view.writes (Elt F) f4 ((trip_k0_t1 𝒱 c bd arg0 harg0 arg1 harg1 arg2 harg2 arg3 harg3 arg4 harg4 arg5 harg5 arg6 harg6 arg7 harg7 arg8 harg8 arg9 harg9 arg10 X1 X2 X7 X8 X9 k).2.1 f3 f4 f5 f6)) = x.dkStep (blk1 k) (arg4.view.read (Elt F) f4) := by
  rw [pieces1_k, View.read_writes_cons_put _ _ _ _ _ (k0_off2_eq k), ds1_eq (x := x) (h1 := h1) (h2 := h2) (h7 := h7) (h8 := h8) (h9 := h9), q1_eq arg7 X7 x h7,
    View.readAt_unit _ _ _ (k0_off2_eq k) (inbK (blk1 k))]
  rfl

/-- A trip adds its block's share of the values' gradient. -/
theorem trip1_v (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t1_loop.trips) :
    arg5.view.read (Elt F) (arg5.view.writes (Elt F) f5 ((trip_k0_t1 𝒱 c bd arg0 harg0 arg1 harg1 arg2 harg2 arg3 harg3 arg4 harg4 arg5 harg5 arg6 harg6 arg7 harg7 arg8 harg8 arg9 harg9 arg10 X1 X2 X7 X8 X9 k).2.2.1 f3 f4 f5 f6)) = x.dvStep (blk1 k) (arg5.view.read (Elt F) f5) := by
  rw [pieces1_v, View.read_writes_cons_put _ _ _ _ _ (k0_off2_eq k), p1_eq arg2 arg7 arg8 X2 X7 X8 x h2 h7 h8, y1_eq arg1 X1 x h1,
    View.readAt_unit _ _ _ (k0_off2_eq k) (inbK (blk1 k))]
  rfl

/-- A trip adds its block's share of the biases' gradient. -/
theorem trip1_b (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t1_loop.trips) :
    arg6.view.read (Elt F) (arg6.view.writes (Elt F) f6 ((trip_k0_t1 𝒱 c bd arg0 harg0 arg1 harg1 arg2 harg2 arg3 harg3 arg4 harg4 arg5 harg5 arg6 harg6 arg7 harg7 arg8 harg8 arg9 harg9 arg10 X1 X2 X7 X8 X9 k).2.2.2.1 f3 f4 f5 f6)) = x.dbStep (blk1 k) (arg6.view.read (Elt F) f6) := by
  rw [pieces1_b, ds1_eq (x := x) (h1 := h1) (h2 := h2) (h7 := h7) (h8 := h8) (h9 := h9)]
  exact read_bias_slabs arg6 f6 x (blk1 k)
end

section
variable (x : Ins F)

theorem q2_eq (h7 : arg7.view.read (Elt F) X7 = x.q) (k : Fin k0_t2_loop.trips) : q2 arg7 X7 k = rowsQ x.q (blk2 k) := by
  rw [← h7]; exact View.readAt_unit _ _ _ (off3_eq k) _
theorem k2_eq (h8 : arg8.view.read (Elt F) X8 = x.k) (k : Fin k0_t2_loop.trips) : k2 arg8 X8 k = rowsK x.k (blk2 k) := by
  rw [← h8]; exact View.readAt_unit _ _ _ (off4_eq k) _
theorem v2_eq (h9 : arg9.view.read (Elt F) X9 = x.v) (k : Fin k0_t2_loop.trips) : v2 arg9 X9 k = rowsK x.v (blk2 k) := by
  rw [← h9]; exact View.readAt_unit _ _ _ (off4_eq k) _
theorem y2_eq (h1 : arg1.view.read (Elt F) X1 = x.dy) (k : Fin k0_t2_loop.trips) : y2 arg1 X1 k = rowsQ x.dy (blk2 k) := by
  rw [← h1]; exact View.readAt_unit _ _ _ (off3_eq k) _

theorem p2_eq (h2 : arg2.view.read (Elt F) X2 = x.b) (h7 : arg7.view.read (Elt F) X7 = x.q) (h8 : arg8.view.read (Elt F) X8 = x.k) (k : Fin k0_t2_loop.trips) :
    p2 arg2 arg7 arg8 X2 X7 X8 k = x.p (blk2 k) := by
  have hs : x.s (blk2 k) = scores (rowsQ x.q (blk2 k)) (rowsK x.k (blk2 k)) (Att.slab x.b) := by
    unfold Ins.s
    exact if_neg (by show ¬ k.val + 4 < 4; omega)
  unfold p2 Ins.p
  rw [hs, q2_eq arg7 X7 x h7, k2_eq arg8 X8 x h8, bias_eq arg2 X2 x h2]

theorem ds2_eq (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t2_loop.trips) : ds2 arg1 arg2 arg7 arg8 arg9 X1 X2 X7 X8 X9 k = x.ds (blk2 k) := by
  unfold ds2 Ins.ds
  rw [p2_eq arg2 arg7 arg8 X2 X7 X8 x h2 h7 h8, v2_eq arg9 X9 x h9, y2_eq arg1 X1 x h1]

/-- A trip puts its block's rows of the queries' gradient. -/
theorem trip2_q (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t2_loop.trips) :
    arg3.view.read (Elt F) (arg3.view.writes (Elt F) f3 ((trip_k0_t2 𝒱 c bd arg0 harg0 arg1 harg1 arg2 harg2 arg3 harg3 arg4 harg4 arg5 harg5 arg6 harg6 arg7 harg7 arg8 harg8 arg9 harg9 arg10 X1 X2 X7 X8 X9 k).1 f3 f4 f5 f6)) = x.dqStep (blk2 k) (arg3.view.read (Elt F) f3) := by
  rw [pieces2_q, View.read_writes_cons_put _ _ _ _ _ (off3_eq k), ds2_eq (x := x) (h1 := h1) (h2 := h2) (h7 := h7) (h8 := h8) (h9 := h9), k2_eq arg8 X8 x h8]
  rfl

/-- A trip adds its block's share of the keys' gradient. -/
theorem trip2_k (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t2_loop.trips) :
    arg4.view.read (Elt F) (arg4.view.writes (Elt F) f4 ((trip_k0_t2 𝒱 c bd arg0 harg0 arg1 harg1 arg2 harg2 arg3 harg3 arg4 harg4 arg5 harg5 arg6 harg6 arg7 harg7 arg8 harg8 arg9 harg9 arg10 X1 X2 X7 X8 X9 k).2.1 f3 f4 f5 f6)) = x.dkStep (blk2 k) (arg4.view.read (Elt F) f4) := by
  rw [pieces2_k, View.read_writes_cons_put _ _ _ _ _ (off4_eq k), ds2_eq (x := x) (h1 := h1) (h2 := h2) (h7 := h7) (h8 := h8) (h9 := h9), q2_eq arg7 X7 x h7,
    View.readAt_unit _ _ _ (off4_eq k) (inbK (blk2 k))]
  rfl

/-- A trip adds its block's share of the values' gradient. -/
theorem trip2_v (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t2_loop.trips) :
    arg5.view.read (Elt F) (arg5.view.writes (Elt F) f5 ((trip_k0_t2 𝒱 c bd arg0 harg0 arg1 harg1 arg2 harg2 arg3 harg3 arg4 harg4 arg5 harg5 arg6 harg6 arg7 harg7 arg8 harg8 arg9 harg9 arg10 X1 X2 X7 X8 X9 k).2.2.1 f3 f4 f5 f6)) = x.dvStep (blk2 k) (arg5.view.read (Elt F) f5) := by
  rw [pieces2_v, View.read_writes_cons_put _ _ _ _ _ (off4_eq k), p2_eq arg2 arg7 arg8 X2 X7 X8 x h2 h7 h8, y2_eq arg1 X1 x h1,
    View.readAt_unit _ _ _ (off4_eq k) (inbK (blk2 k))]
  rfl

/-- A trip adds its block's share of the biases' gradient. -/
theorem trip2_b (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v) (k : Fin k0_t2_loop.trips) :
    arg6.view.read (Elt F) (arg6.view.writes (Elt F) f6 ((trip_k0_t2 𝒱 c bd arg0 harg0 arg1 harg1 arg2 harg2 arg3 harg3 arg4 harg4 arg5 harg5 arg6 harg6 arg7 harg7 arg8 harg8 arg9 harg9 arg10 X1 X2 X7 X8 X9 k).2.2.2.1 f3 f4 f5 f6)) = x.dbStep (blk2 k) (arg6.view.read (Elt F) f6) := by
  rw [pieces2_b, ds2_eq (x := x) (h1 := h1) (h2 := h2) (h7 := h7) (h8 := h8) (h9 := h9)]
  exact read_bias_slabs arg6 f6 x (blk2 k)
end

end Cert.Att

end
-- ==== Proof.Att.Loops.lean ====
/- The kernel's two loops: what the buffers hold after every trip, in the words of Blocks.lean. -/
module

public import proofs.«01_k».proof.Proof.Att.Trip

@[expose] public section

set_option maxRecDepth 16384
set_option maxHeartbeats 1000000

noncomputable section

namespace Cert.Att

open Idealize.ShloMosaic Cert.KernelIdeal Cert.KernelIdeal.Gen

variable {F : FTy → Type} [FloatOps F] [Named F]
variable (𝒱 : Variants) (c : Dev nD) (bd : Option 𝒱.V)
  (arg0 : Memref sig .tc .hbm S4096x1536 .bf16) (harg0 : arg0.IsWhole)
  (arg1 : Memref sig .tc .vmem S4096x512 .bf16) (harg1 : arg1.IsWhole)
  (arg2 : Memref sig .tc .vmem S8x640x128 .f32) (harg2 : arg2.IsWhole)
  (arg3 : Memref sig .tc .vmem S4096x512 .bf16) (harg3 : arg3.IsWhole)
  (arg4 : Memref sig .tc .vmem S4608x512 .f32) (harg4 : arg4.IsWhole)
  (arg5 : Memref sig .tc .vmem S4608x512 .f32) (harg5 : arg5.IsWhole)
  (arg6 : Memref sig .tc .vmem S8x640x128 .f32) (harg6 : arg6.IsWhole)
  (arg7 : Memref sig .tc .vmem S4096x512 .bf16) (harg7 : arg7.IsWhole)
  (arg8 : Memref sig .tc .vmem S4608x512 .bf16) (harg8 : arg8.IsWhole)
  (arg9 : Memref sig .tc .vmem S4608x512 .bf16) (harg9 : arg9.IsWhole)
  (arg10 : DmaSems sig S3)
  (X1 : BufTy.Contents (Elt F) arg1.view.ty)  (X2 : BufTy.Contents (Elt F) arg2.view.ty)  (X7 : BufTy.Contents (Elt F) arg7.view.ty)  (X8 : BufTy.Contents (Elt F) arg8.view.ty)  (X9 : BufTy.Contents (Elt F) arg9.view.ty)
  (f3 : BufTy.Contents (Elt F) arg3.view.ty)  (f4 : BufTy.Contents (Elt F) arg4.view.ty)  (f5 : BufTy.Contents (Elt F) arg5.view.ty)  (f6 : BufTy.Contents (Elt F) arg6.view.ty)

/-- The first `n` blocks are done: their rows of the queries' gradient are written, and the other three hold the sums so far. -/
def Done (x : Ins F) (n : ℕ) (a3 : FVec F S4096x512 .bf16) (a4 a5 : FVec F S4608x512 .f32) (a6 : FVec F S8x640x128 .f32) : Prop :=
  (∀ y, (y 0).val < 128 * n → a3 y = x.dq y) ∧ a4 = x.dkUpTo n ∧ a5 = x.dvUpTo n ∧ a6 = x.dbUpTo n

theorem Done.step {x : Ins F} (i : Fin 32) {a3 : FVec F S4096x512 .bf16} {a4 a5 : FVec F S4608x512 .f32} {a6 : FVec F S8x640x128 .f32}
    (h : Done x i.val a3 a4 a5 a6) : Done x (i.val + 1) (x.dqStep i a3) (x.dkStep i a4) (x.dvStep i a5) (x.dbStep i a6) := by
  obtain ⟨h3, h4, h5, h6⟩ := h
  refine ⟨fun y hy => ?_, ?_, ?_, ?_⟩
  · have hi := i.isLt
    by_cases hb : 128 * i.val ≤ (y 0).val
    · have hin : ∀ a : Fin 2, (![128 * i.val, 0] : Fin 2 → ℕ) a ≤ (y a).val ∧ (y a).val < (![128 * i.val, 0] : Fin 2 → ℕ) a + S128x512.size a := fun a => by
        match a with
        | ⟨0, _⟩ => exact ⟨hb, by show (y 0).val < 128 * i.val + 128; omega⟩
        | ⟨1, _⟩ => exact ⟨Nat.zero_le _, lt_of_lt_of_eq (y 1).isLt (Nat.zero_add _).symm⟩
      have e : Ins.blockOf (y 0) = i := Fin.ext (by show (y 0).val / 128 = i.val; omega)
      refine (dif_pos hin).trans ?_
      show _ = x.dqOf (Ins.blockOf (y 0)) (ix2 (Ins.within (y 0)) (y 1))
      rw [e]
      refine congrArg (x.dqOf i) (funext fun a => Fin.ext ?_)
      match a with
      | ⟨0, _⟩ => show (y 0).val - 128 * i.val = (y 0).val % 128; omega
      | ⟨1, _⟩ => show (y 1).val - 0 = (y 1).val; omega
    · refine (dif_neg fun hc => hb (hc 0).1).trans (h3 y (by omega))
  · rw [h4, Ins.dkUpTo_succ]
  · rw [h5, Ins.dvUpTo_succ]
  · rw [h6, Ins.dbUpTo_succ]

section
variable (x : Ins F)

/-- The first loop, after `k` trips. -/
theorem loop1 (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (h0 : Done x 0 (arg3.view.read (Elt F) f3) (arg4.view.read (Elt F) f4) (arg5.view.read (Elt F) f5) (arg6.view.read (Elt F) f6)) :
    ∀ k : ℕ, k ≤ k0_t1_loop.trips → Done x (k)
      (arg3.view.read (Elt F) (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).1))
      (arg4.view.read (Elt F) (arg4.view.writes (Elt F) f4 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1))
      (arg5.view.read (Elt F) (arg5.view.writes (Elt F) f5 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1))
      (arg6.view.read (Elt F) (arg6.view.writes (Elt F) f6 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2))
  | 0, _ => h0
  | k + 1, hk => by
    have ih := loop1 h1 h2 h7 h8 h9 h0 k (Nat.le_of_succ_le hk)
    have e := pb_k0_t1_succ 𝒱 c bd arg0 harg0 arg1 harg1 arg2 harg2 arg3 harg3 arg4 harg4 arg5 harg5 arg6 harg6 arg7 harg7 arg8 harg8 arg9 harg9 arg10 X1 X2 X7 X8 X9 f3 f4 f5 f6 ⟨k, hk⟩
    have s := Done.step (blk1 ⟨k, hk⟩) ih
    rw [← trip1_q 𝒱 c bd arg0 harg0 arg1 harg1 arg2 harg2 arg3 harg3 arg4 harg4 arg5 harg5 arg6 harg6 arg7 harg7 arg8 harg8 arg9 harg9 arg10 X1 X2 X7 X8 X9 (f4 := arg4.view.writes (Elt F) f4 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1) (f5 := arg5.view.writes (Elt F) f5 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1) (f6 := arg6.view.writes (Elt F) f6 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2) (x := x) (h1 := h1) (h2 := h2) (h7 := h7) (h8 := h8) (h9 := h9) (k := ⟨k, hk⟩),
      ← trip1_k 𝒱 c bd arg0 harg0 arg1 harg1 arg2 harg2 arg3 harg3 arg4 harg4 arg5 harg5 arg6 harg6 arg7 harg7 arg8 harg8 arg9 harg9 arg10 X1 X2 X7 X8 X9 (f3 := arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).1) (f5 := arg5.view.writes (Elt F) f5 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1) (f6 := arg6.view.writes (Elt F) f6 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2) (x := x) (h1 := h1) (h2 := h2) (h7 := h7) (h8 := h8) (h9 := h9) (k := ⟨k, hk⟩),
      ← trip1_v 𝒱 c bd arg0 harg0 arg1 harg1 arg2 harg2 arg3 harg3 arg4 harg4 arg5 harg5 arg6 harg6 arg7 harg7 arg8 harg8 arg9 harg9 arg10 X1 X2 X7 X8 X9 (f3 := arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).1) (f4 := arg4.view.writes (Elt F) f4 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1) (f6 := arg6.view.writes (Elt F) f6 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2) (x := x) (h1 := h1) (h2 := h2) (h7 := h7) (h8 := h8) (h9 := h9) (k := ⟨k, hk⟩),
      ← trip1_b 𝒱 c bd arg0 harg0 arg1 harg1 arg2 harg2 arg3 harg3 arg4 harg4 arg5 harg5 arg6 harg6 arg7 harg7 arg8 harg8 arg9 harg9 arg10 X1 X2 X7 X8 X9 (f3 := arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).1) (f4 := arg4.view.writes (Elt F) f4 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1) (f5 := arg5.view.writes (Elt F) f5 (pb_k0_t1 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1) (x := x) (h1 := h1) (h2 := h2) (h7 := h7) (h8 := h8) (h9 := h9) (k := ⟨k, hk⟩),
      ← View.writes_append, ← View.writes_append, ← View.writes_append, ← View.writes_append] at s
    have q := congrArg (fun p => Done x (k + 1) (arg3.view.read (Elt F) (arg3.view.writes (Elt F) f3 p.1)) (arg4.view.read (Elt F) (arg4.view.writes (Elt F) f4 p.2.1))
      (arg5.view.read (Elt F) (arg5.view.writes (Elt F) f5 p.2.2.1)) (arg6.view.read (Elt F) (arg6.view.writes (Elt F) f6 p.2.2.2))) e
    exact q.mpr s

/-- The second loop, after `k` trips. -/
theorem loop2 (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (h0 : Done x 4 (arg3.view.read (Elt F) f3) (arg4.view.read (Elt F) f4) (arg5.view.read (Elt F) f5) (arg6.view.read (Elt F) f6)) :
    ∀ k : ℕ, k ≤ k0_t2_loop.trips → Done x (k + 4)
      (arg3.view.read (Elt F) (arg3.view.writes (Elt F) f3 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).1))
      (arg4.view.read (Elt F) (arg4.view.writes (Elt F) f4 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1))
      (arg5.view.read (Elt F) (arg5.view.writes (Elt F) f5 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1))
      (arg6.view.read (Elt F) (arg6.view.writes (Elt F) f6 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2))
  | 0, _ => h0
  | k + 1, hk => by
    have ih := loop2 h1 h2 h7 h8 h9 h0 k (Nat.le_of_succ_le hk)
    have e := pb_k0_t2_succ 𝒱 c bd arg0 harg0 arg1 harg1 arg2 harg2 arg3 harg3 arg4 harg4 arg5 harg5 arg6 harg6 arg7 harg7 arg8 harg8 arg9 harg9 arg10 X1 X2 X7 X8 X9 f3 f4 f5 f6 ⟨k, hk⟩
    have s := Done.step (blk2 ⟨k, hk⟩) ih
    rw [← trip2_q 𝒱 c bd arg0 harg0 arg1 harg1 arg2 harg2 arg3 harg3 arg4 harg4 arg5 harg5 arg6 harg6 arg7 harg7 arg8 harg8 arg9 harg9 arg10 X1 X2 X7 X8 X9 (f4 := arg4.view.writes (Elt F) f4 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1) (f5 := arg5.view.writes (Elt F) f5 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1) (f6 := arg6.view.writes (Elt F) f6 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2) (x := x) (h1 := h1) (h2 := h2) (h7 := h7) (h8 := h8) (h9 := h9) (k := ⟨k, hk⟩),
      ← trip2_k 𝒱 c bd arg0 harg0 arg1 harg1 arg2 harg2 arg3 harg3 arg4 harg4 arg5 harg5 arg6 harg6 arg7 harg7 arg8 harg8 arg9 harg9 arg10 X1 X2 X7 X8 X9 (f3 := arg3.view.writes (Elt F) f3 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).1) (f5 := arg5.view.writes (Elt F) f5 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1) (f6 := arg6.view.writes (Elt F) f6 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2) (x := x) (h1 := h1) (h2 := h2) (h7 := h7) (h8 := h8) (h9 := h9) (k := ⟨k, hk⟩),
      ← trip2_v 𝒱 c bd arg0 harg0 arg1 harg1 arg2 harg2 arg3 harg3 arg4 harg4 arg5 harg5 arg6 harg6 arg7 harg7 arg8 harg8 arg9 harg9 arg10 X1 X2 X7 X8 X9 (f3 := arg3.view.writes (Elt F) f3 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).1) (f4 := arg4.view.writes (Elt F) f4 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1) (f6 := arg6.view.writes (Elt F) f6 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.2) (x := x) (h1 := h1) (h2 := h2) (h7 := h7) (h8 := h8) (h9 := h9) (k := ⟨k, hk⟩),
      ← trip2_b 𝒱 c bd arg0 harg0 arg1 harg1 arg2 harg2 arg3 harg3 arg4 harg4 arg5 harg5 arg6 harg6 arg7 harg7 arg8 harg8 arg9 harg9 arg10 X1 X2 X7 X8 X9 (f3 := arg3.view.writes (Elt F) f3 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).1) (f4 := arg4.view.writes (Elt F) f4 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.1) (f5 := arg5.view.writes (Elt F) f5 (pb_k0_t2 𝒱 c bd arg0 harg0 arg1 harg1 arg2 harg2 arg3 harg3 arg4 harg4 arg5 harg5 arg6 harg6 arg7 harg7 arg8 harg8 arg9 harg9 arg10 X1 X2 X7 X8 X9 f3 f4 f5 f6 k).2.2.1) (x := x) (h1 := h1) (h2 := h2) (h7 := h7) (h8 := h8) (h9 := h9) (k := ⟨k, hk⟩),
      ← View.writes_append, ← View.writes_append, ← View.writes_append, ← View.writes_append] at s
    have q := congrArg (fun p => Done x (k + 4 + 1) (arg3.view.read (Elt F) (arg3.view.writes (Elt F) f3 p.1)) (arg4.view.read (Elt F) (arg4.view.writes (Elt F) f4 p.2.1))
      (arg5.view.read (Elt F) (arg5.view.writes (Elt F) f5 p.2.2.1)) (arg6.view.read (Elt F) (arg6.view.writes (Elt F) f6 p.2.2.2))) e
    rw [Nat.add_right_comm k 1 4]; exact q.mpr s

/-- After both loops, begun on zeroed sums, every block is done. -/
theorem both (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (L4 : List (View.Piece (Elt F) S4608x512 .f32)) (L5 : List (View.Piece (Elt F) S4608x512 .f32)) (L6 : List (View.Piece (Elt F) S8x640x128 .f32))
    (z4 : arg4.view.read (Elt F) (arg4.view.writes (Elt F) f4 L4) = x.dkUpTo 0) (z5 : arg5.view.read (Elt F) (arg5.view.writes (Elt F) f5 L5) = x.dvUpTo 0)
    (z6 : arg6.view.read (Elt F) (arg6.view.writes (Elt F) f6 L6) = x.dbUpTo 0) :
    Done x 32
      (arg3.view.read (Elt F) (arg3.view.writes (Elt F) f3 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).1 ++ (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1)))
      (arg4.view.read (Elt F) (arg4.view.writes (Elt F) f4 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).2.1 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4))))
      (arg5.view.read (Elt F) (arg5.view.writes (Elt F) f5 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).2.2.1 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5))))
      (arg6.view.read (Elt F) (arg6.view.writes (Elt F) f6 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).2.2.2 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)))) := by
  have t1 : Scf.trips k0_t1_loop.lb k0_t1_loop.ub k0_t1_loop.st = 4 := by decide
  have t2 : Scf.trips k0_t2_loop.lb k0_t2_loop.ub k0_t2_loop.st = 28 := by decide
  have d1 := loop1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) x h1 h2 h7 h8 h9
    ⟨fun y hy => absurd hy (Nat.not_lt_zero _), z4, z5, z6⟩ (Scf.trips k0_t1_loop.lb k0_t1_loop.ub k0_t1_loop.st) (le_refl _)
  rw [← View.writes_append, ← View.writes_append, ← View.writes_append] at d1
  have d1' := (congrArg (fun n => Done x n _ _ _ _) t1).mp d1
  have d2 := loop2 𝒱 c bd arg0 harg0 arg1 harg1 arg2 harg2 arg3 harg3 arg4 harg4 arg5 harg5 arg6 harg6 arg7 harg7 arg8 harg8 arg9 harg9 arg10 X1 X2 X7 X8 X9 _ _ _ _ x h1 h2 h7 h8 h9 d1' (Scf.trips k0_t2_loop.lb k0_t2_loop.ub k0_t2_loop.st) (le_refl _)
  rw [← View.writes_append, ← View.writes_append, ← View.writes_append, ← View.writes_append] at d2
  exact (congrArg (fun n => Done x (n + 4) _ _ _ _) t2).mp d2

/-- … the queries' gradient among them. -/
theorem both_q (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (L4 : List (View.Piece (Elt F) S4608x512 .f32)) (L5 : List (View.Piece (Elt F) S4608x512 .f32)) (L6 : List (View.Piece (Elt F) S8x640x128 .f32))
    (z4 : arg4.view.read (Elt F) (arg4.view.writes (Elt F) f4 L4) = x.dkUpTo 0) (z5 : arg5.view.read (Elt F) (arg5.view.writes (Elt F) f5 L5) = x.dvUpTo 0)
    (z6 : arg6.view.read (Elt F) (arg6.view.writes (Elt F) f6 L6) = x.dbUpTo 0) :
    (arg3.view.read (Elt F) (arg3.view.writes (Elt F) f3 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).1 ++ (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1))) = x.dq :=
  funext fun y => (both 𝒱 c bd arg0 harg0 arg1 harg1 arg2 harg2 arg3 harg3 arg4 harg4 arg5 harg5 arg6 harg6 arg7 harg7 arg8 harg8 arg9 harg9 arg10 X1 X2 X7 X8 X9 f3 f4 f5 f6 x h1 h2 h7 h8 h9 L4 L5 L6 z4 z5 z6).1 y (y 0).isLt

/-- … the keys' gradient among them. -/
theorem both_k (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (L4 : List (View.Piece (Elt F) S4608x512 .f32)) (L5 : List (View.Piece (Elt F) S4608x512 .f32)) (L6 : List (View.Piece (Elt F) S8x640x128 .f32))
    (z4 : arg4.view.read (Elt F) (arg4.view.writes (Elt F) f4 L4) = x.dkUpTo 0) (z5 : arg5.view.read (Elt F) (arg5.view.writes (Elt F) f5 L5) = x.dvUpTo 0)
    (z6 : arg6.view.read (Elt F) (arg6.view.writes (Elt F) f6 L6) = x.dbUpTo 0) :
    (arg4.view.read (Elt F) (arg4.view.writes (Elt F) f4 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).2.1 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)))) = x.dkUpTo 32 :=
  (both 𝒱 c bd arg0 harg0 arg1 harg1 arg2 harg2 arg3 harg3 arg4 harg4 arg5 harg5 arg6 harg6 arg7 harg7 arg8 harg8 arg9 harg9 arg10 X1 X2 X7 X8 X9 f3 f4 f5 f6 x h1 h2 h7 h8 h9 L4 L5 L6 z4 z5 z6).2.1

/-- … the values' gradient among them. -/
theorem both_v (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (L4 : List (View.Piece (Elt F) S4608x512 .f32)) (L5 : List (View.Piece (Elt F) S4608x512 .f32)) (L6 : List (View.Piece (Elt F) S8x640x128 .f32))
    (z4 : arg4.view.read (Elt F) (arg4.view.writes (Elt F) f4 L4) = x.dkUpTo 0) (z5 : arg5.view.read (Elt F) (arg5.view.writes (Elt F) f5 L5) = x.dvUpTo 0)
    (z6 : arg6.view.read (Elt F) (arg6.view.writes (Elt F) f6 L6) = x.dbUpTo 0) :
    (arg5.view.read (Elt F) (arg5.view.writes (Elt F) f5 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).2.2.1 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)))) = x.dvUpTo 32 :=
  (both 𝒱 c bd arg0 harg0 arg1 harg1 arg2 harg2 arg3 harg3 arg4 harg4 arg5 harg5 arg6 harg6 arg7 harg7 arg8 harg8 arg9 harg9 arg10 X1 X2 X7 X8 X9 f3 f4 f5 f6 x h1 h2 h7 h8 h9 L4 L5 L6 z4 z5 z6).2.2.1

/-- … the biases' gradient among them. -/
theorem both_b (h1 : arg1.view.read (Elt F) X1 = x.dy) (h2 : arg2.view.read (Elt F) X2 = x.b) (h7 : arg7.view.read (Elt F) X7 = x.q) (h8 : arg8.view.read (Elt F) X8 = x.k) (h9 : arg9.view.read (Elt F) X9 = x.v)
    (L4 : List (View.Piece (Elt F) S4608x512 .f32)) (L5 : List (View.Piece (Elt F) S4608x512 .f32)) (L6 : List (View.Piece (Elt F) S8x640x128 .f32))
    (z4 : arg4.view.read (Elt F) (arg4.view.writes (Elt F) f4 L4) = x.dkUpTo 0) (z5 : arg5.view.read (Elt F) (arg5.view.writes (Elt F) f5 L5) = x.dvUpTo 0)
    (z6 : arg6.view.read (Elt F) (arg6.view.writes (Elt F) f6 L6) = x.dbUpTo 0) :
    (arg6.view.read (Elt F) (arg6.view.writes (Elt F) f6 ((pb_k0_t2 𝒱 c bd arg0 harg0 arg1 harg1 arg2 harg2 arg3 harg3 arg4 harg4 arg5 harg5 arg6 harg6 arg7 harg7 arg8 harg8 arg9 harg9 arg10 X1 X2 X7 X8 X9 (arg3.view.writes (Elt F) f3 (pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).1) (arg4.view.writes (Elt F) f4 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.1 ++ L4)) (arg5.view.writes (Elt F) f5 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.1 ++ L5)) (arg6.view.writes (Elt F) f6 ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)) (Scf.trips k0_t2_loop.lb k0_t2_loop.ub k0_t2_loop.st)).2.2.2 ++ ((pb_k0_t1 𝒱 c bd arg0 harg0 arg1 harg1 arg2 harg2 arg3 harg3 arg4 harg4 arg5 harg5 arg6 harg6 arg7 harg7 arg8 harg8 arg9 harg9 arg10 X1 X2 X7 X8 X9 f3 (arg4.view.writes (Elt F) f4 L4) (arg5.view.writes (Elt F) f5 L5) (arg6.view.writes (Elt F) f6 L6) (Scf.trips k0_t1_loop.lb k0_t1_loop.ub k0_t1_loop.st)).2.2.2 ++ L6)))) = x.dbUpTo 32 :=
  (both 𝒱 c bd arg0 harg0 arg1 harg1 arg2 harg2 arg3 harg3 arg4 harg4 arg5 harg5 arg6 harg6 arg7 harg7 arg8 harg8 arg9 harg9 arg10 X1 X2 X7 X8 X9 f3 f4 f5 f6 x h1 h2 h7 h8 h9 L4 L5 L6 z4 z5 z6).2.2.2

end

end Cert.Att

end
-- ==== Proof.Att.Body.lean ====
/- The kernel's body, run over its buffers: what each output's buffer ends with. -/
module

public import proofs.«01_k».proof.Proof.Gen.KernelIdeal.Frame.Runs
public import proofs.«01_k».proof.Proof.Att.Loops

@[expose] public section

set_option maxRecDepth 16384

noncomputable section

namespace Cert.Att

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- The columns `o, …, o + 511` of an array of projections. -/
def cols (o : ℕ) (ho : o + 512 ≤ 1536) (a : Vec F S4096x1536 .bf16) : FVec F S4096x512 .bf16 := fun y =>
  a (ix2 (y 0) (⟨o + (y 1).val, by have : (y 1).val < 512 := (y 1).isLt; omega⟩ : Fin 1536))

/-- An array of 4096 rows with 512 rows of zeros ahead of it. -/
def padded (a : FVec F S4096x512 .bf16) : FVec F S4608x512 .bf16 := fun y =>
  if h : 512 ≤ (y 0).val then a (ix2 (⟨(y 0).val - 512, by have : (y 0).val < 4608 := (y 0).isLt; omega⟩ : Fin 4096) (y 1))
  else constant S4608x512 .bf16 0x0000#16 y

/-- What the body reads, of the projections (queries, keys, values side by side), the cotangent and the biases. -/
def insOf (a : Vec F S4096x1536 .bf16) (x0 : Vec F S4096x512 .bf16) (x1 : Vec F S8x640x128 .f32) : Ins F where
  q := cols 0 (by decide) a
  dy := x0
  k := padded (cols 512 (by decide) a)
  v := padded (cols 1024 (by decide) a)
  b := x1

/-- A copy out of the projections reads their columns. -/
theorem read_cols (o : ℕ) (ho : o + 512 ≤ 1536) (inb : ∀ a, (![0, o] : Fin 2 → ℕ) a + S4096x512.size a ≤ S4096x1536.size a)
    (p) (f : main_arg0.ty.Contents (Elt F)) :
    View.read (Elt F) ((Memref.whole main_arg0).slice (Rect.unit (s := S4096x1536) ![0, o] S4096x512.size inb) p).view f
      = cols o ho ((Memref.whole main_arg0).view.read (Elt F) f) := by
  funext y
  refine congrArg ((Memref.whole main_arg0).view.read (Elt F) f) (funext fun a => Fin.ext ?_)
  match a with
  | ⟨0, _⟩ => show 0 + 1 * (y 0).val = (y 0).val; omega
  | ⟨1, _⟩ => show o + 1 * (y 1).val = o + (y 1).val; omega

/-- A buffer stored whole reads what was stored. -/
theorem read_stored (arg7 : Memref sig .tc .vmem S4096x512 .bf16) (f : BufTy.Contents (Elt F) arg7.view.ty) (w w' : FVec F S4096x512 .bf16) (h : w = w') :
    arg7.view.read (Elt F) (arg7.view.writes (Elt F) f [⟨Rect.whole S4096x512, w⟩]) = w' := by
  subst h
  funext y
  have e : (Rect.whole S4096x512).emb y = y := funext fun a => Fin.ext (by show 0 + 1 * (y a).val = (y a).val; omega)
  exact (congrArg _ e.symm).trans (View.read_writes_cons_emb arg7.view f (Rect.whole S4096x512) w [] y)

/-- A buffer whose first 512 rows are zeroed and whose other rows are stored reads the padded array. -/
theorem read_padded (arg8 : Memref sig .tc .vmem S4608x512 .bf16) (f : BufTy.Contents (Elt F) arg8.view.ty) (z : FVec F S512x512 .bf16)
    (w w' : FVec F S4096x512 .bf16) (h : w = w') (hz : z = constant S512x512 .bf16 0x0000#16) :
    arg8.view.read (Elt F) (arg8.view.writes (Elt F) f [⟨Rect.unit (s := S4608x512) ![0, 0] S512x512.size inb_S4608x512_S512x512_0_0, z⟩,
      ⟨Rect.unit (s := S4608x512) ![512, 0] S4096x512.size inb_S4608x512_S4096x512_512_0, w⟩]) = padded w' := by
  subst h; subst hz
  funext y
  by_cases hy : 512 ≤ (y 0).val
  · rw [View.read_writes_cons_unit_of_not_mem _ _ _ _ _ y rfl 0 (Or.inr (by show 0 + 512 ≤ (y 0).val; omega))]
    refine (View.read_writes_cons_unit_of_mem _ _ _ _ _ y (ix2 (⟨(y 0).val - 512, by have : (y 0).val < 4608 := (y 0).isLt; omega⟩ : Fin 4096) (y 1)) rfl (fun a => ?_)).trans ?_
    · match a with
      | ⟨0, _⟩ => show (y 0).val = 512 + ((y 0).val - 512); omega
      | ⟨1, _⟩ => show (y 1).val = 0 + (y 1).val; omega
    · unfold padded; rw [dif_pos hy]; rfl
  · refine (View.read_writes_cons_unit_of_mem _ _ _ _ _ y (ix2 (⟨(y 0).val, by omega⟩ : Fin 512) (y 1)) rfl (fun a => ?_)).trans ?_
    · match a with
      | ⟨0, _⟩ => show (y 0).val = 0 + (y 0).val; omega
      | ⟨1, _⟩ => show (y 1).val = 0 + (y 1).val; omega
    · unfold padded; rw [dif_neg hy]; rfl

set_option maxHeartbeats 4000000 in set_option sl_exec.dmaWindow true in set_option sl_exec.dmaWindowSet true in
/-- On whole staging memrefs, the inputs' at their contents and every other at anything, the body runs and leaves the four
    gradients of all 32 blocks. -/
theorem body_run (c : Dev nD) (arg1 : Memref sig .tc .vmem S4096x512 .bf16) (harg1 : arg1.IsWhole) (arg2 : Memref sig .tc .vmem S8x640x128 .f32) (harg2 : arg2.IsWhole) (arg3 : Memref sig .tc .vmem S4096x512 .bf16) (harg3 : arg3.IsWhole) (arg4 : Memref sig .tc .vmem S4608x512 .f32) (harg4 : arg4.IsWhole) (arg5 : Memref sig .tc .vmem S4608x512 .f32) (harg5 : arg5.IsWhole) (arg6 : Memref sig .tc .vmem S8x640x128 .f32) (harg6 : arg6.IsWhole) (arg7 : Memref sig .tc .vmem S4096x512 .bf16) (harg7 : arg7.IsWhole) (arg8 : Memref sig .tc .vmem S4608x512 .bf16) (harg8 : arg8.IsWhole) (arg9 : Memref sig .tc .vmem S4608x512 .bf16) (harg9 : arg9.IsWhole)
    (x0 : Vec F S4096x512 .bf16) (x1 : Vec F S8x640x128 .f32) (fh0 : HbBuf0 (F := F) c hbM0_0)
    (W : Waits sig Unit) (K : PUnit → sProp 𝕄) :
        iprop(owns (c : Thread nD τ) arg1 fullShare x0 ∗ owns (c : Thread nD τ) arg2 fullShare x1 ∗ (∃ d, owns (c : Thread nD τ) arg3 fullShare d) ∗ (∃ d, owns (c : Thread nD τ) arg4 fullShare d) ∗ (∃ d, owns (c : Thread nD τ) arg5 fullShare d) ∗ (∃ d, owns (c : Thread nD τ) arg6 fullShare d) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ owes (c : Thread nD τ) 0 W
            ∗ (iprop(owns (c : Thread nD τ) arg1 fullShare x0 ∗ owns (c : Thread nD τ) arg2 fullShare x1 ∗ owns (c : Thread nD τ) arg3 fullShare (insOf (hbM0_0.view.read (Elt F) fh0) x0 x1).dq ∗ owns (c : Thread nD τ) arg4 fullShare ((insOf (hbM0_0.view.read (Elt F) fh0) x0 x1).dkUpTo 32) ∗ owns (c : Thread nD τ) arg5 fullShare ((insOf (hbM0_0.view.read (Elt F) fh0) x0 x1).dvUpTo 32) ∗ owns (c : Thread nD τ) arg6 fullShare ((insOf (hbM0_0.view.read (Elt F) fh0) x0 x1).dbUpTo 32) ∗ (∃ d, owns (c : Thread nD τ) arg7 fullShare d) ∗ (∃ d, owns (c : Thread nD τ) arg8 fullShare d) ∗ (∃ d, owns (c : Thread nD τ) arg9 fullShare d) ∗ semVal ((c : Thread nD τ), SemLoc.dma 6) 0 ∗ semVal ((c : Thread nD τ), SemLoc.dma 7) 0 ∗ semVal ((c : Thread nD τ), SemLoc.dma 8) 0 ∗ hbPt0 c hbM0_0 fh0 ∗ (∃ W', owes (c : Thread nD τ) 0 W')) -∗ K ⟨⟩))
          ⊢ wp frame (wpE (defs₀ (F := F)) Variants.none c none) Set.univ (cc0_att_bwd (Memref.whole main_arg0) (Memref.isWhole_whole _) arg1 harg1 arg2 harg2 arg3 harg3 arg4 harg4 arg5 harg5 arg6 harg6 arg7 harg7 arg8 harg8 arg9 harg9 cc0_scratch3) K := by
  simp only [cc0_att_bwd_eq_skeleton]; unfold cc0_att_bwd_skel
  simp only [k0_part13_eq_skeleton]
  unfold owns
  iintro ⟨⟨%f0, %hf0, H0⟩, ⟨%f1, %hf1, H1⟩, ⟨%d2, %f2, -, H2⟩, ⟨%d3, %f3, -, H3⟩, ⟨%d4, %f4, -, H4⟩, ⟨%d5, %f5, -, H5⟩, ⟨%ds0, %fs0, -, HS0⟩, ⟨%ds1, %fs1, -, HS1⟩, ⟨%ds2, %fs2, -, HS2⟩, Hq0, Hq1, Hq2, Hh0, HW, Hk⟩
  obtain rfl := harg1.eq_unread hf0; obtain rfl := harg2.eq_unread hf1
  sl_exec
  sl_step
  iapply Hk
  isplitl [H0]
  · iexists _; isplitr; · ipureintro; exact harg1.read_unread _
    iexact H0
  isplitl [H1]
  · iexists _; isplitr; · ipureintro; exact harg2.read_unread _
    iexact H1
  isplitl [H2]
  · iexists _; isplitr; swap; · iexact H2
    ipureintro; exact both_q (x := insOf (hbM0_0.view.read (Elt F) fh0) x0 x1) (h1 := by exact harg1.read_unread _) (h2 := by exact harg2.read_unread _)
      (h7 := by exact read_stored _ _ _ _ (read_cols 0 (by decide) _ _ _)) (h8 := by exact read_padded _ _ _ _ _ (read_cols 512 (by decide) _ _ _) rfl) (h9 := by exact read_padded _ _ _ _ _ (read_cols 1024 (by decide) _ _ _) rfl)
      (z4 := by exact View.read_writes_full _ _ _ _ _) (z5 := by exact View.read_writes_full _ _ _ _ _) (z6 := by exact View.read_writes_full _ _ _ _ _) ..
  isplitl [H3]
  · iexists _; isplitr; swap; · iexact H3
    ipureintro; exact both_k (x := insOf (hbM0_0.view.read (Elt F) fh0) x0 x1) (h1 := by exact harg1.read_unread _) (h2 := by exact harg2.read_unread _)
      (h7 := by exact read_stored _ _ _ _ (read_cols 0 (by decide) _ _ _)) (h8 := by exact read_padded _ _ _ _ _ (read_cols 512 (by decide) _ _ _) rfl) (h9 := by exact read_padded _ _ _ _ _ (read_cols 1024 (by decide) _ _ _) rfl)
      (z4 := by exact View.read_writes_full _ _ _ _ _) (z5 := by exact View.read_writes_full _ _ _ _ _) (z6 := by exact View.read_writes_full _ _ _ _ _) ..
  isplitl [H4]
  · iexists _; isplitr; swap; · iexact H4
    ipureintro; exact both_v (x := insOf (hbM0_0.view.read (Elt F) fh0) x0 x1) (h1 := by exact harg1.read_unread _) (h2 := by exact harg2.read_unread _)
      (h7 := by exact read_stored _ _ _ _ (read_cols 0 (by decide) _ _ _)) (h8 := by exact read_padded _ _ _ _ _ (read_cols 512 (by decide) _ _ _) rfl) (h9 := by exact read_padded _ _ _ _ _ (read_cols 1024 (by decide) _ _ _) rfl)
      (z4 := by exact View.read_writes_full _ _ _ _ _) (z5 := by exact View.read_writes_full _ _ _ _ _) (z6 := by exact View.read_writes_full _ _ _ _ _) ..
  isplitl [H5]
  · iexists _; isplitr; swap; · iexact H5
    ipureintro; exact both_b (x := insOf (hbM0_0.view.read (Elt F) fh0) x0 x1) (h1 := by exact harg1.read_unread _) (h2 := by exact harg2.read_unread _)
      (h7 := by exact read_stored _ _ _ _ (read_cols 0 (by decide) _ _ _)) (h8 := by exact read_padded _ _ _ _ _ (read_cols 512 (by decide) _ _ _) rfl) (h9 := by exact read_padded _ _ _ _ _ (read_cols 1024 (by decide) _ _ _) rfl)
      (z4 := by exact View.read_writes_full _ _ _ _ _) (z5 := by exact View.read_writes_full _ _ _ _ _) (z6 := by exact View.read_writes_full _ _ _ _ _) ..
  isplitl [HS0]
  · iexists _, _; isplitr; swap; · iexact HS0
    ipureintro; rfl
  isplitl [HS1]
  · iexists _, _; isplitr; swap; · iexact HS1
    ipureintro; rfl
  isplitl [HS2]
  · iexists _, _; isplitr; swap; · iexact HS2
    ipureintro; rfl
  isplitl [Hq0]; · iexact Hq0
  isplitl [Hq1]; · iexact Hq1
  isplitl [Hq2]; · iexact Hq2
  isplitl [Hh0]; · iexact Hh0
  iexists _; iexact HW

end Cert.Att

end
-- ==== Proof.Att.Run.lean ====
/- The run of the kernel's program: its frame, and the arrays its four results end with. -/
module

public import proofs.«01_k».proof.Proof.Att.Body
public import Idealize.ShloMosaic.Lib.Claim
public import Idealize.ShloMosaic.Lib.Pipeline.Value
public import Idealize.ShloMosaic.Lib.Pipeline.ValueKit.Geometry

@[expose] public section

set_option maxRecDepth 16384

noncomputable section

namespace Cert.Att

open Cert.KernelIdeal Cert.KernelIdeal.Gen Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (Pipeline.UD sig nD τ) ℕ

variable (m : (ℓ : Loc nD τ sig) → Buf (Elt F) ℓ) (ρ : Dev nD → PrngReg)

/-- What the body reads at the one point: the projections, and the blocks of the two staged inputs. -/
def insAt (c : Dev nD) (t : Fin cfg0.N) : Ins F := insOf (hbM0_0.view.read (Elt F) (V m c main_arg0)) (iblk m c 0 t) (iblk m c 1 t)

/-! ## The pipeline's proof data -/

/-- The proof data of the one pipeline on core `c`: the arrays as the region finds them (`V`); after the body at
    point `t` each input's buffer at its block and the outputs' at the gradients; the invariant
    (Lib/Pipeline/Frame.lean `ΦD`: the scoped rest, the generator register, the own cells at zero, the HBM operands at
    their launch contents); nothing owed; full shares. -/
def dats (_ : Fin 1) (c : Dev nD) : Dat τ (Elt F) Unit ℕ (Pipeline.UD sig nD τ) ℕ cfg0 c where
  A w := V m c (Pipeline.arrRef spec0 w)
  after w t := match w with
    | ⟨0, _⟩ => iblk m c 0 t
    | ⟨1, _⟩ => iblk m c 1 t
    | ⟨2, _⟩ => (insAt m c t).dq
    | ⟨3, _⟩ => (insAt m c t).dkUpTo 32
    | ⟨4, _⟩ => (insAt m c t).dvUpTo 32
    | ⟨5, _⟩ => (insAt m c t).dbUpTo 32
  Φ _ := Pipeline.ΦD osem0 spec0 H0 (V m) c
  q _ := fullShare
  owed _ := 0

/-- The proof data's arrays are the region-entry contents: the proof data's definition projected (`dsimp`), so that
    `V` — a fold over @main's host prefix, long for some programs — is never unfolded to check it. -/
theorem A_eq (c : Dev nD) (w : Fin cfg0.W) : (dats m 0 c).A w = V m c (Pipeline.arrRef spec0 w) := by
  dsimp only [dats]

/-- What the body leaves, window by window (the proof data's `match` reduced by `dsimp`). -/
theorem after0_0 (c : Dev nD) (t : Fin cfg0.N) : (dats m 0 c).after 0 t = iblk m c 0 t := by dsimp only [dats]
theorem after0_1 (c : Dev nD) (t : Fin cfg0.N) : (dats m 0 c).after 1 t = iblk m c 1 t := by dsimp only [dats]
theorem after0_2 (c : Dev nD) (t : Fin cfg0.N) : (dats m 0 c).after 2 t = (insAt m c t).dq := by dsimp only [dats]
theorem after0_3 (c : Dev nD) (t : Fin cfg0.N) : (dats m 0 c).after 3 t = (insAt m c t).dkUpTo 32 := by dsimp only [dats]
theorem after0_4 (c : Dev nD) (t : Fin cfg0.N) : (dats m 0 c).after 4 t = (insAt m c t).dvUpTo 32 := by dsimp only [dats]
theorem after0_5 (c : Dev nD) (t : Fin cfg0.N) : (dats m 0 c).after 5 t = (insAt m c t).dbUpTo 32 := by dsimp only [dats]

/-- Each input's current staging buffer holds its block at every point, fetched there or not (`beforeK_W_of`). -/
theorem before0_0 (c : Dev nD) (t : Fin cfg0.N) (d) : (dats m 0 c).before 0 t d = iblk m c 0 t :=
  before0_0_of m (dats m 0 c) (A_eq m c 0) (after0_0 m c) t d
theorem before0_1 (c : Dev nD) (t : Fin cfg0.N) (d) : (dats m 0 c).before 1 t d = iblk m c 1 t :=
  before0_1_of m (dats m 0 c) (A_eq m c 1) (after0_1 m c) t d

/-! ## The body obligation, at a generic point -/

/-- What the body is called with at point `t` (Lib/Pipeline.lean `BodyObligation`'s precondition, the windows one by one), -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ owns (c : Thread nD τ) (ms0_0 t) fullShare ((dats m 0 c).after 0 t)
    ∗ owns (c : Thread nD τ) (ms0_1 t) fullShare ((dats m 0 c).after 1 t)
    ∗ owns (c : Thread nD τ) (ms0_2 t) fullShare ((dats m 0 c).after 2 t)
    ∗ owns (c : Thread nD τ) (ms0_3 t) fullShare ((dats m 0 c).after 3 t)
    ∗ owns (c : Thread nD τ) (ms0_4 t) fullShare ((dats m 0 c).after 4 t)
    ∗ owns (c : Thread nD τ) (ms0_5 t) fullShare ((dats m 0 c).after 5 t))

set_option maxHeartbeats 800000 in
/-- The body at any point: the inputs' memrefs hold their blocks (`before0_W`); so the
    run applies; the invariant (`PhiD0_eq`) hands the body its scratch, the register, its DMA cells at zero and the HBM operands, and takes them back as they were; the core's `owes` goes in at whatever the points before recorded and comes back with this point's waits, within the next point's bound (everything). -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1]
  rw [show (dats m 0 c).Φ t.succ = (dats m 0 c).Φ t.castSucc from rfl,
    after0_0, after0_1, after0_2, after0_3, after0_4, after0_5]
  rw [show (dats m 0 c).Φ t.castSucc = Pipeline.ΦD osem0 spec0 H0 (V m) c from rfl, PhiD0_eq]
  unfold Dat.owesAt Pipeline.owesWithin
  rw [show (dats m 0 c).owed t.castSucc = 0 from rfl, show (dats m 0 c).owed t.succ = 0 from rfl]
  unfold insAt
  iintro ⟨⟨⟨HS0, HS1, HS2⟩, Hg, ⟨Hq0, Hq1, Hq2⟩, Hh0⟩, ⟨%W, -, HW⟩, ⟨%d0, H0⟩, ⟨%d1, H1⟩, ⟨%d2, H2⟩, ⟨%d3, H3⟩, ⟨%d4, H4⟩, ⟨%d5, H5⟩⟩
  iapply (body_run c _ _ _ _ _ _ _ _ _ _ _ _ _ _ _ _ _ _ (iblk m c 0 t) (iblk m c 1 t) (V m c main_arg0) W _)
  isplitl [H0]; · iexact H0
  isplitl [H1]; · iexact H1
  isplitl [H2]; · iexists _; iexact H2
  isplitl [H3]; · iexists _; iexact H3
  isplitl [H4]; · iexists _; iexact H4
  isplitl [H5]; · iexists _; iexact H5
  isplitl [HS0]; · iexact HS0
  isplitl [HS1]; · iexact HS1
  isplitl [HS2]; · iexact HS2
  isplitl [Hq0]; · iexact Hq0
  isplitl [Hq1]; · iexact Hq1
  isplitl [Hq2]; · iexact Hq2
  isplitl [Hh0]; · iexact Hh0
  isplitl [HW]; · iexact HW
  iintro ⟨H0, H1, H2, H3, H4, H5, HS0, HS1, HS2, Hq0, Hq1, Hq2, Hh0, ⟨%W', HW'⟩⟩
  isplitl [HS0 HS1 HS2 Hg Hq0 Hq1 Hq2 Hh0]
  · isplitl [HS0 HS1 HS2]
    · isplitl [HS0]; · iexact HS0
      isplitl [HS1]; · iexact HS1
      iexact HS2
    isplitl [Hg]
    · iexact Hg
    isplitl [Hq0 Hq1 Hq2]
    · isplitl [Hq0]; · iexact Hq0
      isplitl [Hq1]; · iexact Hq1
      iexact Hq2
    iexact Hh0
  isplitl [HW']
  · iexists W'; isplitr; · ipureintro; exact fun _ _ => Or.inl trivial
    iexact HW'
  isplitl [H0]; · iexact H0
  isplitl [H1]; · iexact H1
  isplitl [H2]; · iexact H2
  isplitl [H3]; · iexact H3
  isplitl [H4]; · iexact H4
  iexact H5

/-- The body table's row at point `t`'s slots is the body as `bodyAt0` spells it. -/
theorem defs₀_row (t : Fin cfg0.N) :
    defs₀ (F := F) .tc cfg0.body (cfg0.bodyArgs t (cfg0.slots t)) = bodyAt0 t := by
  unfold defs₀; rw [Defs.onTc_tc]

/-- The library's body obligation, at every point: the body's triple restated (Lib/Pipeline/FrameBody.lean `triple_restated`). -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run and the frame -/

-- `θ_run_frame_dma`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent : θ_run defs (onTc (τ := τ) (main (F := F))) (s₀ m ρ) (fun r => (Pipeline.FramePost cfgs (dats m) 0 (V m)) r ∧ r.2.sem = fun _ => 0) :=
  Pipeline.θ_run_frame_dma (Q' := _) cfgs (dats m) (0 : Fin 1) launch0 osem0 defs₀ Variants.none ownSemFacts0 H0 H0_sub m ρ main
    (hbody := fun c => (body_obligation m c).loose) (hshare := fun c => (dats m 0 c).share_full fun _ => rfl)
    (howed := fun _ _ => rfl) (V := V m) (hmain := hmain m Variants.none) (hA := A_eq m)
    (hin := fun _ => .rfl) (hout := fun _ => .rfl)

/-- At the compiled mesh, for any values, from any memory with zero counters: every weakly fair execution of @main on the
    TensorCores terminates, and every final state has every array of the pipeline at what the library computes from the
    proof data and every other unscoped buffer as the region found it (Lib/Pipeline/Frame.lean `FramePost`). -/
theorem run_main : θ_run defs (onTc (τ := τ) (main (F := F))) (s₀ m ρ) (Pipeline.FramePost cfgs (dats m) 0 (V m)) :=
  (θ_run defs _ _).mono (fun _ h => h.1) (run_main_quiescent m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

/-- The run leaves the arguments as they were and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (unchanged m ρ) ((θ_run defs _ _).mono (fun _ h => h.2) (run_main_quiescent m ρ))

/-! ## The final arrays -/

/-- The one point. -/
def t₀ : Fin cfg0.N := ⟨0, by decide⟩

/-- What the kernel's loop reads, of the memory the region finds. -/
def ins (c : Dev nD) : Ins F := insOf (V m c main_arg0) (V m c main_arg1) (V m c main_v22)

theorem iblk0 (c : Dev nD) (t : Fin cfg0.N) : iblk m c 0 t = V m c main_arg1 := by
  funext y
  refine congrArg (V m c main_arg1) (funext fun a => Fin.ext ?_)
  exact (cfg0.win 0).rect_emb_val_of_index_zero t a rfl y

theorem iblk1 (c : Dev nD) (t : Fin cfg0.N) : iblk m c 1 t = V m c main_v22 := by
  funext y
  refine congrArg (V m c main_v22) (funext fun a => Fin.ext ?_)
  exact (cfg0.win 1).rect_emb_val_of_index_zero t a rfl y

theorem insAt_eq (c : Dev nD) (t : Fin cfg0.N) : insAt m c t = ins m c := by
  unfold insAt ins
  rw [iblk0, iblk1]
  rfl

theorem final2 (c : Dev nD) : (dats m 0 c).arrAt 2 cfg0.N = (ins m c).dq := by
  refine (dats m 0 c).arrAt_eq_of_cover 2 _ (fun t _ => funext fun y => ?_) (fun i => ⟨t₀, by decide, ?_⟩)
  · show (insAt m c t).dq ((cfg0.win 2).xinj (cfg0.grid.coords t) y) = (ins m c).dq (((cfg0.win 2).rect t).emb y)
    rw [insAt_eq]
    exact congrArg (ins m c).dq (funext fun a => Fin.ext ((cfg0.win 2).rect_emb_val_of_index_zero t a rfl y).symm)
  · have e : ((cfg0.win 2).blk t₀).view.emb i = i := funext fun a => Fin.ext ((cfg0.win 2).rect_emb_val_of_index_zero t₀ a rfl i)
    exact e ▸ ((cfg0.win 2).blk t₀).view.emb_mem_set i

theorem final3 (c : Dev nD) : (dats m 0 c).arrAt 3 cfg0.N = (ins m c).dkUpTo 32 := by
  refine (dats m 0 c).arrAt_eq_of_cover 3 _ (fun t _ => funext fun y => ?_) (fun i => ⟨t₀, by decide, ?_⟩)
  · show (insAt m c t).dkUpTo 32 ((cfg0.win 3).xinj (cfg0.grid.coords t) y) = (ins m c).dkUpTo 32 (((cfg0.win 3).rect t).emb y)
    rw [insAt_eq]
    exact congrArg ((ins m c).dkUpTo 32) (funext fun a => Fin.ext ((cfg0.win 3).rect_emb_val_of_index_zero t a rfl y).symm)
  · have e : ((cfg0.win 3).blk t₀).view.emb i = i := funext fun a => Fin.ext ((cfg0.win 3).rect_emb_val_of_index_zero t₀ a rfl i)
    exact e ▸ ((cfg0.win 3).blk t₀).view.emb_mem_set i

theorem final4 (c : Dev nD) : (dats m 0 c).arrAt 4 cfg0.N = (ins m c).dvUpTo 32 := by
  refine (dats m 0 c).arrAt_eq_of_cover 4 _ (fun t _ => funext fun y => ?_) (fun i => ⟨t₀, by decide, ?_⟩)
  · show (insAt m c t).dvUpTo 32 ((cfg0.win 4).xinj (cfg0.grid.coords t) y) = (ins m c).dvUpTo 32 (((cfg0.win 4).rect t).emb y)
    rw [insAt_eq]
    exact congrArg ((ins m c).dvUpTo 32) (funext fun a => Fin.ext ((cfg0.win 4).rect_emb_val_of_index_zero t a rfl y).symm)
  · have e : ((cfg0.win 4).blk t₀).view.emb i = i := funext fun a => Fin.ext ((cfg0.win 4).rect_emb_val_of_index_zero t₀ a rfl i)
    exact e ▸ ((cfg0.win 4).blk t₀).view.emb_mem_set i

theorem final5 (c : Dev nD) : (dats m 0 c).arrAt 5 cfg0.N = (ins m c).dbUpTo 32 := by
  refine (dats m 0 c).arrAt_eq_of_cover 5 _ (fun t _ => funext fun y => ?_) (fun i => ⟨t₀, by decide, ?_⟩)
  · show (insAt m c t).dbUpTo 32 ((cfg0.win 5).xinj (cfg0.grid.coords t) y) = (ins m c).dbUpTo 32 (((cfg0.win 5).rect t).emb y)
    rw [insAt_eq]
    exact congrArg ((ins m c).dbUpTo 32) (funext fun a => Fin.ext ((cfg0.win 5).rect_emb_val_of_index_zero t a rfl y).symm)
  · have e : ((cfg0.win 5).blk t₀).view.emb i = i := funext fun a => Fin.ext ((cfg0.win 5).rect_emb_val_of_index_zero t₀ a rfl i)
    exact e ▸ ((cfg0.win 5).blk t₀).view.emb_mem_set i

/-- The run, with every result and argument named. -/
theorem run : θ_run defs (onTc (τ := τ) (main (F := F))) ⟨m, fun _ => 0, ρ⟩ fun r => ∀ c : Dev nD,
      r.2.mem ((c : Thread nD τ).loc main_v23_0) = (ins m c).dq
      ∧ r.2.mem ((c : Thread nD τ).loc main_v23_1) = (ins m c).dkUpTo 32
      ∧ r.2.mem ((c : Thread nD τ).loc main_v23_2) = (ins m c).dvUpTo 32
      ∧ r.2.mem ((c : Thread nD τ).loc main_v23_3) = (ins m c).dbUpTo 32 :=
  (θ_run defs _ _).mono (fun r h c => ⟨((h c).1 2).trans (final2 m c), ((h c).1 3).trans (final3 m c), ((h c).1 4).trans (final4 m c), ((h c).1 5).trans (final5 m c)⟩)
    (run_main m ρ)

end Cert.Att

end
-- ==== Proof.Att.Same.lean ====
/- The kernel over the float words has the text of the idealized kernel read at the float words; its frame is that run. -/
module

public import proofs.«01_k».proof.Defs
public import proofs.«01_k».proof.Proof.Gen.Kernel
public import proofs.«01_k».proof.Proof.Gen.KernelIdeal
public import proofs.«01_k».proof.Proof.Att.Run

@[expose] public section

noncomputable section

namespace Cert.Proof

open Idealize.ShloMosaic Idealize.SL.Sem

/-- At the float words a named constant is the word that the program writes. -/
local instance : Named Bits := ⟨fun _ _ _ b => FloatOps.ofBits _ b⟩

local instance : Cert.Kernel.Facts := Cert.Kernel.Gen.facts
local instance : Cert.KernelIdeal.Facts := Cert.KernelIdeal.Gen.facts

/-- The two programs launch the same body. -/
theorem same_bodies : Cert.Kernel.defs₀ (F := Bits) = Cert.KernelIdeal.defs₀ (F := Bits) := by
  refine congrArg Defs.onTc ?_
  funext l a
  match l, a with
  | 0, (t, s) => rfl

/-- The two programs have the same procedures. -/
theorem same_defs : Cert.Kernel.defs (F := Bits) = Cert.KernelIdeal.defs (F := Bits) := congrArg (Pipeline.defs _) same_bodies

/-- The kernel over the float words terminates, keeps its arguments and leaves every counter at zero. -/
theorem frame_kernel : Cert.quiescent_Kernel := fun m ρ _ => by
  have h := Cert.Att.frame (F := Bits) m ρ
  rw [← same_defs] at h
  exact h

end Cert.Proof

end
-- ==== Proof.Att.Spec.lean ====
/- The gradients of the banded attention, over the extended reals, with every row of scores written over all 4608 rows of
   the keys (512 rows of zeros, then the 4096 keys): outside a query's band a score is minus infinity. -/
module

public import proofs.«01_k».proof.Proof.Att.Block

@[expose] public section

noncomputable section

namespace Cert.Att

open Idealize.ShloMosaic

/-- One eighth: the scale of the scores. -/
def eighth : EReal := ((1 / 8 : ℝ) : EReal)

theorem eighth_f32 : Ideal.ofBits .f32 0x3E000000#32 = eighth := by
  unfold eighth; simp [Ideal.ofBits, Ideal.ieee, -EReal.coe_mul]; norm_num

theorem eighth_bf16 : Ideal.ofBits .bf16 0x3E00#16 = eighth := by
  unfold eighth; simp [Ideal.ofBits, Ideal.ieee, -EReal.coe_mul]; norm_num

/-- The head that a column belongs to. -/
def headOf (c : Fin 512) : Fin 8 := ⟨c.val / 64, by omega⟩

theorem headOf_col (h : Fin 8) (d : Fin 64) : headOf (col h d) = h := by
  unfold headOf col; ext; show (64 * h.val + d.val) / 64 = h.val; omega

theorem exists_col (c : Fin 512) : ∃ h d, c = col h d :=
  ⟨headOf c, ⟨c.val % 64, by omega⟩, by unfold headOf col; ext; show c.val = 64 * (c.val / 64) + c.val % 64; omega⟩

/-- What the attention's gradients depend on: queries, the cotangent of the output, keys and values with 512 rows ahead
    of them, the biases by head and clipped distance. -/
structure Data where
  q : Fin 4096 → Fin 512 → EReal
  y : Fin 4096 → Fin 512 → EReal
  k : Fin 4608 → Fin 512 → EReal
  v : Fin 4608 → Fin 512 → EReal
  b : Fin 8 → Fin 513 → EReal

/-- A query in row `R` sees the keys in rows `n` of its chunk's 576 that are not ahead of the first key. -/
def seen (R : Fin 4096) (n : Fin 4608) : Prop := 512 ≤ n.val ∧ 64 * (R.val / 64) ≤ n.val ∧ n.val < 64 * (R.val / 64) + 576

instance (R : Fin 4096) (n : Fin 4608) : Decidable (seen R n) := by unfold seen; infer_instance

/-- The entry of the table of biases for a query row and a key row. -/
def distance (R n : ℕ) : Fin 513 := ⟨min (R + 768 - n) 512, by omega⟩

namespace Data

variable (D : Data)

/-- The score of head `h` at a query row and a key row. -/
def score (h : Fin 8) (R : Fin 4096) (n : Fin 4608) : EReal :=
  if seen R n then (∑ d : Fin 64, D.k n (col h d) * (D.q R (col h d) * eighth)) + D.b h (distance R.val n.val) else ⊥

/-- The cotangent of the probability there. -/
def probCt (h : Fin 8) (R : Fin 4096) (n : Fin 4608) : EReal := ∑ d : Fin 64, D.v n (col h d) * D.y R (col h d)

/-- The probability. -/
def prob (h : Fin 8) (R : Fin 4096) (n : Fin 4608) : EReal := soft (D.score h R) n

/-- The cotangent of the score. -/
def scoreCt (h : Fin 8) (R : Fin 4096) (n : Fin 4608) : EReal := dsoft (D.score h R) (D.probCt h R) n

/-- The gradient of the queries. -/
def dq (R : Fin 4096) (c : Fin 512) : EReal := (∑ n, D.scoreCt (headOf c) R n * D.k n c) * eighth

/-- The gradient of the keys. -/
def dk (n : Fin 4608) (c : Fin 512) : EReal := ∑ R, D.scoreCt (headOf c) R n * (D.q R c * eighth)

/-- The gradient of the values. -/
def dv (n : Fin 4608) (c : Fin 512) : EReal := ∑ R, D.prob (headOf c) R n * D.y R c

/-- The gradient of the biases of a pair of chunks: key row `j` of 640, query row `r` of 128. -/
def db (h : Fin 8) (j : Fin 640) (r : Fin 128) : EReal :=
  ∑ t : Fin 32, D.scoreCt h ⟨128 * t.val + r.val, by omega⟩ ⟨128 * t.val + j.val, by omega⟩

theorem score_unseen (h : Fin 8) (R : Fin 4096) (n : Fin 4608) (hn : ¬ seen R n) : D.score h R n = ⊥ := if_neg hn

theorem prob_unseen (h : Fin 8) (R : Fin 4096) (n : Fin 4608) (hn : ¬ seen R n) : D.prob h R n = 0 :=
  soft_of_bot _ _ (D.score_unseen h R n hn)

theorem scoreCt_unseen (h : Fin 8) (R : Fin 4096) (n : Fin 4608) (hn : ¬ seen R n) : D.scoreCt h R n = 0 :=
  dsoft_of_bot _ _ _ (D.score_unseen h R n hn)

end Data

/-- A sum over `N` rows is the sum over their blocks of the sums over each block's rows. -/
theorem sum_blocks (a b N : ℕ) (hN : b * a = N) (f : Fin N → EReal) :
    ∑ i : Fin a, ∑ r : Fin b, f ⟨b * i.val + r.val, by
      have h1 : b * (i.val + 1) ≤ b * a := Nat.mul_le_mul_left b i.isLt
      have h2 := r.isLt
      rw [Nat.mul_add] at h1; omega⟩ = ∑ R, f R := by
  subst hN
  rw [← Fintype.sum_prod_type']
  refine Fintype.sum_equiv (finProdFinEquiv.trans (finCongr (Nat.mul_comm a b))) _ _ fun p => congrArg f (Fin.ext ?_)
  show b * p.1.val + p.2.val = p.2.val + b * p.1.val
  omega

end Cert.Att

end
-- ==== Proof.Att.Rows.lean ====
/- The kernel's arrays over the extended reals: block by block they are the gradients of the attention. -/
module

public import proofs.«01_k».proof.Proof.Att.Spec
public import proofs.«01_k».proof.Proof.Att.Blocks

@[expose] public section

set_option maxRecDepth 16384

noncomputable section

namespace Cert.Att

open Idealize.ShloMosaic Cert.KernelIdeal

variable [Cert.KernelIdeal.Facts]

/-- Row `r` of block `i` among the 4096 query rows. -/
def rowQ (i : Fin 32) (r : Fin 128) : Fin 4096 := ⟨128 * i.val + r.val, by omega⟩

/-- Row `j` of block `i` among the 4608 key rows. -/
def rowK (i : Fin 32) (j : Fin 640) : Fin 4608 := ⟨128 * i.val + j.val, by omega⟩

theorem rowK_injective (i : Fin 32) : Function.Injective (rowK i) := fun a b h => by
  have := congrArg Fin.val h
  unfold rowK at this
  exact Fin.ext (by simpa using this)

/-- A block's key rows are all that its queries see. -/
theorem unseen_of_outside (i : Fin 32) (r : Fin 128) (n : Fin 4608) (h : ∀ j, rowK i j ≠ n) : ¬ seen (rowQ i r) n := by
  rintro ⟨-, h1, h2⟩
  unfold rowQ at h1 h2
  dsimp only at h1 h2
  exact h ⟨n.val - 128 * i.val, by omega⟩ (Fin.ext (by unfold rowK; dsimp only; omega))

theorem rowsQ_apply {φ : FTy} (x : FVec Ideal S4096x512 φ) (i : Fin 32) (r : Fin 128) (c : Fin 512) :
    rowsQ x i (ix2 r c) = x (ix2 (rowQ i r) c) := by
  refine congrArg x (funext fun a => Fin.ext ?_)
  match a with
  | ⟨0, _⟩ => show 128 * i.val + 1 * r.val = 128 * i.val + r.val; omega
  | ⟨1, _⟩ => show 0 + 1 * c.val = c.val; omega

theorem rowsK_apply {φ : FTy} (x : FVec Ideal S4608x512 φ) (i : Fin 32) (j : Fin 640) (c : Fin 512) :
    rowsK x i (ix2 j c) = x (ix2 (rowK i j) c) := by
  refine congrArg x (funext fun a => Fin.ext ?_)
  match a with
  | ⟨0, _⟩ => show 128 * i.val + 1 * j.val = 128 * i.val + j.val; omega
  | ⟨1, _⟩ => show 0 + 1 * c.val = c.val; omega

theorem slab_apply {φ : FTy} (x : FVec Ideal S8x640x128 φ) (h : Fin 8) (j : Fin 640) (r : Fin 128) :
    slab x h (ix3 0 j r) = x (ix3 h j r) := by
  refine congrArg x (funext fun a => Fin.ext ?_)
  match a with
  | ⟨0, _⟩ => show h.val + 1 * 0 = h.val; omega
  | ⟨1, _⟩ => show 0 + 1 * j.val = j.val; omega
  | ⟨2, _⟩ => show 0 + 1 * r.val = r.val; omega

/-- The rows that the mask keeps are those at 512 or after. -/
theorem validRows_apply (i : Fin 32) (j : Fin 640) :
    validRows (BitVec.ofNat 32 i.val) (ix2 j 0) = 1#1 ↔ 512 ≤ 128 * i.val + j.val := by
  have e : validRows (BitVec.ofNat 32 i.val) (ix2 j 0)
      = BitVec.ofBool ((0#32).sle (BitVec.ofNat 32 j.val + (BitVec.ofNat 32 i.val * 128#32 - 512#32))) := by
    refine congrArg (fun z : BitVec 32 => BitVec.ofBool ((0#32).sle (z + (BitVec.ofNat 32 i.val * 128#32 - 512#32)))) ?_
    exact iota_single_apply .tc S640x1 32 0 _ (ix2 j 0)
  have ht : (BitVec.ofNat 32 j.val + (BitVec.ofNat 32 i.val * 128#32 - 512#32)).toNat
      = (128 * i.val + j.val + 4294966784) % 4294967296 := by
    simp only [BitVec.toNat_add, BitVec.toNat_sub, BitVec.toNat_mul, BitVec.toNat_ofNat]
    omega
  have hb : ∀ z : BitVec 32, BitVec.ofBool ((0#32).sle z) = 1#1 ↔ z.toNat < 2147483648 := fun z => by
    rw [BitVec.sle_eq_decide, BitVec.toInt_eq_toNat_cond z]
    have := z.isLt
    by_cases h : 2 * z.toNat < 2 ^ 32
    · rw [if_pos h, decide_eq_true (by simp)]
      exact ⟨fun _ => by omega, fun _ => rfl⟩
    · rw [if_neg h, decide_eq_false (by simp; omega)]
      exact ⟨fun h' => absurd h' (by decide), fun _ => by omega⟩
  rw [e, hb, ht]
  omega

/-- The bias of a pair of chunks, by key row and query row of the pair: outside a query's chunk's band, minus infinity. -/
def pairBias (b : Fin 8 → Fin 513 → EReal) (h : Fin 8) (j : Fin 640) (r : Fin 128) : EReal :=
  if 64 * (r.val / 64) ≤ j.val ∧ j.val < 64 * (r.val / 64) + 576 then b h (distance r.val j.val) else ⊥

/-- The loop's arrays hold `D`. -/
structure Holds (x : Ins Ideal) (D : Data) : Prop where
  q : ∀ R c, x.q (ix2 R c) = D.q R c
  y : ∀ R c, x.dy (ix2 R c) = D.y R c
  k : ∀ n c, x.k (ix2 n c) = D.k n c
  v : ∀ n c, x.v (ix2 n c) = D.v n c
  b : ∀ h j r, x.b (ix3 h j r) = pairBias D.b h j r

variable {x : Ins Ideal} {D : Data} (H : Holds x D)

include H

theorem scaled_row (i : Fin 32) (r : Fin 128) (c : Fin 512) :
    scaled (rowsQ x.q i) (ix2 r c) = D.q (rowQ i r) c * eighth := by
  show rowsQ x.q i (ix2 r c) * Ideal.ofBits .bf16 0x3E00#16 = _
  rw [rowsQ_apply, H.q, eighth_bf16]

theorem scores_row (i : Fin 32) (j : Fin 640) (h : Fin 8) (r : Fin 128) :
    scores (rowsQ x.q i) (rowsK x.k i) (slab x.b) (ix2 j (lane h r))
      = (∑ d : Fin 64, D.k (rowK i j) (col h d) * (D.q (rowQ i r) (col h d) * eighth)) + pairBias D.b h j r := by
  rw [scores_apply, slab_apply, H.b]
  refine congrArg (· + _) (Finset.sum_congr rfl fun d _ => ?_)
  rw [rowsK_apply, H.k, scaled_row H]

/-- A block's scores. -/
theorem s_row (i : Fin 32) (j : Fin 640) (h : Fin 8) (r : Fin 128) :
    x.s i (ix2 j (lane h r)) = D.score h (rowQ i r) (rowK i j) := by
  have hd : distance r.val j.val = distance (rowQ i r).val (rowK i j).val := by
    unfold distance rowQ rowK; ext; dsimp only; omega
  have base : 512 ≤ 128 * i.val + j.val → (∑ d : Fin 64, D.k (rowK i j) (col h d) * (D.q (rowQ i r) (col h d) * eighth)) + pairBias D.b h j r
      = D.score h (rowQ i r) (rowK i j) := by
    intro h512
    unfold Data.score pairBias
    by_cases hs : 64 * (r.val / 64) ≤ j.val ∧ j.val < 64 * (r.val / 64) + 576
    · rw [if_pos hs, if_pos, hd]
      unfold seen rowQ rowK; dsimp only; omega
    · rw [if_neg hs, if_neg, EReal.add_bot]
      unfold seen rowQ rowK; dsimp only; omega
  unfold Ins.s
  by_cases hi : i.val < 4
  · rw [if_pos hi, masked_apply]
    by_cases h512 : 512 ≤ 128 * i.val + j.val
    · rw [if_pos ((validRows_apply i j).2 h512), scores_row H, base h512]
    · rw [if_neg (fun hv => h512 ((validRows_apply i j).1 hv)), D.score_unseen]
      unfold seen rowK; dsimp only; omega
  · rw [if_neg hi, scores_row H, base (by omega)]

/-- A block's probabilities. -/
theorem p_row (i : Fin 32) (j : Fin 640) (h : Fin 8) (r : Fin 128) :
    x.p i (ix2 j (lane h r)) = D.prob h (rowQ i r) (rowK i j) := by
  unfold Ins.p
  rw [probs_apply, funext fun j' : Fin 640 => s_row H i j' h r]
  exact soft_extend (rowK i) (rowK_injective i) (D.score h (rowQ i r))
    (fun n hn => D.score_unseen h _ n (unseen_of_outside i r n hn)) j

/-- A block's cotangents of the scores. -/
theorem ds_row (i : Fin 32) (j : Fin 640) (h : Fin 8) (r : Fin 128) :
    x.ds i (ix2 j (lane h r)) = D.scoreCt h (rowQ i r) (rowK i j) := by
  unfold Ins.ds Ins.p
  have hp : ∀ j' : Fin 640, probsCt (rowsK x.v i) (rowsQ x.dy i) (ix2 j' (lane h r)) = D.probCt h (rowQ i r) (rowK i j') := fun j' => by
    unfold probsCt Data.probCt
    rw [catL_apply, keyDot_apply]
    exact Finset.sum_congr rfl fun d _ => by rw [rowsK_apply, rowsQ_apply, H.v, H.y]
  rw [scoresCt_apply, funext fun j' : Fin 640 => s_row H i j' h r, funext hp]
  exact dsoft_extend (rowK i) (rowK_injective i) (D.score h (rowQ i r))
    (fun n hn => D.score_unseen h _ n (unseen_of_outside i r n hn)) (D.probCt h (rowQ i r)) j

/-- The kernel's gradient of the queries. -/
theorem dq_array (R : Fin 4096) (c : Fin 512) : x.dq (ix2 R c) = D.dq R c := by
  obtain ⟨h, d, rfl⟩ := exists_col c
  show x.dqOf (Ins.blockOf R) (ix2 (Ins.within R) (col h d)) = _
  have hR : rowQ (Ins.blockOf R) (Ins.within R) = R := by
    unfold rowQ Ins.blockOf Ins.within; ext; dsimp only; omega
  unfold Ins.dqOf Data.dq
  rw [dqBlock_apply, eighth_f32, headOf_col]
  refine congrArg (· * eighth) ?_
  have hz : ∀ n, (∀ j, rowK (Ins.blockOf R) j ≠ n) → D.scoreCt h R n * D.k n (col h d) = 0 := fun n hn => by
    have := unseen_of_outside (Ins.blockOf R) (Ins.within R) n hn
    rw [hR] at this
    rw [D.scoreCt_unseen h R n this, zero_mul]
  rw [← sum_extend (rowK (Ins.blockOf R)) (rowK_injective _) (fun n => D.scoreCt h R n * D.k n (col h d)) hz]
  exact Finset.sum_congr rfl fun j _ => by rw [ds_row H, hR, rowsK_apply, H.k]

omit H in
/-- A block's put of sums into an array of key rows, where what it adds elsewhere would vanish. -/
theorem put_row (i : Fin 32) (a : FVec Ideal S4608x512 .f32) (w : FVec Ideal S640x1024 .f32) (g : FVec Ideal S128x512 .bf16)
    (f : Fin 8 → Fin 4096 → Fin 4608 → EReal) (e : Fin 4096 → Fin 512 → EReal)
    (hw : ∀ j h r, w (ix2 j (lane h r)) = f h (rowQ i r) (rowK i j)) (hg : ∀ r c, g (ix2 r c) = e (rowQ i r) c)
    (hf : ∀ h R n, ¬ seen R n → f h R n = 0) (n : Fin 4608) (c : Fin 512) :
    VecWindow.put a ![128 * i.val, 0] S640x512.size (addBlock w g (rowsK a i)) (ix2 n c)
      = a (ix2 n c) + ∑ r : Fin 128, f (headOf c) (rowQ i r) n * e (rowQ i r) c := by
  obtain ⟨h, d, rfl⟩ := exists_col c
  rw [headOf_col]
  by_cases hn : ∃ j, rowK i j = n
  · obtain ⟨j, rfl⟩ := hn
    have hin : ∀ a, (![128 * i.val, 0] : Fin 2 → ℕ) a ≤ ((ix2 (rowK i j) (col h d) : S4608x512.Idx) a).val
        ∧ ((ix2 (rowK i j) (col h d) : S4608x512.Idx) a).val < (![128 * i.val, 0] : Fin 2 → ℕ) a + S640x512.size a := fun a => by
      match a with
      | ⟨0, _⟩ => exact ⟨Nat.le_add_right _ _, Nat.add_lt_add_left j.isLt _⟩
      | ⟨1, _⟩ => exact ⟨Nat.zero_le _, by show (col h d).val < 0 + 512; omega⟩
    refine (dif_pos hin).trans ?_
    have hl : Rect.unitLocal (s := S4608x512) (off := ![128 * i.val, 0]) (size := S640x512.size) (ix2 (rowK i j) (col h d)) hin
        = (ix2 j (col h d) : S640x512.Idx) := funext fun a => Fin.ext (by
      match a with
      | ⟨0, _⟩ => show 128 * i.val + j.val - 128 * i.val = j.val; omega
      | ⟨1, _⟩ => rfl)
    rw [hl, addBlock_apply, rowsK_apply]
    exact congrArg (_ + ·) (Finset.sum_congr rfl fun r _ => by rw [hw, hg])
  · rw [Finset.sum_eq_zero fun r _ => by
      rw [hf h _ n (unseen_of_outside i r n fun j hj => hn ⟨j, hj⟩), zero_mul], add_zero]
    refine dif_neg fun hin => hn ?_
    have h0 := hin ⟨0, by decide⟩
    change 128 * i.val ≤ n.val ∧ n.val < 128 * i.val + 640 at h0
    exact ⟨⟨n.val - 128 * i.val, by omega⟩, Fin.ext (by show 128 * i.val + (n.val - 128 * i.val) = n.val; omega)⟩

/-- The kernel's gradient of the keys after `n` blocks. -/
theorem dk_upTo (t : ℕ) (ht : t ≤ 32) (n : Fin 4608) (c : Fin 512) :
    x.dkUpTo t (ix2 n c) = ∑ i : Fin t, ∑ r : Fin 128,
      D.scoreCt (headOf c) (rowQ (i.castLE ht) r) n * (D.q (rowQ (i.castLE ht) r) c * eighth) := by
  induction t with
  | zero => exact (Ideal.ofBits_zero_f32).trans (by simp)
  | succ t ih =>
    rw [x.dkUpTo_succ ⟨t, ht⟩, Fin.sum_univ_castSucc]
    exact (put_row ⟨t, ht⟩ _ _ _ D.scoreCt (fun R c => D.q R c * eighth) (fun j h r => ds_row H _ j h r) (fun r c => scaled_row H _ r c)
      D.scoreCt_unseen n c).trans (congrArg (· + _) (ih (by omega)))

/-- The kernel's gradient of the values after `n` blocks. -/
theorem dv_upTo (t : ℕ) (ht : t ≤ 32) (n : Fin 4608) (c : Fin 512) :
    x.dvUpTo t (ix2 n c) = ∑ i : Fin t, ∑ r : Fin 128,
      D.prob (headOf c) (rowQ (i.castLE ht) r) n * D.y (rowQ (i.castLE ht) r) c := by
  induction t with
  | zero => exact (Ideal.ofBits_zero_f32).trans (by simp)
  | succ t ih =>
    rw [x.dvUpTo_succ ⟨t, ht⟩, Fin.sum_univ_castSucc]
    exact (put_row ⟨t, ht⟩ _ _ _ D.prob D.y (fun j h r => p_row H _ j h r) (fun r c => by rw [rowsQ_apply, H.y])
      D.prob_unseen n c).trans (congrArg (· + _) (ih (by omega)))

/-- The kernel's gradient of the biases after `n` blocks. -/
theorem db_upTo (t : ℕ) (ht : t ≤ 32) (h : Fin 8) (j : Fin 640) (r : Fin 128) :
    x.dbUpTo t (ix3 h j r) = ∑ i : Fin t, D.scoreCt h (rowQ (i.castLE ht) r) (rowK (i.castLE ht) j) := by
  induction t with
  | zero => exact (Ideal.ofBits_zero_f32).trans (by simp)
  | succ t ih =>
    rw [x.dbUpTo_succ ⟨t, ht⟩, Fin.sum_univ_castSucc]
    show addBias (x.ds ⟨t, ht⟩) h (slab (x.dbUpTo t) h) (ix3 0 j r) = _
    rw [addBias_apply, slab_apply, ih (by omega), ds_row H]
    rfl

/-- The kernel's gradient of the keys. -/
theorem dk_array (n : Fin 4608) (c : Fin 512) : x.dkUpTo 32 (ix2 n c) = D.dk n c :=
  (dk_upTo H 32 le_rfl n c).trans
    (sum_blocks 32 128 4096 rfl fun R => D.scoreCt (headOf c) R n * (D.q R c * eighth))

/-- The kernel's gradient of the values. -/
theorem dv_array (n : Fin 4608) (c : Fin 512) : x.dvUpTo 32 (ix2 n c) = D.dv n c :=
  (dv_upTo H 32 le_rfl n c).trans (sum_blocks 32 128 4096 rfl fun R => D.prob (headOf c) R n * D.y R c)

/-- The kernel's gradient of the biases. -/
theorem db_array (h : Fin 8) (j : Fin 640) (r : Fin 128) : x.dbUpTo 32 (ix3 h j r) = D.db h j r :=
  db_upTo H 32 le_rfl h j r

end Cert.Att

end
-- ==== Proof.Att.Table.lean ====
/- The entry of the table of biases for a distance between a query and a key, as the host computes it in words. -/
module

public import Idealize.ShloMosaic.PureOps.Ideal.Laws

@[expose] public section

set_option maxRecDepth 16384

namespace Cert.Att

open Idealize.ShloMosaic

/-- The entry of the table for a distance `z`: clipped to ±256, then counted from -256 (and from the table's end, were it negative). -/
def word (z : BitVec 32) : BitVec 32 :=
  Scalar.select (IntOp.cmpi .slt (IntOp.minsi 256#32 (IntOp.maxsi 4294967040#32 z) + 256#32) 0#32)
    (IntOp.minsi 256#32 (IntOp.maxsi 4294967040#32 z) + 256#32 + 513#32) (IntOp.minsi 256#32 (IntOp.maxsi 4294967040#32 z) + 256#32)

theorem word_eq : ∀ x : Fin 640, word (575#32 - BitVec.ofNat 32 x.val) = BitVec.ofNat 32 (min (831 - x.val) 512) := by
  decide +kernel

/-- Such an entry, read as a signed word and held to the table's extent, is the entry meant. -/
theorem entry_eq (n : ℕ) (hn : n ≤ 512) : min (BitVec.ofNat 32 n).toInt.toNat (513 - 1) = n := by
  rw [BitVec.toInt_ofNat', Int.bmod_eq_of_le (by omega) (by omega)]
  omega

end Cert.Att
-- ==== Proof.Att.HostBias.lean ====
/- The biases that the kernel's host lines lay out for a pair of chunks: each head's table, gathered by clipped distance
   and skewed, is placed in the band of either chunk, with minus infinity beside it. -/
module

public import proofs.«01_k».proof.Proof.Gen.KernelIdeal.Frame.Runs
public import proofs.«01_k».proof.Proof.Att.Rows
public import proofs.«01_k».proof.Proof.Att.Table
public import Idealize.ShloMosaic.Lib.KernelVsHost

@[expose] public section

set_option maxRecDepth 16384

noncomputable section

namespace Cert.Att

open Idealize.ShloMosaic Cert.KernelIdeal Cert.KernelIdeal.Gen Idealize.ShloMosaic.TcCoe Idealize.ShloMosaic.StableHlo

variable {F : FTy → Type} [FloatOps F] [Named F]

/-- The entries that the host gathers, by position. -/
def entries : IVec S640x1 32 :=
  broadcastInDim S640x1 ![0] bcast_S640_S640x1_0
    (select (cmpi .slt (addi (minsi (broadcastInDim S640 ![] bcast_S_S640 (constantI S_ 32 256#32)) (maxsi (broadcastInDim S640 ![] bcast_S_S640 (constantI S_ 32 4294967040#32)) (subi (broadcastInDim S640 ![] bcast_S_S640 (constantI S_ 32 575#32)) (iotaInDim S640 32 0)))) (broadcastInDim S640 ![] bcast_S_S640 (constantI S_ 32 256#32))) (broadcastInDim S640 ![] bcast_S_S640 (constantI S_ 32 0#32)))
      (addi (addi (minsi (broadcastInDim S640 ![] bcast_S_S640 (constantI S_ 32 256#32)) (maxsi (broadcastInDim S640 ![] bcast_S_S640 (constantI S_ 32 4294967040#32)) (subi (broadcastInDim S640 ![] bcast_S_S640 (constantI S_ 32 575#32)) (iotaInDim S640 32 0)))) (broadcastInDim S640 ![] bcast_S_S640 (constantI S_ 32 256#32))) (broadcastInDim S640 ![] bcast_S_S640 (constantI S_ 32 513#32)))
      (addi (minsi (broadcastInDim S640 ![] bcast_S_S640 (constantI S_ 32 256#32)) (maxsi (broadcastInDim S640 ![] bcast_S_S640 (constantI S_ 32 4294967040#32)) (subi (broadcastInDim S640 ![] bcast_S_S640 (constantI S_ 32 575#32)) (iotaInDim S640 32 0)))) (broadcastInDim S640 ![] bcast_S_S640 (constantI S_ 32 256#32))))

/-- The bias of one chunk's band. -/
def bandOf (T : FVec F S8x513 .f32) : FVec F S8x64x576 .f32 :=
  extractStridedSlice S8x64x576 ![0, 0, 63] (shapeCast S8x64x639 (extractStridedSlice S8x40896 ![0, 0] (shapeCast S8x40960
    (broadcastInDim S1x8x64x640 ![0, 1, 2, 3] bcast_S1x8x1x640_S1x8x64x640_0_1_2_3 (shapeCast S1x8x1x640
      (Host.gather gather_S8x513_S640x1_S8x640_0_1_n_n_1_1_81 T entries) shapeCasts_S8x640_S1x8x1x640)) shapeCasts_S1x8x64x640_S8x40960)
    slices_S8x40960_S8x40896_0_0) shapeCasts_S8x40896_S8x64x639) slices_S8x64x639_S8x64x576_0_0_63

/-- The biases of a pair of chunks, of one chunk's band. -/
def pairOf (b : FVec F S8x64x576 .f32) : FVec F S8x640x128 .f32 :=
  transpose S8x640x128 [0, 2, 1] (concatenate S8x128x640 1
    [⟨S8x64x640, pad S8x64x640 ![0, 0, 0] ![0, 0, 64] ![0, 0, 0] b (constant S_ .f32 0xFF800000#32) pads_S8x64x576_S8x64x640_000_000_0640 h_S_⟩,
     ⟨S8x64x640, pad S8x64x640 ![0, 0, 64] ![0, 0, 0] ![0, 0, 0] b (constant S_ .f32 0xFF800000#32) pads_S8x64x576_S8x64x640_000_000_6400 h_S_⟩]
    concatenates_S8x64x640_S8x64x640_S8x128x640_d1) transposes_S8x128x640_S8x640x128_0_2_1

set_option maxHeartbeats 1000000 in
/-- The host lines before the pads leave one chunk's band of biases. -/
theorem host_band (V0 : Valuation τ sig (Elt F)) :
    after (hostOps0 ++ hostOps0_1 ++ hostOps0_2) V0 (Proc.devRef .tc main_v18) = bandOf (V0 (Proc.devRef .tc main_arg2)) := by
  simp only [hostOps0, hostOps0_1, hostOps0_2, List.cons_append, List.nil_append, TRef.binary, TRef.unary, TRef.toBuf, TRef.ofBuf, cast_eq]
  after_results_simp
  rfl

set_option maxHeartbeats 1000000 in
/-- The host lines of the pads. -/
theorem host_pads (V0 : Valuation τ sig (Elt F)) :
    after (hostOps0_3 ++ hostOps0_4 ++ hostOps0_5) V0 (Proc.devRef .tc main_v19)
        = pad S8x64x640 ![0, 0, 0] ![0, 0, 64] ![0, 0, 0] (V0 (Proc.devRef .tc main_v18)) (V0 (Proc.devRef .tc main_cst)) pads_S8x64x576_S8x64x640_000_000_0640 h_S_
      ∧ after (hostOps0_3 ++ hostOps0_4 ++ hostOps0_5) V0 (Proc.devRef .tc main_v20)
        = pad S8x64x640 ![0, 0, 64] ![0, 0, 0] ![0, 0, 0] (V0 (Proc.devRef .tc main_v18)) (constant S_ .f32 0xFF800000#32) pads_S8x64x576_S8x64x640_000_000_6400 h_S_ := by
  constructor
  · simp only [hostOps0_3, hostOps0_4, hostOps0_5, List.cons_append, List.nil_append, TRef.binary, TRef.unary, TRef.toBuf, TRef.ofBuf, cast_eq]
    after_results_simp
    rfl
  · simp only [hostOps0_3, hostOps0_4, hostOps0_5, List.cons_append, List.nil_append, TRef.binary, TRef.unary, TRef.toBuf, TRef.ofBuf, cast_eq]
    after_results_simp
    rfl

set_option maxHeartbeats 1000000 in
theorem host_negInf (V0 : Valuation τ sig (Elt F)) :
    after (hostOps0 ++ hostOps0_1 ++ hostOps0_2) V0 (Proc.devRef .tc main_cst) = constant S_ .f32 0xFF800000#32 := by
  simp only [hostOps0, hostOps0_1, hostOps0_2, List.cons_append, List.nil_append, TRef.binary, TRef.unary, TRef.toBuf, TRef.ofBuf, cast_eq]
  after_results_simp

set_option maxHeartbeats 1000000 in
theorem host_pair (V0 : Valuation τ sig (Elt F)) :
    after hostOps0_6 V0 (Proc.devRef .tc main_v22)
      = transpose S8x640x128 [0, 2, 1] (concatenate S8x128x640 1
        [⟨S8x64x640, (V0 (Proc.devRef .tc main_v19) : FVec F S8x64x640 .f32)⟩, ⟨S8x64x640, (V0 (Proc.devRef .tc main_v20) : FVec F S8x64x640 .f32)⟩]
        concatenates_S8x64x640_S8x64x640_S8x128x640_d1) transposes_S8x128x640_S8x640x128_0_2_1 := by
  simp only [hostOps0_6]
  after_results_simp

/-- The host lines leave the pair's biases in the array that the kernel reads. -/
theorem host_biases (V0 : Valuation τ sig (Elt F)) :
    after (List.flatten [hostOps0, hostOps0_1, hostOps0_2, hostOps0_3, hostOps0_4, hostOps0_5, hostOps0_6]) V0 (Proc.devRef .tc main_v22)
      = pairOf (bandOf (V0 (Proc.devRef .tc main_arg2))) := by
  have e : List.flatten [hostOps0, hostOps0_1, hostOps0_2, hostOps0_3, hostOps0_4, hostOps0_5, hostOps0_6]
      = (hostOps0 ++ hostOps0_1 ++ hostOps0_2) ++ ((hostOps0_3 ++ hostOps0_4 ++ hostOps0_5) ++ (hostOps0_6 : List (HloOp τ sig (Elt F)))) := by
    simp only [List.flatten_cons, List.flatten_nil, List.append_nil, List.append_assoc]
  rw [e, after_append, after_append, host_pair, (host_pads _).1, (host_pads _).2, host_band, host_negInf]
  rfl

theorem entries_apply (x : Fin 640) : entries (ix2 x 0) = BitVec.ofNat 32 (min (831 - x.val) 512) := by
  refine Eq.trans ?_ (word_eq x)
  unfold entries
  rw [broadcastInDim_apply _ _ _ _ (ix1 x) (fun a => by match a with | ⟨0, _⟩ => rfl)]
  rfl

/-- The gather reads, of each head, the entry at each position. -/
theorem gather_apply (T : FVec F S8x513 .f32) (I : IVec S640x1 32) (h : Fin 8) (x : Fin 640) :
    Host.gather gather_S8x513_S640x1_S8x640_0_1_n_n_1_1_81 T I (ix2 h x)
      = T (ix2 h ⟨min (I (ix2 x 0)).toInt.toNat (513 - 1), by omega⟩) := by
  unfold Host.gather
  refine congrArg T (funext fun a => Fin.ext ?_)
  show GatherDims.start gather_S8x513_S640x1_S8x640_0_1_n_n_1_1_81 (ix2 h x) I a
    + GatherDims.batchCoord gather_S8x513_S640x1_S8x640_0_1_n_n_1_1_81 (ix2 h x) a
    + GatherDims.offCoord gather_S8x513_S640x1_S8x640_0_1_n_n_1_1_81 (ix2 h x) a = _
  rw [GatherDims.batchCoord_eq_zero _ _ _ List.not_mem_nil, Nat.add_zero]
  match a with
  | ⟨0, _⟩ =>
    unfold GatherDims.start GatherDims.offCoord
    rw [dif_neg (by decide +revert), dif_pos (by decide +revert), Nat.zero_add]
    rfl
  | ⟨1, _⟩ =>
    have hm : (⟨1, by decide⟩ : Fin S8x513.rank) ∈ gather_S8x513_S640x1_S8x640_0_1_n_n_1_1_81.startIndexMap := by decide
    rw [GatherDims.offCoord_eq_zero _ _ _ (by decide +revert), Nat.add_zero]
    unfold GatherDims.start
    rw [dif_pos hm]
    have hsi : GatherDims.siIdx gather_S8x513_S640x1_S8x640_0_1_n_n_1_1_81 (ix2 h x)
        ⟨List.idxOf (⟨1, by decide⟩ : Fin S8x513.rank) gather_S8x513_S640x1_S8x640_0_1_n_n_1_1_81.startIndexMap, List.idxOf_lt_length_iff.2 hm⟩ = ix2 x 0 := by
      funext b; refine Fin.ext ?_
      match b with
      | ⟨0, _⟩ => rfl
      | ⟨1, _⟩ => rfl
    rw [hsi]
    rfl

theorem gathered_apply (T : FVec F S8x513 .f32) (h : Fin 8) (x : Fin 640) :
    Host.gather gather_S8x513_S640x1_S8x640_0_1_n_n_1_1_81 T entries (ix2 h x) = T (ix2 h ⟨min (831 - x.val) 512, by omega⟩) := by
  rw [gather_apply]
  refine congrArg T (congrArg (ix2 h) (Fin.ext ?_))
  show min (entries (ix2 x 0)).toInt.toNat (513 - 1) = min (831 - x.val) 512
  rw [entries_apply, entry_eq _ (Nat.min_le_right _ _)]

/-- The band's bias at a query row and a key row of it. -/
theorem bandOf_apply (T : FVec F S8x513 .f32) (h : Fin 8) (q : Fin 64) (j : Fin 576) :
    bandOf T (ix3 h q j) = T (ix2 h (distance q.val j.val)) := by
  unfold bandOf
  have e : 63 + j.val - q.val < 640 := by omega
  rw [extractStridedSlice_apply _ _ _ _ (ix3 h q (⟨63 + j.val, by omega⟩ : Fin 639)) (fun a => by
      match a with
      | ⟨0, _⟩ => exact (Nat.zero_add _).symm
      | ⟨1, _⟩ => exact (Nat.zero_add _).symm
      | ⟨2, _⟩ => rfl),
    shapeCast_apply _ _ _ (ix2 h (⟨639 * q.val + (63 + j.val), by omega⟩ : Fin 40896)) (by
      rw [Shape.rowMajor_val_two, Shape.rowMajor_val_three]
      show h.val * 40896 + (639 * q.val + (63 + j.val)) = (h.val * 64 + q.val) * 639 + (63 + j.val); omega),
    extractStridedSlice_apply _ _ _ _ (ix2 h (⟨639 * q.val + (63 + j.val), by omega⟩ : Fin 40960)) (fun a => by
      match a with
      | ⟨0, _⟩ => exact (Nat.zero_add _).symm
      | ⟨1, _⟩ => exact (Nat.zero_add _).symm),
    shapeCast_apply _ _ _ (ix4 (0 : Fin 1) h q (⟨63 + j.val - q.val, e⟩ : Fin 640)) (by
      rw [Shape.rowMajor_val_two, Shape.rowMajor_val_four]
      show ((0 * 8 + h.val) * 64 + q.val) * 640 + (63 + j.val - q.val) = h.val * 40960 + (639 * q.val + (63 + j.val)); omega),
    broadcastInDim_apply _ _ _ _ (ix4 (0 : Fin 1) h (0 : Fin 1) (⟨63 + j.val - q.val, e⟩ : Fin 640)) (fun a => by
      match a with
      | ⟨0, _⟩ => rfl
      | ⟨1, _⟩ => rfl
      | ⟨2, _⟩ => rfl
      | ⟨3, _⟩ => rfl),
    shapeCast_apply _ _ _ (ix2 h (⟨63 + j.val - q.val, e⟩ : Fin 640)) (by
      rw [Shape.rowMajor_val_two, Shape.rowMajor_val_four]
      show h.val * 640 + (63 + j.val - q.val) = ((0 * 8 + h.val) * 1 + 0) * 640 + (63 + j.val - q.val); omega),
    gathered_apply]
  refine congrArg T (congrArg (ix2 h) (Fin.ext ?_))
  show min (831 - (63 + j.val - q.val)) 512 = min (q.val + 768 - j.val) 512
  omega

/-- The pair's bias at a key row and a query row of the pair. -/
theorem pairOf_apply (b : FVec Ideal S8x64x576 .f32) (t : Fin 8 → Fin 513 → EReal)
    (hb : ∀ h q j, b (ix3 h q j) = t h (distance q.val j.val)) (h : Fin 8) (j : Fin 640) (r : Fin 128) :
    pairOf b (ix3 h j r) = pairBias t h j r := by
  unfold pairOf
  rw [transpose_apply _ _ _ _ (ix3 h r j) (fun a => by
    match a with
    | ⟨0, _⟩ => rfl
    | ⟨1, _⟩ => rfl
    | ⟨2, _⟩ => rfl)]
  unfold pairBias
  by_cases hr : r.val < 64
  · refine (concatenate_pair_apply_left (t := S8x128x640) (s₁ := S8x64x640) (s₂ := S8x64x640) 1 _ _ _ _ rfl (ix3 h (⟨r.val, hr⟩ : Fin 64) j) (fun a => by
      match a with
      | ⟨0, _⟩ => rfl
      | ⟨1, _⟩ => rfl
      | ⟨2, _⟩ => rfl)).trans ?_
    by_cases hj : j.val < 576
    · rw [if_pos (by omega), pad_apply_of_inside _ _ _ _ _ _ _ _ (ix3 h (⟨r.val, hr⟩ : Fin 64) (⟨j.val, hj⟩ : Fin 576)) (fun a => by
        match a with
        | ⟨0, _⟩ => show h.val = 0 + h.val * 1; omega
        | ⟨1, _⟩ => show r.val = 0 + r.val * 1; omega
        | ⟨2, _⟩ => show j.val = 0 + j.val * 1; omega)]
      exact hb _ _ _
    · rw [if_neg (by omega), pad_apply_of_not_inside _ _ _ _ _ _ _ _ (⟨2, by decide⟩ : Fin 3) (by
        show ¬ (0 ≤ j.val ∧ (j.val - 0) % (0 + 1) = 0 ∧ (j.val - 0) / (0 + 1) < 576); omega)]
      exact ofBits_negInf
  · have hr' : r.val - 64 < 64 := by omega
    refine (concatenate_pair_apply_right (t := S8x128x640) (s₁ := S8x64x640) (s₂ := S8x64x640) 1 _ _ _ _ rfl rfl (ix3 h (⟨r.val - 64, hr'⟩ : Fin 64) j) (fun a ha => by
      match a with
      | ⟨0, _⟩ => rfl
      | ⟨1, _⟩ => exact absurd rfl ha
      | ⟨2, _⟩ => rfl) (by show r.val - 64 + 64 = r.val; omega)).trans ?_
    by_cases hj : 64 ≤ j.val
    · rw [if_pos (by omega), pad_apply_of_inside _ _ _ _ _ _ _ _ (ix3 h (⟨r.val - 64, hr'⟩ : Fin 64) (⟨j.val - 64, by omega⟩ : Fin 576)) (fun a => by
        match a with
        | ⟨0, _⟩ => show h.val = 0 + h.val * 1; omega
        | ⟨1, _⟩ => show r.val - 64 = 0 + (r.val - 64) * 1; omega
        | ⟨2, _⟩ => show j.val = 64 + (j.val - 64) * 1; omega)]
      refine (hb _ _ _).trans (congrArg (t h) (Fin.ext ?_))
      show min (r.val - 64 + 768 - (j.val - 64)) 512 = min (r.val + 768 - j.val) 512
      omega
    · rw [if_neg (by omega), pad_apply_of_not_inside _ _ _ _ _ _ _ _ (⟨2, by decide⟩ : Fin 3) (by
        show ¬ (64 ≤ j.val ∧ (j.val - 64) % (0 + 1) = 0 ∧ (j.val - 64) / (0 + 1) < 576); omega)]
      exact ofBits_negInf

end Cert.Att

end
-- ==== Proof.Att.DataOf.lean ====
/- The attention's data read from the three argument arrays. -/
module

public import proofs.«01_k».proof.Proof.Att.Spec

@[expose] public section

noncomputable section

namespace Cert.Att

open Idealize.ShloMosaic

/-- The attention's data, of the projections (queries, keys, values side by side), the cotangent of the output and the
    table of biases. -/
def dataOf (X : FVec Ideal ⟨2, ![4096, 1536]⟩ .bf16) (Y : FVec Ideal ⟨2, ![4096, 512]⟩ .bf16) (T : FVec Ideal ⟨2, ![8, 513]⟩ .f32) : Data where
  q R c := X (ix2 R (⟨c.val, by omega⟩ : Fin 1536))
  y R c := Y (ix2 R c)
  k n c := if h : 512 ≤ n.val then X (ix2 (⟨n.val - 512, by omega⟩ : Fin 4096) (⟨512 + c.val, by omega⟩ : Fin 1536)) else 0
  v n c := if h : 512 ≤ n.val then X (ix2 (⟨n.val - 512, by omega⟩ : Fin 4096) (⟨1024 + c.val, by omega⟩ : Fin 1536)) else 0
  b h i := T (ix2 h i)

end Cert.Att

end
-- ==== Proof.Att.Values.lean ====
/- The kernel's run over the extended reals: its four results are the attention's gradients of the launch contents. -/
module

public import proofs.«01_k».proof.Proof.Att.Run
public import proofs.«01_k».proof.Proof.Att.HostBias
public import proofs.«01_k».proof.Proof.Att.DataOf

@[expose] public section

set_option maxRecDepth 16384

noncomputable section

namespace Cert.Att

open Idealize.ShloMosaic Cert.KernelIdeal Cert.KernelIdeal.Gen Idealize.ShloMosaic.TcCoe Idealize.SL.Sem

theorem ofBits_zero_bf16 : Ideal.ofBits .bf16 0x0000#16 = 0 := by simp [Ideal.ofBits, Ideal.ieee]

theorem padded_apply (o : ℕ) (ho : o + 512 ≤ 1536) (X : FVec Ideal S4096x1536 .bf16) (n : Fin 4608) (c : Fin 512) :
    padded (cols o ho X) (ix2 n c)
      = if h : 512 ≤ n.val then X (ix2 (⟨n.val - 512, by omega⟩ : Fin 4096) (⟨o + c.val, by omega⟩ : Fin 1536)) else 0 := by
  by_cases h : 512 ≤ n.val
  · rw [dif_pos h]; exact dif_pos h
  · rw [dif_neg h]; exact (dif_neg h).trans ofBits_zero_bf16

variable (m : (ℓ : Loc nD τ sig) → Buf (Elt Ideal) ℓ) (ρ : Dev nD → PrngReg)

/-- What the loop reads is the launch's data. -/
theorem holds_ins (c : Dev nD) :
    Holds (ins m c) (dataOf (m ((c.tc : Thread nD τ).loc main_arg0)) (m ((c.tc : Thread nD τ).loc main_arg1)) (m ((c.tc : Thread nD τ).loc main_arg2))) where
  q R d := by
    refine (congrFun (congrArg (fun a => (insOf a (V m c main_arg1) (V m c main_v22)).q) (V_main_arg0 m c)) (ix2 R d)).trans ?_
    exact congrArg (m ((c.tc : Thread nD τ).loc main_arg0)) (congrArg (ix2 R) (Fin.ext (Nat.zero_add _)))
  y R d := congrFun (V_main_arg1 m c) (ix2 R d)
  k n d := by
    refine (congrFun (congrArg (fun a => (insOf a (V m c main_arg1) (V m c main_v22)).k) (V_main_arg0 m c)) (ix2 n d)).trans ?_
    exact padded_apply 512 _ _ n d
  v n d := by
    refine (congrFun (congrArg (fun a => (insOf a (V m c main_arg1) (V m c main_v22)).v) (V_main_arg0 m c)) (ix2 n d)).trans ?_
    exact padded_apply 1024 _ _ n d
  b h j r := by
    refine (congrFun (host_biases (fun b => m (c, b))) (ix3 h j r)).trans ?_
    exact pairOf_apply _ _ (fun h q j => bandOf_apply _ h q j) h j r

/-- Arrays of the kernel's results, of the attention's data. -/
def dqOf (D : Data) : FVec Ideal S4096x512 .bf16 := fun y => D.dq (y 0) (y 1)
def dkOf (D : Data) : FVec Ideal S4608x512 .f32 := fun y => D.dk (y 0) (y 1)
def dvOf (D : Data) : FVec Ideal S4608x512 .f32 := fun y => D.dv (y 0) (y 1)
def dbOf (D : Data) : FVec Ideal S8x640x128 .f32 := fun y => D.db (y 0) (y 1) (y 2)

/-- The kernel ends with the attention's gradients in its four results and its arguments as launched. -/
theorem run_values : θ_run defs (onTc (τ := τ) (main (F := Ideal))) ⟨m, fun _ => 0, ρ⟩ fun r => ∀ c : Dev nD,
    r.2.mem ((c.tc : Thread nD τ).loc main_v23_0) = dqOf (dataOf (m ((c.tc : Thread nD τ).loc main_arg0)) (m ((c.tc : Thread nD τ).loc main_arg1)) (m ((c.tc : Thread nD τ).loc main_arg2)))
    ∧ r.2.mem ((c.tc : Thread nD τ).loc main_v23_1) = dkOf (dataOf (m ((c.tc : Thread nD τ).loc main_arg0)) (m ((c.tc : Thread nD τ).loc main_arg1)) (m ((c.tc : Thread nD τ).loc main_arg2)))
    ∧ r.2.mem ((c.tc : Thread nD τ).loc main_v23_2) = dvOf (dataOf (m ((c.tc : Thread nD τ).loc main_arg0)) (m ((c.tc : Thread nD τ).loc main_arg1)) (m ((c.tc : Thread nD τ).loc main_arg2)))
    ∧ r.2.mem ((c.tc : Thread nD τ).loc main_v23_3) = dbOf (dataOf (m ((c.tc : Thread nD τ).loc main_arg0)) (m ((c.tc : Thread nD τ).loc main_arg1)) (m ((c.tc : Thread nD τ).loc main_arg2)))
    ∧ r.2.mem ((c.tc : Thread nD τ).loc main_arg0) = m ((c.tc : Thread nD τ).loc main_arg0)
    ∧ r.2.mem ((c.tc : Thread nD τ).loc main_arg1) = m ((c.tc : Thread nD τ).loc main_arg1)
    ∧ r.2.mem ((c.tc : Thread nD τ).loc main_arg2) = m ((c.tc : Thread nD τ).loc main_arg2) := by
  refine (θ_run defs _ _).mono (fun r h c => ?_) (θ_run_and (run m ρ) (frame m ρ))
  obtain ⟨h0, h1, h2, h3⟩ := h.1 c
  have H := holds_ins m c
  refine ⟨h0.trans (funext fun y => ?_), h1.trans (funext fun y => ?_), h2.trans (funext fun y => ?_), h3.trans (funext fun y => ?_), h.2.1 c⟩
  · exact (congrArg _ (eq_ix2 y)).trans (dq_array H (y 0) (y 1))
  · exact (congrArg _ (eq_ix2 y)).trans (dk_array H (y 0) (y 1))
  · exact (congrArg _ (eq_ix2 y)).trans (dv_array H (y 0) (y 1))
  · exact (congrArg _ (eq_ix3 y)).trans (db_array H (y 0) (y 1) (y 2))

end Cert.Att

end
-- ==== Proof.Att.RefBand.lean ====
/- The reference's queries, keys and values: chunks of 64 query rows, and the band of 576 key rows that each chunk sees. -/
module

public import proofs.«01_k».proof.Proof.Gen.ReferenceIdeal.Read
public import proofs.«01_k».proof.Proof.Att.DataOf

@[expose] public section

set_option maxRecDepth 16384

noncomputable section

namespace Cert.Att.Ref

open Idealize.ShloMosaic Cert.ReferenceIdeal Cert.ReferenceIdeal.Gen Cert.ReferenceIdeal.Read

/-- The query row `q` of chunk `c`. -/
def row (c q : Fin 64) : Fin 4096 := ⟨64 * c.val + q.val, by omega⟩

/-- The key row `j` of the band of chunk `c`. -/
def key (c : Fin 64) (j : Fin 576) : Fin 4608 := ⟨64 * c.val + j.val, by omega⟩

/-- A row of chunks and a column of heads, of the array cut into both. -/
theorem chunks_apply (x : FVec Ideal S4096x512 .f32) (c q : Fin 64) (h : Fin 8) (d : Fin 64) :
    shapeCast S64x64x8x64 x shapeCasts_S4096x512_S64x64x8x64 (ix4 c q h d) = x (ix2 (row c q) (col h d)) :=
  shapeCast_apply _ _ _ _ (by
    rw [Shape.rowMajor_val_two, Shape.rowMajor_val_four]
    show (64 * c.val + q.val) * 512 + (64 * h.val + d.val) = ((c.val * 64 + q.val) * 8 + h.val) * 64 + d.val; omega)

theorem keyChunks_apply (x : FVec Ideal S4608x512 .f32) (a : Fin 72) (b : Fin 64) (h : Fin 8) (d : Fin 64) :
    shapeCast S72x64x8x64 x shapeCasts_S4608x512_S72x64x8x64 (ix4 a b h d) = x (ix2 (⟨64 * a.val + b.val, by omega⟩ : Fin 4608) (col h d)) :=
  shapeCast_apply _ _ _ _ (by
    rw [Shape.rowMajor_val_two, Shape.rowMajor_val_four]
    show (64 * a.val + b.val) * 512 + (64 * h.val + d.val) = ((a.val * 64 + b.val) * 8 + h.val) * 64 + d.val; omega)

/-- 512 rows of zeros ahead of an array. -/
theorem joined_apply (x : FVec Ideal S4096x512 .f32) (n : Fin 4608) (c : Fin 512) :
    concatenate S4608x512 0 [⟨S512x512, val_main_v27 (F := Ideal)⟩, ⟨S4096x512, x⟩] concatenates_S512x512_S4096x512_S4608x512_d0 (ix2 n c)
      = if h : 512 ≤ n.val then x (ix2 (⟨n.val - 512, by omega⟩ : Fin 4096) c) else 0 := by
  by_cases hn : 512 ≤ n.val
  · rw [dif_pos hn]
    exact concatenate_pair_apply_right (t := S4608x512) (s₁ := S512x512) (s₂ := S4096x512) 0 _ _ _ _ rfl rfl (ix2 (⟨n.val - 512, by omega⟩ : Fin 4096) c) (fun a ha => by
      match a with
      | ⟨0, _⟩ => exact absurd rfl ha
      | ⟨1, _⟩ => rfl) (by show n.val - 512 + 512 = n.val; omega)
  · rw [dif_neg hn]
    refine (concatenate_pair_apply_left (t := S4608x512) (s₁ := S512x512) (s₂ := S4096x512) 0 _ _ _ _ rfl (ix2 (⟨n.val, by omega⟩ : Fin 512) c) (fun a => by
      match a with
      | ⟨0, _⟩ => rfl
      | ⟨1, _⟩ => rfl)).trans ?_
    exact Ideal.ofBits_zero_f32

/-- Nine runs of 64 chunks of an array, side by side: of each chunk its own rows and those of the eight after it. -/
def band (a : FVec Ideal S72x64x8x64 .f32) : FVec Ideal S64x576x8x64 .f32 :=
  concatenate S64x576x8x64 1 [⟨S64x64x8x64, extractStridedSlice S64x64x8x64 ![0, 0, 0, 0] a slices_S72x64x8x64_S64x64x8x64_0_0_0_0⟩, ⟨S64x64x8x64, extractStridedSlice S64x64x8x64 ![1, 0, 0, 0] a slices_S72x64x8x64_S64x64x8x64_1_0_0_0⟩, ⟨S64x64x8x64, extractStridedSlice S64x64x8x64 ![2, 0, 0, 0] a slices_S72x64x8x64_S64x64x8x64_2_0_0_0⟩, ⟨S64x64x8x64, extractStridedSlice S64x64x8x64 ![3, 0, 0, 0] a slices_S72x64x8x64_S64x64x8x64_3_0_0_0⟩, ⟨S64x64x8x64, extractStridedSlice S64x64x8x64 ![4, 0, 0, 0] a slices_S72x64x8x64_S64x64x8x64_4_0_0_0⟩, ⟨S64x64x8x64, extractStridedSlice S64x64x8x64 ![5, 0, 0, 0] a slices_S72x64x8x64_S64x64x8x64_5_0_0_0⟩, ⟨S64x64x8x64, extractStridedSlice S64x64x8x64 ![6, 0, 0, 0] a slices_S72x64x8x64_S64x64x8x64_6_0_0_0⟩, ⟨S64x64x8x64, extractStridedSlice S64x64x8x64 ![7, 0, 0, 0] a slices_S72x64x8x64_S64x64x8x64_7_0_0_0⟩, ⟨S64x64x8x64, extractStridedSlice S64x64x8x64 ![8, 0, 0, 0] a slices_S72x64x8x64_S64x64x8x64_8_0_0_0⟩]
    concatenates_S64x64x8x64_S64x64x8x64_S64x64x8x64_S64x64x8x64_S64x64x8x64_S64x64x8x64_S64x64x8x64_S64x64x8x64_S64x64x8x64_S64x576x8x64_d1

/-- The run of 64 chunks that begins at the `i`-th. -/
def runAt (a : FVec Ideal S72x64x8x64 .f32) (i : Fin 9) : FVec Ideal S64x64x8x64 .f32 := match i with
  | 0 => extractStridedSlice S64x64x8x64 ![0, 0, 0, 0] a slices_S72x64x8x64_S64x64x8x64_0_0_0_0
  | 1 => extractStridedSlice S64x64x8x64 ![1, 0, 0, 0] a slices_S72x64x8x64_S64x64x8x64_1_0_0_0
  | 2 => extractStridedSlice S64x64x8x64 ![2, 0, 0, 0] a slices_S72x64x8x64_S64x64x8x64_2_0_0_0
  | 3 => extractStridedSlice S64x64x8x64 ![3, 0, 0, 0] a slices_S72x64x8x64_S64x64x8x64_3_0_0_0
  | 4 => extractStridedSlice S64x64x8x64 ![4, 0, 0, 0] a slices_S72x64x8x64_S64x64x8x64_4_0_0_0
  | 5 => extractStridedSlice S64x64x8x64 ![5, 0, 0, 0] a slices_S72x64x8x64_S64x64x8x64_5_0_0_0
  | 6 => extractStridedSlice S64x64x8x64 ![6, 0, 0, 0] a slices_S72x64x8x64_S64x64x8x64_6_0_0_0
  | 7 => extractStridedSlice S64x64x8x64 ![7, 0, 0, 0] a slices_S72x64x8x64_S64x64x8x64_7_0_0_0
  | 8 => extractStridedSlice S64x64x8x64 ![8, 0, 0, 0] a slices_S72x64x8x64_S64x64x8x64_8_0_0_0

theorem runAt_apply (a : FVec Ideal S72x64x8x64 .f32) (i : Fin 9) (c b : Fin 64) (h : Fin 8) (d : Fin 64) :
    runAt a i (ix4 c b h d) = a (ix4 (⟨i.val + c.val, by omega⟩ : Fin 72) b h d) := by
  have at_ : ∀ (o : ℕ) (ho : o < 9) (hs : S72x64x8x64.Slices ![o, 0, 0, 0] S64x64x8x64),
      extractStridedSlice S64x64x8x64 ![o, 0, 0, 0] a hs (ix4 c b h d) = a (ix4 (⟨o + c.val, by omega⟩ : Fin 72) b h d) := fun o ho hs =>
    extractStridedSlice_apply _ _ _ _ _ (fun k => by
      match k with
      | ⟨0, _⟩ => rfl
      | ⟨1, _⟩ => exact (Nat.zero_add _).symm
      | ⟨2, _⟩ => exact (Nat.zero_add _).symm
      | ⟨3, _⟩ => exact (Nat.zero_add _).symm)
  match i with
  | 0 => exact at_ 0 (by decide) slices_S72x64x8x64_S64x64x8x64_0_0_0_0
  | 1 => exact at_ 1 (by decide) slices_S72x64x8x64_S64x64x8x64_1_0_0_0
  | 2 => exact at_ 2 (by decide) slices_S72x64x8x64_S64x64x8x64_2_0_0_0
  | 3 => exact at_ 3 (by decide) slices_S72x64x8x64_S64x64x8x64_3_0_0_0
  | 4 => exact at_ 4 (by decide) slices_S72x64x8x64_S64x64x8x64_4_0_0_0
  | 5 => exact at_ 5 (by decide) slices_S72x64x8x64_S64x64x8x64_5_0_0_0
  | 6 => exact at_ 6 (by decide) slices_S72x64x8x64_S64x64x8x64_6_0_0_0
  | 7 => exact at_ 7 (by decide) slices_S72x64x8x64_S64x64x8x64_7_0_0_0
  | 8 => exact at_ 8 (by decide) slices_S72x64x8x64_S64x64x8x64_8_0_0_0

theorem band_apply (a : FVec Ideal S72x64x8x64 .f32) (c : Fin 64) (j : Fin 576) (h : Fin 8) (d : Fin 64) :
    band a (ix4 c j h d) = a (ix4 (⟨j.val / 64 + c.val, by omega⟩ : Fin 72) (⟨j.val % 64, by omega⟩ : Fin 64) h d) := by
  refine Eq.trans ?_ (runAt_apply a ⟨j.val / 64, by omega⟩ c ⟨j.val % 64, by omega⟩ h d)
  exact concatenate_ofFn_apply (t := S64x576x8x64) (s₁ := S64x64x8x64) (N := 9) 1 (runAt a) _ rfl 64 rfl _ _ rfl (ix4 c (⟨j.val % 64, by omega⟩ : Fin 64) h d) rfl fun b hb => by
    match b with
    | ⟨0, _⟩ => rfl
    | ⟨1, _⟩ => exact absurd rfl hb
    | ⟨2, _⟩ => rfl
    | ⟨3, _⟩ => rfl

/-- The band of an array with 512 rows of zeros ahead of it, cut into chunks: row `j` of chunk `c` is row `64 c + j`. -/
theorem band_keys (x : FVec Ideal S4608x512 .f32) (c : Fin 64) (j : Fin 576) (h : Fin 8) (d : Fin 64) :
    band (shapeCast S72x64x8x64 x shapeCasts_S4608x512_S72x64x8x64) (ix4 c j h d) = x (ix2 (key c j) (col h d)) := by
  rw [band_apply, keyChunks_apply]
  refine congrArg (fun n => x (ix2 n (col h d))) (Fin.ext ?_)
  show 64 * (j.val / 64 + c.val) + j.val % 64 = 64 * c.val + j.val
  omega

variable (X : FVec Ideal ⟨2, ![4096, 1536]⟩ .bf16) (Y : FVec Ideal ⟨2, ![4096, 512]⟩ .bf16) (T : FVec Ideal ⟨2, ![8, 513]⟩ .f32)

theorem queries_apply (c q : Fin 64) (h : Fin 8) (d : Fin 64) :
    val_main_v26 (F := Ideal) X (ix4 c q h d) = (dataOf X Y T).q (row c q) (col h d) := by
  unfold val_main_v26
  rw [chunks_apply]
  unfold val_main_v1
  exact extractStridedSlice_apply _ _ _ _ (ix2 (row c q) (⟨(col h d).val, by omega⟩ : Fin 1536)) (fun a => by
    match a with
    | ⟨0, _⟩ => exact (Nat.zero_add _).symm
    | ⟨1, _⟩ => exact (Nat.zero_add _).symm)

theorem cts_apply (c q : Fin 64) (h : Fin 8) (d : Fin 64) :
    val_main_v110 (F := Ideal) Y (ix4 c h d q) = (dataOf X Y T).y (row c q) (col h d) := by
  unfold val_main_v110
  rw [transpose_apply _ _ _ _ (ix4 c q h d) (fun a => by
    match a with
    | ⟨0, _⟩ => rfl
    | ⟨1, _⟩ => rfl
    | ⟨2, _⟩ => rfl
    | ⟨3, _⟩ => rfl)]
  unfold val_main_v109
  rw [chunks_apply]
  rfl

theorem keys_apply (c : Fin 64) (j : Fin 576) (h : Fin 8) (d : Fin 64) :
    val_main_v43 (F := Ideal) X (ix4 c j h d) = (dataOf X Y T).k (key c j) (col h d) := by
  refine (band_keys (val_main_v28 (F := Ideal) X) c j h d).trans ((joined_apply _ _ _).trans ?_)
  show _ = dite _ _ _
  by_cases hn : 512 ≤ (key c j).val
  · rw [dif_pos hn, dif_pos hn]
    unfold val_main_v2
    exact extractStridedSlice_apply _ _ _ _ (ix2 (⟨(key c j).val - 512, by omega⟩ : Fin 4096) (⟨512 + (col h d).val, by omega⟩ : Fin 1536)) (fun a => by
      match a with
      | ⟨0, _⟩ => exact (Nat.zero_add _).symm
      | ⟨1, _⟩ => rfl)
  · rw [dif_neg hn, dif_neg hn]

theorem values_apply (c : Fin 64) (j : Fin 576) (h : Fin 8) (d : Fin 64) :
    val_main_v53 (F := Ideal) X (ix4 c j h d) = (dataOf X Y T).v (key c j) (col h d) := by
  refine (band_keys (val_main_v31 (F := Ideal) X) c j h d).trans ((joined_apply _ _ _).trans ?_)
  show _ = dite _ _ _
  by_cases hn : 512 ≤ (key c j).val
  · rw [dif_pos hn, dif_pos hn]
    unfold val_main_v3
    exact extractStridedSlice_apply _ _ _ _ (ix2 (⟨(key c j).val - 512, by omega⟩ : Fin 4096) (⟨1024 + (col h d).val, by omega⟩ : Fin 1536)) (fun a => by
      match a with
      | ⟨0, _⟩ => exact (Nat.zero_add _).symm
      | ⟨1, _⟩ => rfl)
  · rw [dif_neg hn, dif_neg hn]

end Cert.Att.Ref

end
-- ==== Proof.Att.RefBias.lean ====
/- The reference's bias: of each head, query row and key row of the band, the table's entry at their clipped distance. -/
module

public import proofs.«01_k».proof.Proof.Att.RefBand
public import proofs.«01_k».proof.Proof.Att.Table

@[expose] public section

set_option maxRecDepth 16384

noncomputable section

namespace Cert.Att.Ref

open Idealize.ShloMosaic Cert.ReferenceIdeal Cert.ReferenceIdeal.Gen Cert.ReferenceIdeal.Read

/-- The gather reads, of each head, the entry at each position. -/
theorem gather_apply (T : FVec Ideal S8x513 .f32) (I : IVec S64x576x1 32) (h : Fin 8) (q : Fin 64) (j : Fin 576) :
    Host.gather gather_S8x513_S64x576x1_S8x64x576_0_1_n_n_1_2_81 T I (ix3 h q j)
      = T (ix2 h ⟨min (I (ix3 q j 0)).toInt.toNat (513 - 1), by omega⟩) := by
  unfold Host.gather
  refine congrArg T (funext fun a => Fin.ext ?_)
  show GatherDims.start gather_S8x513_S64x576x1_S8x64x576_0_1_n_n_1_2_81 (ix3 h q j) I a
    + GatherDims.batchCoord gather_S8x513_S64x576x1_S8x64x576_0_1_n_n_1_2_81 (ix3 h q j) a
    + GatherDims.offCoord gather_S8x513_S64x576x1_S8x64x576_0_1_n_n_1_2_81 (ix3 h q j) a = _
  rw [GatherDims.batchCoord_eq_zero _ _ _ List.not_mem_nil, Nat.add_zero]
  match a with
  | ⟨0, _⟩ =>
    unfold GatherDims.start GatherDims.offCoord
    rw [dif_neg (by decide +revert), dif_pos (by decide +revert), Nat.zero_add]
    rfl
  | ⟨1, _⟩ =>
    have hm : (⟨1, by decide⟩ : Fin S8x513.rank) ∈ gather_S8x513_S64x576x1_S8x64x576_0_1_n_n_1_2_81.startIndexMap := by decide
    rw [GatherDims.offCoord_eq_zero _ _ _ (by decide +revert), Nat.add_zero]
    unfold GatherDims.start
    rw [dif_pos hm]
    have hsi : GatherDims.siIdx gather_S8x513_S64x576x1_S8x64x576_0_1_n_n_1_2_81 (ix3 h q j)
        ⟨List.idxOf (⟨1, by decide⟩ : Fin S8x513.rank) gather_S8x513_S64x576x1_S8x64x576_0_1_n_n_1_2_81.startIndexMap, List.idxOf_lt_length_iff.2 hm⟩ = ix3 q j 0 := by
      funext b; refine Fin.ext ?_
      match b with
      | ⟨0, _⟩ => rfl
      | ⟨1, _⟩ => rfl
      | ⟨2, _⟩ => rfl
    rw [hsi]
    rfl

theorem row_of_word (q : Fin 64) (j : Fin 576) :
    BitVec.ofNat 32 q.val + 512#32 - BitVec.ofNat 32 j.val = 575#32 - BitVec.ofNat 32 (63 + j.val - q.val) := by
  apply BitVec.eq_of_toNat_eq
  simp only [BitVec.toNat_sub, BitVec.toNat_add, BitVec.toNat_ofNat]
  omega

/-- The table's entry for a query row and a key row of the band. -/
theorem position_apply (q : Fin 64) (j : Fin 576) :
    val_main_v21 (F := Ideal) (ix3 q j 0) = BitVec.ofNat 32 (min (831 - (63 + j.val - q.val)) 512) := by
  refine Eq.trans ?_ (word_eq ⟨63 + j.val - q.val, by omega⟩)
  rw [← row_of_word]
  rfl

theorem bias_apply (T : FVec Ideal S8x513 .f32) (h : Fin 8) (q : Fin 64) (j : Fin 576) :
    val_main_v22 (F := Ideal) T (ix3 h q j) = T (ix2 h (distance q.val j.val)) := by
  unfold val_main_v22
  rw [gather_apply]
  refine congrArg T (congrArg (ix2 h) (Fin.ext ?_))
  show min (val_main_v21 (F := Ideal) (ix3 q j 0)).toInt.toNat (513 - 1) = min (q.val + 768 - j.val) 512
  rw [position_apply, entry_eq _ (Nat.min_le_right _ _)]
  omega

/-- Chunks of even and of odd number have the one bias. -/
theorem biases_apply (T : FVec Ideal S8x513 .f32) (p : Fin 2) (h : Fin 8) (q : Fin 64) (j : Fin 576) :
    val_main_v25 (F := Ideal) T (ix4 p h q j) = T (ix2 h (distance q.val j.val)) := by
  have hp : p = 0 ∨ p = 1 := by omega
  rcases hp with rfl | rfl
  · refine (concatenate_pair_apply_left (t := S2x8x64x576) (s₁ := S1x8x64x576) (s₂ := S1x8x64x576) 0 _ _ _ _ rfl (ix4 (0 : Fin 1) h q j) (fun a => by
      match a with
      | ⟨0, _⟩ => rfl
      | ⟨1, _⟩ => rfl
      | ⟨2, _⟩ => rfl
      | ⟨3, _⟩ => rfl)).trans ?_
    rw [val_main_v23_apply]
    exact (congrArg (val_main_v22 (F := Ideal) T) (eq_ix3 _)).trans (bias_apply T h q j)
  · refine (concatenate_pair_apply_right (t := S2x8x64x576) (s₁ := S1x8x64x576) (s₂ := S1x8x64x576) 0 _ _ _ _ rfl rfl (ix4 (0 : Fin 1) h q j) (fun a ha => by
      match a with
      | ⟨0, _⟩ => exact absurd rfl ha
      | ⟨1, _⟩ => rfl
      | ⟨2, _⟩ => rfl
      | ⟨3, _⟩ => rfl) rfl).trans ?_
    rw [val_main_v24_apply]
    exact (congrArg (val_main_v22 (F := Ideal) T) (eq_ix3 _)).trans (bias_apply T h q j)

end Cert.Att.Ref

end
-- ==== Proof.Att.RefScores.lean ====
/- The reference's masked scores are the attention's scores, and their rows' softmax. -/
module

public import proofs.«01_k».proof.Proof.Att.RefBias

@[expose] public section

set_option maxRecDepth 16384

noncomputable section

namespace Cert.Att.Ref

open Idealize.ShloMosaic Cert.ReferenceIdeal Cert.ReferenceIdeal.Gen Cert.ReferenceIdeal.Read

theorem negInf : Ideal.ofBits .f32 0xFF800000#32 = ⊥ := by simp [Ideal.ofBits, Ideal.ieee]

/-- Row `j` of the band of chunk `c` holds one of the keys, not a row of zeros. -/
theorem valid_apply (c : Fin 64) (h : Fin 8) (q : Fin 64) (j : Fin 576) :
    val_main_v76_1 (F := Ideal) (ix4 c h q j) = 1#1 ↔ 512 ≤ 64 * c.val + j.val := by
  have e : val_main_v76_1 (F := Ideal) (ix4 c h q j)
      = IntOp.cmpi .sge (BitVec.ofNat 32 c.val * 64#32 + BitVec.ofNat 32 j.val - 512#32) 0#32 := rfl
  have w : BitVec.ofNat 32 c.val * 64#32 + BitVec.ofNat 32 j.val - 512#32 = BitVec.ofInt 32 (64 * c.val + j.val - 512) := by
    apply BitVec.eq_of_toNat_eq
    simp only [BitVec.toNat_sub, BitVec.toNat_add, BitVec.toNat_mul, BitVec.toNat_ofNat, BitVec.toNat_ofInt]
    omega
  have t : (BitVec.ofInt 32 (64 * c.val + j.val - 512)).toInt = 64 * c.val + j.val - 512 := by
    rw [BitVec.toInt_ofInt]
    exact Int.bmod_eq_of_le (by omega) (by omega)
  rw [e, w, IntOp.cmpi_sge, t]
  show (0 : ℤ) ≤ _ ↔ _
  omega

theorem seen_key (c q : Fin 64) (j : Fin 576) : seen (row c q) (key c j) ↔ 512 ≤ 64 * c.val + j.val := by
  unfold seen row key
  show (512 ≤ 64 * c.val + j.val ∧ 64 * ((64 * c.val + q.val) / 64) ≤ 64 * c.val + j.val ∧ 64 * c.val + j.val < 64 * ((64 * c.val + q.val) / 64) + 576) ↔ _
  omega

theorem key_injective (c : Fin 64) : Function.Injective (key c) := fun a b h => by
  have := congrArg Fin.val h
  refine Fin.ext ?_
  simp only [key] at this
  omega

theorem unseen_outside (c q : Fin 64) (n : Fin 4608) (hn : ∀ j, key c j ≠ n) : ¬ seen (row c q) n := by
  unfold seen row
  show ¬ (512 ≤ n.val ∧ 64 * ((64 * c.val + q.val) / 64) ≤ n.val ∧ n.val < 64 * ((64 * c.val + q.val) / 64) + 576)
  rintro ⟨-, h1, h2⟩
  refine hn ⟨n.val - 64 * c.val, by omega⟩ (Fin.ext ?_)
  show 64 * c.val + (n.val - 64 * c.val) = n.val
  omega

variable (X : FVec Ideal ⟨2, ![4096, 1536]⟩ .bf16) (Y : FVec Ideal ⟨2, ![4096, 512]⟩ .bf16) (T : FVec Ideal ⟨2, ![8, 513]⟩ .f32)

/-- The scaled product of a query and a key, plus their bias. -/
theorem biased_apply (c : Fin 64) (h : Fin 8) (q : Fin 64) (j : Fin 576) :
    val_main_v75 (F := Ideal) X T (ix4 c h q j)
      = (∑ d : Fin 64, (dataOf X Y T).k (key c j) (col h d) * ((dataOf X Y T).q (row c q) (col h d) * eighth)) + T (ix2 h (distance q.val j.val)) := by
  unfold val_main_v75
  rw [shapeCast_apply _ _ _ (ix5 (⟨c.val / 2, by omega⟩ : Fin 32) (⟨c.val % 2, by omega⟩ : Fin 2) h q j) (by
    rw [Shape.rowMajor_val_five, Shape.rowMajor_val_four]
    show (((c.val / 2 * 2 + c.val % 2) * 8 + h.val) * 64 + q.val) * 576 + j.val = ((c.val * 8 + h.val) * 64 + q.val) * 576 + j.val
    omega)]
  rw [val_main_v60_apply]
  refine congrArg₂ (fun a b : EReal => a + b) ?_ ?_
  · unfold val_main_v57
    rw [shapeCast_apply _ _ _ (ix4 c h q j) (by
      rw [Shape.rowMajor_val_five, Shape.rowMajor_val_four]
      show ((c.val * 8 + h.val) * 64 + q.val) * 576 + j.val = (((c.val / 2 * 2 + c.val % 2) * 8 + h.val) * 64 + q.val) * 576 + j.val
      omega)]
    rw [val_main_v56_apply]
    show val_main_v54 (F := Ideal) X (ix4 c h q j) * Ideal.ofBits .f32 0x3E000000#32 = _
    rw [eighth_f32, val_main_v54_apply]
    unfold eighth
    rw [sum_scale _ (by norm_num)]
    refine Finset.sum_congr rfl fun d _ => ?_
    have e1 : val_main_v26 (F := Ideal) X (lidx_main_v54 (ix4 c h q j) d) = (dataOf X Y T).q (row c q) (col h d) :=
      (congrArg _ (eq_ix4 _)).trans (queries_apply X Y T c q h d)
    have e2 : val_main_v43 (F := Ideal) X (ridx_main_v54 (ix4 c h q j) d) = (dataOf X Y T).k (key c j) (col h d) :=
      (congrArg _ (eq_ix4 _)).trans (keys_apply X Y T c j h d)
    rw [e1, e2, mul_comm ((dataOf X Y T).q _ _), mul_assoc]
  · rw [val_main_v59_apply, val_main_v58_apply]
    exact (congrArg (val_main_v25 (F := Ideal) T) (eq_ix4 _)).trans (biases_apply T _ h q j)

/-- The masked score is the attention's score. -/
theorem score_apply (c : Fin 64) (h : Fin 8) (q : Fin 64) (j : Fin 576) :
    val_main_v76_0 (F := Ideal) X T (ix4 c h q j) = (dataOf X Y T).score h (row c q) (key c j) := by
  rw [val_main_v76_0_apply]
  unfold Data.score Scalar.select
  show (if val_main_v76_1 (F := Ideal) (ix4 c h q j) = 1#1 then _ else _) = _
  by_cases hv : 512 ≤ 64 * c.val + j.val
  · rw [if_pos ((valid_apply c h q j).2 hv), if_pos ((seen_key c q j).2 hv), biased_apply X Y T]
    refine congrArg (_ + ·) ?_
    show T (ix2 h (distance q.val j.val)) = T (ix2 h (distance (64 * c.val + q.val) (64 * c.val + j.val)))
    refine congrArg T (congrArg (ix2 h) (Fin.ext ?_))
    show min (q.val + 768 - j.val) 512 = min (64 * c.val + q.val + 768 - (64 * c.val + j.val)) 512
    omega
  · rw [if_neg (fun hh => hv ((valid_apply c h q j).1 hh)), if_neg (fun hh => hv ((seen_key c q j).1 hh))]
    exact negInf

/-- The row's largest score. -/
theorem top_apply (c : Fin 64) (h : Fin 8) (q : Fin 64) :
    val_main_v77 (F := Ideal) X T (ix3 c h q) = top ((dataOf X Y T).score h (row c q)) := by
  rw [← top_extend (key c) ((dataOf X Y T).score h (row c q)) fun n hn => Data.score_unseen _ _ _ _ (unseen_outside c q n hn)]
  unfold val_main_v77
  rw [Host.reduce_eq_fold_single FloatOps.maximumf _ _ reducesTo_S64x8x64x576_S64x8x64_d3 (by decide : S64x8x64x576.Reduces [3] S64x8x64) h_S_]
  show Finset.univ.fold max (Ideal.ofBits .f32 0xFF800000#32) _ = _
  rw [negInf]
  have hf : (val_main_v76_0 (F := Ideal) X T ∘ (by decide : S64x8x64x576.Reduces [3] S64x8x64).lift (ix3 c h q))
      = fun j : Fin 576 => (dataOf X Y T).score h (row c q) (key c j) := funext fun j =>
    (congrArg (val_main_v76_0 (F := Ideal) X T) (eq_ix4 _)).trans (score_apply X Y T c h q j)
  rw [hf]
  rfl

theorem expo_apply (c : Fin 64) (h : Fin 8) (q : Fin 64) (j : Fin 576) :
    val_main_v97 (F := Ideal) X T (ix4 c h q j) = expo ((dataOf X Y T).score h (row c q)) (key c j) := by
  rw [val_main_v97_apply, val_main_v96_apply, val_main_v95_apply, val_main_v94_apply, val_main_v84_apply]
  have e : val_main_v77 (F := Ideal) X T (idx_main_v94 (idx_main_v95 (ix4 c h q j))) = top ((dataOf X Y T).score h (row c q)) :=
    (congrArg _ (eq_ix3 _)).trans (top_apply X Y T c h q)
  rw [e, score_apply X Y T]
  show Ideal.exp (_ - max (Ideal.ofBits .f32 0xFF800000#32) _) = _
  rw [negInf, max_eq_right bot_le]
  rfl

theorem mass_apply (c : Fin 64) (h : Fin 8) (q : Fin 64) :
    val_main_v98 (F := Ideal) X T (ix3 c h q) = mass ((dataOf X Y T).score h (row c q)) := by
  rw [← mass_extend (key c) (key_injective c) ((dataOf X Y T).score h (row c q)) fun n hn => Data.score_unseen _ _ _ _ (unseen_outside c q n hn)]
  rw [val_main_v98_apply]
  show Ideal.ofBits .f32 0x00000000#32 + _ = _
  rw [Ideal.ofBits_zero_f32, zero_add]
  unfold mass
  refine Finset.sum_congr rfl fun j _ => ?_
  rw [expo_extend (key c) ((dataOf X Y T).score h (row c q)) fun n hn => Data.score_unseen _ _ _ _ (unseen_outside c q n hn)]
  exact (congrArg _ (eq_ix4 _)).trans (expo_apply X Y T c h q j)

end Cert.Att.Ref

end
-- ==== Proof.Att.RefGrad.lean ====
/- The reference's probabilities, and the cotangents of the probabilities and of the scores, at a query row and a key row of
   its chunk's band: the attention's, where the queries, the keys and the table of biases hold no infinity. -/
module

public import proofs.«01_k».proof.Proof.Att.RefScores

@[expose] public section

set_option maxRecDepth 16384

noncomputable section

namespace Cert.Att.Ref

open Idealize.ShloMosaic Cert.ReferenceIdeal Cert.ReferenceIdeal.Gen Cert.ReferenceIdeal.Read

/-- An extended real that is a real. -/
def IsReal (x : EReal) : Prop := ∃ r : ℝ, x = (r : EReal)

theorem IsReal.add {x y : EReal} (hx : IsReal x) (hy : IsReal y) : IsReal (x + y) := by
  obtain ⟨a, rfl⟩ := hx; obtain ⟨b, rfl⟩ := hy; exact ⟨a + b, (EReal.coe_add a b).symm⟩

theorem IsReal.mul {x y : EReal} (hx : IsReal x) (hy : IsReal y) : IsReal (x * y) := by
  obtain ⟨a, rfl⟩ := hx; obtain ⟨b, rfl⟩ := hy; exact ⟨a * b, (EReal.coe_mul a b).symm⟩

theorem IsReal.zero : IsReal 0 := ⟨0, rfl⟩

theorem IsReal.sum {ι : Type} (s : Finset ι) (f : ι → EReal) (hf : ∀ i, IsReal (f i)) : IsReal (∑ i ∈ s, f i) :=
  Finset.sum_induction f IsReal (fun _ _ => IsReal.add) IsReal.zero fun i _ => hf i

theorem IsReal.ne_top {x : EReal} (hx : IsReal x) : x ≠ ⊤ := by obtain ⟨a, rfl⟩ := hx; exact EReal.coe_ne_top a
theorem IsReal.ne_bot {x : EReal} (hx : IsReal x) : x ≠ ⊥ := by obtain ⟨a, rfl⟩ := hx; exact EReal.coe_ne_bot a

variable (X : FVec Ideal ⟨2, ![4096, 1536]⟩ .bf16) (Y : FVec Ideal ⟨2, ![4096, 512]⟩ .bf16) (T : FVec Ideal ⟨2, ![8, 513]⟩ .f32)

/-- Every row of scores has a positive real mass: each query sees the key of its own row. -/
theorem mass_pos (hX : ∀ i, IsReal (X i)) (hT : ∀ i, IsReal (T i)) (h : Fin 8) (R : Fin 4096) :
    ∃ σ : ℝ, 0 < σ ∧ mass ((dataOf X Y T).score h R) = (σ : EReal) := by
  have hq : ∀ c, IsReal ((dataOf X Y T).q R c) := fun c => hX _
  have hk : ∀ n c, IsReal ((dataOf X Y T).k n c) := fun n c => by
    show IsReal (dite _ _ _)
    by_cases hn : 512 ≤ n.val
    · rw [dif_pos hn]; exact hX _
    · rw [dif_neg hn]; exact IsReal.zero
  have hs : ∀ n, seen R n → IsReal ((dataOf X Y T).score h R n) := fun n hn => by
    unfold Data.score
    rw [if_pos hn]
    exact (IsReal.sum _ _ fun d => (hk _ _).mul ((hq _).mul ⟨1 / 8, rfl⟩)).add (hT _)
  refine mass_real _ (fun n => ?_) ⟨⟨R.val + 512, by omega⟩, (hs _ ?_).ne_bot⟩
  · by_cases hn : seen R n
    · exact (hs n hn).ne_top
    · rw [Data.score_unseen _ _ _ _ hn]; exact bot_ne_top
  · unfold seen
    show 512 ≤ R.val + 512 ∧ 64 * (R.val / 64) ≤ R.val + 512 ∧ R.val + 512 < 64 * (R.val / 64) + 576
    omega

theorem massRow_apply (c : Fin 64) (h : Fin 8) (q : Fin 64) :
    val_main_v99 (F := Ideal) X T (ix4 c h q 0) = mass ((dataOf X Y T).score h (row c q)) := by
  rw [val_main_v99_apply]
  exact (congrArg _ (eq_ix3 _)).trans (mass_apply X Y T c h q)

theorem prob_apply (hX : ∀ i, IsReal (X i)) (hT : ∀ i, IsReal (T i)) (c : Fin 64) (h : Fin 8) (q : Fin 64) (j : Fin 576) :
    val_main_v101 (F := Ideal) X T (ix4 c h q j) = (dataOf X Y T).prob h (row c q) (key c j) := by
  rw [val_main_v101_apply, expo_apply X Y T, val_main_v100_apply]
  have e : val_main_v99 (F := Ideal) X T (idx_main_v100 (ix4 c h q j)) = mass ((dataOf X Y T).score h (row c q)) :=
    (congrArg _ (eq_ix4 _)).trans (massRow_apply X Y T c h q)
  rw [e]
  exact soft_eq_div _ (mass_pos X Y T hX hT h (row c q)) _

theorem probCt_apply (c : Fin 64) (h : Fin 8) (q : Fin 64) (j : Fin 576) :
    val_main_v111 (F := Ideal) X Y (ix4 c h q j) = (dataOf X Y T).probCt h (row c q) (key c j) := by
  rw [val_main_v111_apply]
  unfold Data.probCt
  refine Finset.sum_congr rfl fun d _ => ?_
  have e1 : val_main_v110 (F := Ideal) Y (lidx_main_v111 (ix4 c h q j) d) = (dataOf X Y T).y (row c q) (col h d) :=
    (congrArg _ (eq_ix4 _)).trans (cts_apply X Y T c q h d)
  have e2 : val_main_v53 (F := Ideal) X (ridx_main_v111 (ix4 c h q j) d) = (dataOf X Y T).v (key c j) (col h d) :=
    (congrArg _ (eq_ix4 _)).trans (values_apply X Y T c j h d)
  rw [e1, e2, mul_comm]

theorem ofBits_one : Ideal.ofBits .f32 0x3F800000#32 = 1 := by
  simp [Ideal.ofBits, Ideal.ieee, -EReal.coe_mul]; norm_num

/-- The row's sum of the cotangents over the square of its mass. -/
theorem rowSum_apply (c : Fin 64) (h : Fin 8) (q : Fin 64) :
    val_main_v117 (F := Ideal) X Y T (ix3 c h q)
      = ∑ n, (dataOf X Y T).probCt h (row c q) n * Ideal.div 1 (mass ((dataOf X Y T).score h (row c q)) * mass ((dataOf X Y T).score h (row c q)))
          * expo ((dataOf X Y T).score h (row c q)) n := by
  rw [← sum_extend (key c) (key_injective c) _ fun n hn => by
    rw [expo_of_bot _ _ (Data.score_unseen _ _ _ _ (unseen_outside c q n hn)), mul_zero]]
  rw [val_main_v117_apply]
  show Ideal.ofBits .f32 0x00000000#32 + _ = _
  rw [Ideal.ofBits_zero_f32, zero_add]
  refine Finset.sum_congr rfl fun j _ => ?_
  refine (congrArg (val_main_v116 (F := Ideal) X Y T) (eq_ix4 _)).trans ?_
  show val_main_v116 (F := Ideal) X Y T (ix4 c h q j) = _
  rw [val_main_v116_apply, val_main_v115_apply, expo_apply X Y T, probCt_apply X Y T, val_main_v114_apply, val_main_v104_apply, val_main_v102_apply]
  have e : val_main_v99 (F := Ideal) X T (idx_main_v114 (ix4 c h q j)) = mass ((dataOf X Y T).score h (row c q)) :=
    (congrArg _ (eq_ix4 _)).trans (massRow_apply X Y T c h q)
  rw [e]
  show _ * Ideal.div (Ideal.ofBits .f32 0x3F800000#32) _ * _ = _
  rw [ofBits_one]
  rfl

theorem negRow_apply (c : Fin 64) (h : Fin 8) (q : Fin 64) :
    val_main_v122 (F := Ideal) X Y T (ix3 c h q) = - val_main_v117 (F := Ideal) X Y T (ix3 c h q) := by
  rw [val_main_v122_apply]
  show Ideal.ofBits .f32 0x00000000#32 + _ = _
  rw [Ideal.ofBits_zero_f32, zero_add, Fin.sum_univ_one, val_main_v119_apply]
  show - val_main_v118 (F := Ideal) X Y T _ = _
  refine congrArg (fun x : EReal => -x) ?_
  unfold val_main_v118
  exact shapeCast_apply _ _ _ _ (by
    rw [Shape.rowMajor_val_three, Shape.rowMajor_val_four]
    show (c.val * 8 + h.val) * 64 + q.val = ((c.val * 8 + h.val) * 64 + q.val) * 1 + 0
    omega)

theorem scoreCt_apply (hX : ∀ i, IsReal (X i)) (hT : ∀ i, IsReal (T i)) (c : Fin 64) (h : Fin 8) (q : Fin 64) (j : Fin 576) :
    val_main_v126 (F := Ideal) X Y T (ix4 c h q j) = (dataOf X Y T).scoreCt h (row c q) (key c j) := by
  rw [val_main_v126_apply]
  unfold Scalar.select
  show (if val_main_v76_1 (F := Ideal) (ix4 c h q j) = 1#1 then _ else _) = _
  by_cases hv : 512 ≤ 64 * c.val + j.val
  · rw [if_pos ((valid_apply c h q j).2 hv)]
    rw [val_main_v125_apply, val_main_v124_apply, val_main_v121_apply, val_main_v120_apply, val_main_v123_apply, probCt_apply X Y T, expo_apply X Y T]
    have e : val_main_v99 (F := Ideal) X T (idx_main_v120 (ix4 c h q j)) = mass ((dataOf X Y T).score h (row c q)) :=
      (congrArg _ (eq_ix4 _)).trans (massRow_apply X Y T c h q)
    have e2 : val_main_v122 (F := Ideal) X Y T (idx_main_v123 (ix4 c h q j)) = _ :=
      (congrArg _ (eq_ix3 _)).trans ((negRow_apply X Y T c h q).trans (congrArg (fun x : EReal => -x) (rowSum_apply X Y T c h q)))
    rw [e, e2]
    exact dsoft_eq_quotient _ _ (mass_pos X Y T hX hT h (row c q)) _
  · rw [if_neg (fun hh => hv ((valid_apply c h q j).1 hh)), Data.scoreCt_unseen _ _ _ _ (fun hh => hv ((seen_key c q j).1 hh))]
    exact Ideal.ofBits_zero_f32

end Cert.Att.Ref

end
-- ==== Proof.Att.Unband.lean ====
/- The transpose of the band: a band of 576 rows per chunk is added back, each chunk's rows where they were read, as a sum
   of nine arrays of 72 chunks. -/
module

public import proofs.«01_k».proof.Proof.Att.RefBand
public import Idealize.ShloMosaic.Lib.KernelVsHost

@[expose] public section

set_option maxRecDepth 16384

noncomputable section

namespace Cert.Att.Ref

open Idealize.ShloMosaic Cert.ReferenceIdeal Cert.ReferenceIdeal.Gen Cert.ReferenceIdeal.Read

/-- The `i`-th of the nine runs of 64 rows of each chunk's band, laid `i` chunks down an array of zeros. -/
def laid (a : FVec Ideal S64x576x8x64 .f32) (i : Fin 9) : FVec Ideal S72x64x8x64 .f32 := match i with
  | 0 => pad S72x64x8x64 ![0, 0, 0, 0] ![8, 0, 0, 0] ![0, 0, 0, 0] (extractStridedSlice S64x64x8x64 ![0, 0, 0, 0] a slices_S64x576x8x64_S64x64x8x64_0_0_0_0) (constant S_ .f32 0x00000000#32) pads_S64x64x8x64_S72x64x8x64_080_000_000_000 h_S_
  | 1 => pad S72x64x8x64 ![1, 0, 0, 0] ![7, 0, 0, 0] ![0, 0, 0, 0] (extractStridedSlice S64x64x8x64 ![0, 64, 0, 0] a slices_S64x576x8x64_S64x64x8x64_0_64_0_0) (constant S_ .f32 0x00000000#32) pads_S64x64x8x64_S72x64x8x64_170_000_000_000 h_S_
  | 2 => pad S72x64x8x64 ![2, 0, 0, 0] ![6, 0, 0, 0] ![0, 0, 0, 0] (extractStridedSlice S64x64x8x64 ![0, 128, 0, 0] a slices_S64x576x8x64_S64x64x8x64_0_128_0_0) (constant S_ .f32 0x00000000#32) pads_S64x64x8x64_S72x64x8x64_260_000_000_000 h_S_
  | 3 => pad S72x64x8x64 ![3, 0, 0, 0] ![5, 0, 0, 0] ![0, 0, 0, 0] (extractStridedSlice S64x64x8x64 ![0, 192, 0, 0] a slices_S64x576x8x64_S64x64x8x64_0_192_0_0) (constant S_ .f32 0x00000000#32) pads_S64x64x8x64_S72x64x8x64_350_000_000_000 h_S_
  | 4 => pad S72x64x8x64 ![4, 0, 0, 0] ![4, 0, 0, 0] ![0, 0, 0, 0] (extractStridedSlice S64x64x8x64 ![0, 256, 0, 0] a slices_S64x576x8x64_S64x64x8x64_0_256_0_0) (constant S_ .f32 0x00000000#32) pads_S64x64x8x64_S72x64x8x64_440_000_000_000 h_S_
  | 5 => pad S72x64x8x64 ![5, 0, 0, 0] ![3, 0, 0, 0] ![0, 0, 0, 0] (extractStridedSlice S64x64x8x64 ![0, 320, 0, 0] a slices_S64x576x8x64_S64x64x8x64_0_320_0_0) (constant S_ .f32 0x00000000#32) pads_S64x64x8x64_S72x64x8x64_530_000_000_000 h_S_
  | 6 => pad S72x64x8x64 ![6, 0, 0, 0] ![2, 0, 0, 0] ![0, 0, 0, 0] (extractStridedSlice S64x64x8x64 ![0, 384, 0, 0] a slices_S64x576x8x64_S64x64x8x64_0_384_0_0) (constant S_ .f32 0x00000000#32) pads_S64x64x8x64_S72x64x8x64_620_000_000_000 h_S_
  | 7 => pad S72x64x8x64 ![7, 0, 0, 0] ![1, 0, 0, 0] ![0, 0, 0, 0] (extractStridedSlice S64x64x8x64 ![0, 448, 0, 0] a slices_S64x576x8x64_S64x64x8x64_0_448_0_0) (constant S_ .f32 0x00000000#32) pads_S64x64x8x64_S72x64x8x64_710_000_000_000 h_S_
  | 8 => pad S72x64x8x64 ![8, 0, 0, 0] ![0, 0, 0, 0] ![0, 0, 0, 0] (extractStridedSlice S64x64x8x64 ![0, 512, 0, 0] a slices_S64x576x8x64_S64x64x8x64_0_512_0_0) (constant S_ .f32 0x00000000#32) pads_S64x64x8x64_S72x64x8x64_800_000_000_000 h_S_

theorem laid_apply (a : FVec Ideal S64x576x8x64 .f32) (i : Fin 9) (A : Fin 72) (b : Fin 64) (h : Fin 8) (d : Fin 64) :
    laid a i (ix4 A b h d) = if hA : i.val ≤ A.val ∧ A.val - i.val < 64 then a (ix4 (⟨A.val - i.val, hA.2⟩ : Fin 64) (⟨64 * i.val + b.val, by omega⟩ : Fin 576) h d) else 0 := by
  have at_ : ∀ (o p r : ℕ) (ho : o < 9) (hp : p = 64 * o) (hs : S64x576x8x64.Slices ![0, p, 0, 0] S64x64x8x64)
      (hd : S64x64x8x64.Pads (![o, 0, 0, 0] : Fin 4 → Nat) ![r, 0, 0, 0] ![0, 0, 0, 0] S72x64x8x64),
      pad S72x64x8x64 ![o, 0, 0, 0] ![r, 0, 0, 0] ![0, 0, 0, 0] (extractStridedSlice S64x64x8x64 ![0, p, 0, 0] a hs) (constant S_ .f32 0x00000000#32) hd h_S_ (ix4 A b h d)
        = if hA : o ≤ A.val ∧ A.val - o < 64 then a (ix4 (⟨A.val - o, hA.2⟩ : Fin 64) (⟨64 * o + b.val, by omega⟩ : Fin 576) h d) else 0 := fun o p r ho hp hs hd => by
    by_cases hA : o ≤ A.val ∧ A.val - o < 64
    · rw [dif_pos hA, pad_apply_of_inside _ _ _ _ _ _ _ _ (ix4 (⟨A.val - o, hA.2⟩ : Fin 64) b h d) (fun k => by
        match k with
        | ⟨0, _⟩ => show A.val = o + (A.val - o) * 1; omega
        | ⟨1, _⟩ => show b.val = 0 + b.val * 1; omega
        | ⟨2, _⟩ => show h.val = 0 + h.val * 1; omega
        | ⟨3, _⟩ => show d.val = 0 + d.val * 1; omega)]
      exact extractStridedSlice_apply _ _ _ _ _ (fun k => by
        match k with
        | ⟨0, _⟩ => exact (Nat.zero_add _).symm
        | ⟨1, _⟩ => exact congrArg (· + b.val) hp.symm
        | ⟨2, _⟩ => exact (Nat.zero_add _).symm
        | ⟨3, _⟩ => exact (Nat.zero_add _).symm)
    · rw [dif_neg hA, pad_apply_of_not_inside _ _ _ _ _ _ _ _ (0 : Fin 4) (by
        show ¬ (o ≤ A.val ∧ (A.val - o) % (0 + 1) = 0 ∧ (A.val - o) / (0 + 1) < 64)
        rw [Nat.div_one]
        exact fun hh => hA ⟨hh.1, hh.2.2⟩)]
      exact Ideal.ofBits_zero_f32
  match i with
  | 0 => exact at_ 0 0 8 (by decide) rfl slices_S64x576x8x64_S64x64x8x64_0_0_0_0 pads_S64x64x8x64_S72x64x8x64_080_000_000_000
  | 1 => exact at_ 1 64 7 (by decide) rfl slices_S64x576x8x64_S64x64x8x64_0_64_0_0 pads_S64x64x8x64_S72x64x8x64_170_000_000_000
  | 2 => exact at_ 2 128 6 (by decide) rfl slices_S64x576x8x64_S64x64x8x64_0_128_0_0 pads_S64x64x8x64_S72x64x8x64_260_000_000_000
  | 3 => exact at_ 3 192 5 (by decide) rfl slices_S64x576x8x64_S64x64x8x64_0_192_0_0 pads_S64x64x8x64_S72x64x8x64_350_000_000_000
  | 4 => exact at_ 4 256 4 (by decide) rfl slices_S64x576x8x64_S64x64x8x64_0_256_0_0 pads_S64x64x8x64_S72x64x8x64_440_000_000_000
  | 5 => exact at_ 5 320 3 (by decide) rfl slices_S64x576x8x64_S64x64x8x64_0_320_0_0 pads_S64x64x8x64_S72x64x8x64_530_000_000_000
  | 6 => exact at_ 6 384 2 (by decide) rfl slices_S64x576x8x64_S64x64x8x64_0_384_0_0 pads_S64x64x8x64_S72x64x8x64_620_000_000_000
  | 7 => exact at_ 7 448 1 (by decide) rfl slices_S64x576x8x64_S64x64x8x64_0_448_0_0 pads_S64x64x8x64_S72x64x8x64_710_000_000_000
  | 8 => exact at_ 8 512 0 (by decide) rfl slices_S64x576x8x64_S64x64x8x64_0_512_0_0 pads_S64x64x8x64_S72x64x8x64_800_000_000_000

/-- The nine runs added up, as an array of 4608 rows. -/
def unband (a : FVec Ideal S64x576x8x64 .f32) : FVec Ideal S4608x512 .f32 :=
  shapeCast S4608x512 (addf (addf (addf (addf (addf (addf (addf (addf (laid a 8) (laid a 7)) (laid a 6)) (laid a 5)) (laid a 4)) (laid a 3)) (laid a 2)) (laid a 1)) (laid a 0)) shapeCasts_S72x64x8x64_S4608x512

theorem sum_nine (f : Fin 9 → EReal) : f 8 + f 7 + f 6 + f 5 + f 4 + f 3 + f 2 + f 1 + f 0 = ∑ i, f i := by
  have e : ∑ i, f i = f 0 + f 1 + f 2 + f 3 + f 4 + f 5 + f 6 + f 7 + f 8 :=
    (Fin.sum_univ_castSucc f).trans (congrArg (· + f (Fin.last 8)) (Fin.sum_univ_eight _))
  rw [e]; abel

/-- A sum of which the one term survives whose index completes `i` to `A`. -/
theorem sum_pick (N : ℕ) (f : Fin N → EReal) (i A : ℕ) :
    (∑ c : Fin N, if i + c.val = A then f c else 0) = if hA : i ≤ A ∧ A - i < N then f ⟨A - i, hA.2⟩ else 0 := by
  by_cases hA : i ≤ A ∧ A - i < N
  · rw [dif_pos hA, Finset.sum_eq_single (⟨A - i, hA.2⟩ : Fin N), if_pos (by show i + (A - i) = A; omega)]
    · intro c _ hc
      refine if_neg fun hh => hc (Fin.ext ?_)
      show c.val = A - i
      omega
    · exact fun hh => absurd (Finset.mem_univ _) hh
  · rw [dif_neg hA]
    refine Finset.sum_eq_zero fun c _ => if_neg fun hh => hA ⟨by omega, by have := c.isLt; omega⟩

/-- Row `n` of the sum: of each chunk whose band holds it, the band's row. -/
theorem unband_apply (a : FVec Ideal S64x576x8x64 .f32) (n : Fin 4608) (h : Fin 8) (d : Fin 64) :
    unband a (ix2 n (col h d))
      = ∑ c : Fin 64, if hc : 64 * c.val ≤ n.val ∧ n.val - 64 * c.val < 576 then a (ix4 c (⟨n.val - 64 * c.val, hc.2⟩ : Fin 576) h d) else 0 := by
  unfold unband
  rw [shapeCast_apply _ _ _ (ix4 (⟨n.val / 64, by omega⟩ : Fin 72) (⟨n.val % 64, by omega⟩ : Fin 64) h d) (by
    rw [Shape.rowMajor_val_two, Shape.rowMajor_val_four]
    show ((n.val / 64 * 64 + n.val % 64) * 8 + h.val) * 64 + d.val = n.val * 512 + (64 * h.val + d.val)
    omega)]
  refine (sum_nine fun i => laid a i (ix4 (⟨n.val / 64, by omega⟩ : Fin 72) (⟨n.val % 64, by omega⟩ : Fin 64) h d)).trans ?_
  have e : ∀ i : Fin 9, laid a i (ix4 (⟨n.val / 64, by omega⟩ : Fin 72) (⟨n.val % 64, by omega⟩ : Fin 64) h d)
      = ∑ c : Fin 64, if i.val + c.val = n.val / 64 then a (ix4 c (⟨64 * i.val + n.val % 64, by omega⟩ : Fin 576) h d) else 0 := fun i => by
    rw [laid_apply]
    exact (sum_pick 64 (fun c => a (ix4 c (⟨64 * i.val + n.val % 64, by omega⟩ : Fin 576) h d)) i.val (n.val / 64)).symm
  rw [Finset.sum_congr rfl fun i _ => e i, Finset.sum_comm]
  refine Finset.sum_congr rfl fun c _ => ?_
  have e2 : (∑ i : Fin 9, if i.val + c.val = n.val / 64 then a (ix4 c (⟨64 * i.val + n.val % 64, by omega⟩ : Fin 576) h d) else 0)
      = ∑ i : Fin 9, if c.val + i.val = n.val / 64 then a (ix4 c (⟨64 * i.val + n.val % 64, by omega⟩ : Fin 576) h d) else 0 :=
    Finset.sum_congr rfl fun i _ => by rw [Nat.add_comm]
  rw [e2, sum_pick 9 (fun i => a (ix4 c (⟨64 * i.val + n.val % 64, by omega⟩ : Fin 576) h d)) c.val (n.val / 64)]
  by_cases hc : 64 * c.val ≤ n.val ∧ n.val - 64 * c.val < 576
  · rw [dif_pos hc, dif_pos (by omega)]
    refine congrArg (fun j => a (ix4 c j h d)) (Fin.ext ?_)
    show 64 * (n.val / 64 - c.val) + n.val % 64 = n.val - 64 * c.val
    omega
  · rw [dif_neg hc, dif_neg (by omega)]

end Cert.Att.Ref

end
-- ==== Proof.Att.RefResults.lean ====
/- The reference's four results are the attention's gradients. -/
module

public import proofs.«01_k».proof.Proof.Att.RefGrad
public import proofs.«01_k».proof.Proof.Att.Unband

@[expose] public section

set_option maxRecDepth 16384

noncomputable section

namespace Cert.Att.Ref

open Idealize.ShloMosaic Cert.ReferenceIdeal Cert.ReferenceIdeal.Gen Cert.ReferenceIdeal.Read

variable (X : FVec Ideal ⟨2, ![4096, 1536]⟩ .bf16) (Y : FVec Ideal ⟨2, ![4096, 512]⟩ .bf16) (T : FVec Ideal ⟨2, ![8, 513]⟩ .f32)

section Finite

variable (hX : ∀ i, IsReal (X i)) (hT : ∀ i, IsReal (T i))

include hX hT

/-- The cotangent of the scores of chunk `2 t + p`. -/
theorem pairCt_apply (t : Fin 32) (p : Fin 2) (h : Fin 8) (q : Fin 64) (j : Fin 576) :
    val_main_v127 (F := Ideal) X Y T (ix5 t p h q j)
      = (dataOf X Y T).scoreCt h (row ⟨2 * t.val + p.val, by omega⟩ q) (key ⟨2 * t.val + p.val, by omega⟩ j) := by
  unfold val_main_v127
  rw [shapeCast_apply _ _ _ (ix4 (⟨2 * t.val + p.val, by omega⟩ : Fin 64) h q j) (by
    rw [Shape.rowMajor_val_five, Shape.rowMajor_val_four]
    show (((2 * t.val + p.val) * 8 + h.val) * 64 + q.val) * 576 + j.val = (((t.val * 2 + p.val) * 8 + h.val) * 64 + q.val) * 576 + j.val
    omega)]
  exact scoreCt_apply X Y T hX hT _ h q j

/-- The cotangent of the scores, scaled. -/
theorem scaledCt_apply (c : Fin 64) (h : Fin 8) (q : Fin 64) (j : Fin 576) :
    val_main_v133 (F := Ideal) X Y T (ix4 c h q j) = (dataOf X Y T).scoreCt h (row c q) (key c j) * eighth := by
  rw [val_main_v133_apply]
  show val_main_v131 (F := Ideal) X Y T (ix4 c h q j) * Ideal.ofBits .f32 0x3E000000#32 = _
  rw [eighth_f32]
  refine congrArg (· * eighth) ?_
  unfold val_main_v131
  rw [shapeCast_apply _ _ _ (ix5 (⟨c.val / 2, by omega⟩ : Fin 32) (⟨c.val % 2, by omega⟩ : Fin 2) h q j) (by
    rw [Shape.rowMajor_val_five, Shape.rowMajor_val_four]
    show (((c.val / 2 * 2 + c.val % 2) * 8 + h.val) * 64 + q.val) * 576 + j.val = ((c.val * 8 + h.val) * 64 + q.val) * 576 + j.val
    omega), pairCt_apply X Y T hX hT]
  have e : (⟨2 * (c.val / 2) + c.val % 2, by omega⟩ : Fin 64) = c := Fin.ext (by show 2 * (c.val / 2) + c.val % 2 = c.val; omega)
  exact congrArg (fun c => (dataOf X Y T).scoreCt h (row c q) (key c j)) e

omit hX hT in
theorem exists_row (R : Fin 4096) : ∃ c q, R = row c q :=
  ⟨⟨R.val / 64, by omega⟩, ⟨R.val % 64, by omega⟩, Fin.ext (by show R.val = 64 * (R.val / 64) + R.val % 64; omega)⟩

/-- The gradient of the queries. -/
theorem dq_apply (R : Fin 4096) (c : Fin 512) : val_main_v205 (F := Ideal) X Y T (ix2 R c) = (dataOf X Y T).dq R c := by
  obtain ⟨k, q, rfl⟩ := exists_row R
  obtain ⟨h, d, rfl⟩ := exists_col c
  rw [val_main_v205_apply]
  show val_main_v196 (F := Ideal) X Y T (ix2 (row k q) (col h d)) = _
  unfold val_main_v196
  rw [shapeCast_apply _ _ _ (ix4 k q h d) (by
    rw [Shape.rowMajor_val_two, Shape.rowMajor_val_four]
    show ((k.val * 64 + q.val) * 8 + h.val) * 64 + d.val = (64 * k.val + q.val) * 512 + (64 * h.val + d.val)
    omega), val_main_v137_apply]
  refine (congrArg (val_main_v136 (F := Ideal) X Y T) (eq_ix4 _)).trans ?_
  show val_main_v136 (F := Ideal) X Y T (ix4 k h q d) = _
  rw [val_main_v136_apply]
  unfold Data.dq
  rw [headOf_col, ← sum_extend (key k) (key_injective k) _ fun n hn => by
    rw [Data.scoreCt_unseen _ _ _ _ (unseen_outside k q n hn), zero_mul]]
  unfold eighth
  rw [sum_scale _ (by norm_num)]
  refine Finset.sum_congr rfl fun j _ => ?_
  have e1 : val_main_v133 (F := Ideal) X Y T (lidx_main_v136 (ix4 k h q d) j) = (dataOf X Y T).scoreCt h (row k q) (key k j) * eighth :=
    (congrArg _ (eq_ix4 _)).trans (scaledCt_apply X Y T hX hT k h q j)
  have e2 : val_main_v43 (F := Ideal) X (ridx_main_v136 (ix4 k h q d) j) = (dataOf X Y T).k (key k j) (col h d) :=
    (congrArg _ (eq_ix4 _)).trans (keys_apply X Y T k j h d)
  rw [e1, e2]
  exact mul_right_comm _ _ _

omit hX hT in
/-- A sum over the query rows, by chunks, of what vanishes where the key row is not seen. -/
theorem sum_unband (a : FVec Ideal S64x576x8x64 .f32) (f : Fin 4096 → Fin 4608 → EReal) (h : Fin 8) (d : Fin 64)
    (ha : ∀ c j, a (ix4 c j h d) = ∑ q, f (row c q) (key c j)) (hf : ∀ R n, ¬ seen R n → f R n = 0) (n : Fin 4608) :
    unband a (ix2 n (col h d)) = ∑ R, f R n := by
  rw [unband_apply, ← sum_blocks 64 64 4096 rfl fun R => f R n]
  refine Finset.sum_congr rfl fun c _ => ?_
  by_cases hc : 64 * c.val ≤ n.val ∧ n.val - 64 * c.val < 576
  · rw [dif_pos hc, ha]
    have e : key c ⟨n.val - 64 * c.val, hc.2⟩ = n := Fin.ext (by show 64 * c.val + (n.val - 64 * c.val) = n.val; omega)
    rw [e]
    rfl
  · rw [dif_neg hc]
    refine (Finset.sum_eq_zero fun q _ => hf _ _ ?_).symm
    unfold seen
    show ¬ (512 ≤ n.val ∧ 64 * ((64 * c.val + q.val) / 64) ≤ n.val ∧ n.val < 64 * ((64 * c.val + q.val) / 64) + 576)
    omega

/-- The gradient of the values, before its first 512 rows are dropped. -/
theorem dvAll_apply (n : Fin 4608) (c : Fin 512) : val_main_v190 (F := Ideal) X Y T (ix2 n c) = (dataOf X Y T).dv n c := by
  obtain ⟨h, d, rfl⟩ := exists_col c
  have e : val_main_v190 (F := Ideal) X Y T = unband (val_main_v113 (F := Ideal) X Y T) := rfl
  rw [e]
  unfold Data.dv
  rw [headOf_col]
  refine sum_unband (val_main_v113 (F := Ideal) X Y T) (fun R n => (dataOf X Y T).prob h R n * (dataOf X Y T).y R (col h d)) h d (fun c j => ?_) (fun R n hn => ?_) n
  · rw [val_main_v113_apply]
    refine (congrArg (val_main_v112 (F := Ideal) X Y T) (eq_ix4 _)).trans ?_
    show val_main_v112 (F := Ideal) X Y T (ix4 c h d j) = _
    rw [val_main_v112_apply]
    refine Finset.sum_congr rfl fun q _ => ?_
    have e1 : val_main_v110 (F := Ideal) Y (lidx_main_v112 (ix4 c h d j) q) = (dataOf X Y T).y (row c q) (col h d) :=
      (congrArg _ (eq_ix4 _)).trans (cts_apply X Y T c q h d)
    have e2 : val_main_v101 (F := Ideal) X T (ridx_main_v112 (ix4 c h d j) q) = (dataOf X Y T).prob h (row c q) (key c j) :=
      (congrArg _ (eq_ix4 _)).trans (prob_apply X Y T hX hT c h q j)
    rw [e1, e2, mul_comm]
  · show (dataOf X Y T).prob h R n * _ = 0
    rw [Data.prob_unseen _ _ _ _ hn, zero_mul]

/-- The gradient of the keys, before its first 512 rows are dropped. -/
theorem dkAll_apply (n : Fin 4608) (c : Fin 512) : val_main_v193 (F := Ideal) X Y T (ix2 n c) = (dataOf X Y T).dk n c := by
  obtain ⟨h, d, rfl⟩ := exists_col c
  have e : val_main_v193 (F := Ideal) X Y T = unband (val_main_v135 (F := Ideal) X Y T) := rfl
  rw [e]
  unfold Data.dk
  rw [headOf_col]
  refine sum_unband (val_main_v135 (F := Ideal) X Y T) (fun R n => (dataOf X Y T).scoreCt h R n * ((dataOf X Y T).q R (col h d) * eighth)) h d (fun c j => ?_) (fun R n hn => ?_) n
  · rw [val_main_v135_apply]
    refine (congrArg (val_main_v134 (F := Ideal) X Y T) (eq_ix4 _)).trans ?_
    show val_main_v134 (F := Ideal) X Y T (ix4 c h j d) = _
    rw [val_main_v134_apply]
    refine Finset.sum_congr rfl fun q _ => ?_
    have e1 : val_main_v133 (F := Ideal) X Y T (lidx_main_v134 (ix4 c h j d) q) = (dataOf X Y T).scoreCt h (row c q) (key c j) * eighth :=
      (congrArg _ (eq_ix4 _)).trans (scaledCt_apply X Y T hX hT c h q j)
    have e2 : val_main_v26 (F := Ideal) X (ridx_main_v134 (ix4 c h j d) q) = (dataOf X Y T).q (row c q) (col h d) :=
      (congrArg _ (eq_ix4 _)).trans (queries_apply X Y T c q h d)
    rw [e1, e2, mul_assoc, mul_comm eighth]
  · show (dataOf X Y T).scoreCt h R n * _ = 0
    rw [Data.scoreCt_unseen _ _ _ _ hn, zero_mul]

omit hX hT in
theorem pad_zero : FloatOps.sitofp (F := Ideal) .f32 (0#32) = (0 : EReal) := by
  show ((((0#32 : BitVec 32).toInt : ℤ) : ℝ) : EReal) = 0
  simp

omit hX hT in
/-- Rows of a gradient ahead of the first key are zero, and are zero in the result. -/
theorem padded_rows (x : FVec Ideal S4608x512 .f32) (f : Fin 4608 → Fin 512 → EReal) (v : FVec Ideal S_ .f32) (hv : v (Shape.Idx.first h_S_) = 0)
    (hx : ∀ n c, x (ix2 n c) = f n c) (hf : ∀ n c, n.val < 512 → f n c = 0) (n : Fin 4608) (c : Fin 512) :
    pad S4608x512 ![512, 0] ![0, 0] ![0, 0] (extractStridedSlice S4096x512 ![512, 0] x slices_S4608x512_S4096x512_512_0) v pads_S4096x512_S4608x512_51200_000 h_S_ (ix2 n c) = f n c := by
  by_cases hn : 512 ≤ n.val
  · rw [pad_apply_of_inside _ _ _ _ _ _ _ _ (ix2 (⟨n.val - 512, by omega⟩ : Fin 4096) c) (fun k => by
      match k with
      | ⟨0, _⟩ => show n.val = 512 + (n.val - 512) * 1; omega
      | ⟨1, _⟩ => show c.val = 0 + c.val * 1; omega)]
    refine (extractStridedSlice_apply _ _ _ _ (ix2 n c) (fun k => by
      match k with
      | ⟨0, _⟩ => show n.val = 512 + (n.val - 512); omega
      | ⟨1, _⟩ => exact (Nat.zero_add _).symm)).trans (hx n c)
  · rw [pad_apply_of_not_inside _ _ _ _ _ _ _ _ (0 : Fin 2) (by
      show ¬ (512 ≤ n.val ∧ _)
      exact fun hh => hn hh.1), hv]
    exact (hf n c (by omega)).symm

/-- The gradient of the keys. -/
theorem dk_apply (n : Fin 4608) (c : Fin 512) : val_main_v206 (F := Ideal) X Y T (ix2 n c) = (dataOf X Y T).dk n c :=
  padded_rows (val_main_v193 (F := Ideal) X Y T) (dataOf X Y T).dk _ pad_zero (dkAll_apply X Y T hX hT) (fun n c hn =>
    Finset.sum_eq_zero fun R _ => by rw [Data.scoreCt_unseen _ _ _ _ (fun hh => absurd hh.1 (by omega)), zero_mul]) n c

/-- The gradient of the values. -/
theorem dv_apply (n : Fin 4608) (c : Fin 512) : val_main_v207 (F := Ideal) X Y T (ix2 n c) = (dataOf X Y T).dv n c :=
  padded_rows (val_main_v190 (F := Ideal) X Y T) (dataOf X Y T).dv _ pad_zero (dvAll_apply X Y T hX hT) (fun n c hn =>
    Finset.sum_eq_zero fun R _ => by rw [Data.prob_unseen _ _ _ _ (fun hh => absurd hh.1 (by omega)), zero_mul]) n c

/-- The gradient of the biases of the chunks of even (`p = 0`) or odd (`p = 1`) number. -/
theorem biasCt_apply (p : Fin 2) (h : Fin 8) (q : Fin 64) (j : Fin 576) :
    val_main_v130 (F := Ideal) X Y T (ix4 p h q j)
      = ∑ t : Fin 32, (dataOf X Y T).scoreCt h (row ⟨2 * t.val + p.val, by omega⟩ q) (key ⟨2 * t.val + p.val, by omega⟩ j) := by
  rw [val_main_v130_apply]
  show Ideal.ofBits .f32 0x00000000#32 + _ = _
  rw [Ideal.ofBits_zero_f32, zero_add, Fin.sum_univ_one]
  unfold val_main_v129
  refine (shapeCast_apply _ _ _ (ix4 p h q j) (by
    rw [Shape.rowMajor_val_five, Shape.rowMajor_val_four]
    show ((p.val * 8 + h.val) * 64 + q.val) * 576 + j.val = (((0 * 2 + p.val) * 8 + h.val) * 64 + q.val) * 576 + j.val
    omega)).trans ?_
  rw [val_main_v128_apply]
  show Ideal.ofBits .f32 0x00000000#32 + _ = _
  rw [Ideal.ofBits_zero_f32, zero_add]
  refine Finset.sum_congr rfl fun t _ => ?_
  exact (congrArg _ (eq_ix5 _)).trans (pairCt_apply X Y T hX hT t p h q j)

theorem evenCt_apply (h : Fin 8) (j : Fin 576) (q : Fin 64) :
    val_main_v199 (F := Ideal) X Y T (ix3 h j q)
      = ∑ t : Fin 32, (dataOf X Y T).scoreCt h ⟨128 * t.val + q.val, by omega⟩ ⟨128 * t.val + j.val, by omega⟩ := by
  unfold val_main_v199
  rw [transpose_apply _ _ _ _ (ix3 h q j) (fun a => by
    match a with
    | ⟨0, _⟩ => rfl
    | ⟨1, _⟩ => rfl
    | ⟨2, _⟩ => rfl)]
  unfold val_main_v198
  rw [shapeCast_apply _ _ _ (ix4 (0 : Fin 1) h q j) (by
    rw [Shape.rowMajor_val_three, Shape.rowMajor_val_four]
    show ((0 * 8 + h.val) * 64 + q.val) * 576 + j.val = (h.val * 64 + q.val) * 576 + j.val
    omega)]
  unfold val_main_v197
  rw [extractStridedSlice_apply _ _ _ _ (ix4 (0 : Fin 2) h q j) (fun a => by
    match a with
    | ⟨0, _⟩ => rfl
    | ⟨1, _⟩ => exact (Nat.zero_add _).symm
    | ⟨2, _⟩ => exact (Nat.zero_add _).symm
    | ⟨3, _⟩ => exact (Nat.zero_add _).symm), biasCt_apply X Y T hX hT]
  refine Finset.sum_congr rfl fun t _ => congrArg₂ ((dataOf X Y T).scoreCt h) (Fin.ext ?_) (Fin.ext ?_)
  · show 64 * (2 * t.val + 0) + q.val = 128 * t.val + q.val; omega
  · show 64 * (2 * t.val + 0) + j.val = 128 * t.val + j.val; omega

theorem oddCt_apply (h : Fin 8) (j : Fin 576) (q : Fin 64) :
    val_main_v203 (F := Ideal) X Y T (ix3 h j q)
      = ∑ t : Fin 32, (dataOf X Y T).scoreCt h ⟨128 * t.val + (64 + q.val), by omega⟩ ⟨128 * t.val + (64 + j.val), by omega⟩ := by
  unfold val_main_v203
  rw [transpose_apply _ _ _ _ (ix3 h q j) (fun a => by
    match a with
    | ⟨0, _⟩ => rfl
    | ⟨1, _⟩ => rfl
    | ⟨2, _⟩ => rfl)]
  unfold val_main_v202
  rw [shapeCast_apply _ _ _ (ix4 (0 : Fin 1) h q j) (by
    rw [Shape.rowMajor_val_three, Shape.rowMajor_val_four]
    show ((0 * 8 + h.val) * 64 + q.val) * 576 + j.val = (h.val * 64 + q.val) * 576 + j.val
    omega)]
  unfold val_main_v201
  rw [extractStridedSlice_apply _ _ _ _ (ix4 (1 : Fin 2) h q j) (fun a => by
    match a with
    | ⟨0, _⟩ => rfl
    | ⟨1, _⟩ => exact (Nat.zero_add _).symm
    | ⟨2, _⟩ => exact (Nat.zero_add _).symm
    | ⟨3, _⟩ => exact (Nat.zero_add _).symm), biasCt_apply X Y T hX hT]
  refine Finset.sum_congr rfl fun t _ => congrArg₂ ((dataOf X Y T).scoreCt h) (Fin.ext ?_) (Fin.ext ?_)
  · show 64 * (2 * t.val + 1) + q.val = 128 * t.val + (64 + q.val); omega
  · show 64 * (2 * t.val + 1) + j.val = 128 * t.val + (64 + j.val); omega

/-- The gradient of the biases of a pair of chunks. -/
theorem db_apply (h : Fin 8) (j : Fin 640) (r : Fin 128) : val_main_v208 (F := Ideal) X Y T (ix3 h j r) = (dataOf X Y T).db h j r := by
  by_cases hr : r.val < 64
  · refine (concatenate_pair_apply_left (t := S8x640x128) (s₁ := S8x640x64) (s₂ := S8x640x64) 2 _ _ _ _ rfl (ix3 h j (⟨r.val, hr⟩ : Fin 64)) (fun a => by
      match a with
      | ⟨0, _⟩ => rfl
      | ⟨1, _⟩ => rfl
      | ⟨2, _⟩ => rfl)).trans ?_
    unfold val_main_v200
    by_cases hj : j.val < 576
    · rw [pad_apply_of_inside _ _ _ _ _ _ _ _ (ix3 h (⟨j.val, hj⟩ : Fin 576) (⟨r.val, hr⟩ : Fin 64)) (fun a => by
        match a with
        | ⟨0, _⟩ => show h.val = 0 + h.val * 1; omega
        | ⟨1, _⟩ => show j.val = 0 + j.val * 1; omega
        | ⟨2, _⟩ => show r.val = 0 + r.val * 1; omega), evenCt_apply X Y T hX hT]
      rfl
    · rw [pad_apply_of_not_inside _ _ _ _ _ _ _ _ (1 : Fin 3) (by
        show ¬ (0 ≤ j.val ∧ (j.val - 0) % (0 + 1) = 0 ∧ (j.val - 0) / (0 + 1) < 576)
        omega)]
      refine pad_zero.trans (Finset.sum_eq_zero fun t _ => Data.scoreCt_unseen _ _ _ _ ?_).symm
      unfold seen
      show ¬ (512 ≤ 128 * t.val + j.val ∧ 64 * ((128 * t.val + r.val) / 64) ≤ 128 * t.val + j.val ∧ 128 * t.val + j.val < 64 * ((128 * t.val + r.val) / 64) + 576)
      omega
  · have hr' : r.val - 64 < 64 := by omega
    refine (concatenate_pair_apply_right (t := S8x640x128) (s₁ := S8x640x64) (s₂ := S8x640x64) 2 _ _ _ _ rfl rfl (ix3 h j (⟨r.val - 64, hr'⟩ : Fin 64)) (fun a ha => by
      match a with
      | ⟨0, _⟩ => rfl
      | ⟨1, _⟩ => rfl
      | ⟨2, _⟩ => exact absurd rfl ha) (by show r.val - 64 + 64 = r.val; omega)).trans ?_
    unfold val_main_v204
    by_cases hj : 64 ≤ j.val
    · rw [pad_apply_of_inside _ _ _ _ _ _ _ _ (ix3 h (⟨j.val - 64, by omega⟩ : Fin 576) (⟨r.val - 64, hr'⟩ : Fin 64)) (fun a => by
        match a with
        | ⟨0, _⟩ => show h.val = 0 + h.val * 1; omega
        | ⟨1, _⟩ => show j.val = 64 + (j.val - 64) * 1; omega
        | ⟨2, _⟩ => show r.val - 64 = 0 + (r.val - 64) * 1; omega), oddCt_apply X Y T hX hT]
      refine Finset.sum_congr rfl fun t _ => congrArg₂ ((dataOf X Y T).scoreCt h) (Fin.ext ?_) (Fin.ext ?_)
      · show 128 * t.val + (64 + (r.val - 64)) = 128 * t.val + r.val; omega
      · show 128 * t.val + (64 + (j.val - 64)) = 128 * t.val + j.val; omega
    · rw [pad_apply_of_not_inside _ _ _ _ _ _ _ _ (1 : Fin 3) (by
        show ¬ (64 ≤ j.val ∧ _)
        exact fun hh => hj hh.1)]
      refine pad_zero.trans (Finset.sum_eq_zero fun t _ => Data.scoreCt_unseen _ _ _ _ ?_).symm
      unfold seen
      show ¬ (512 ≤ 128 * t.val + j.val ∧ 64 * ((128 * t.val + r.val) / 64) ≤ 128 * t.val + j.val ∧ 128 * t.val + j.val < 64 * ((128 * t.val + r.val) / 64) + 576)
      omega

end Finite

end Cert.Att.Ref

end
-- ==== Proof.Att.Equation.lean ====
/- Kernel and reference end with the same four gradients. -/
module

public import proofs.«01_k».proof.Defs
public import proofs.«01_k».proof.Proof.Att.Values
public import proofs.«01_k».proof.Proof.Att.RefResults
public import proofs.«01_k».proof.Proof.Gen.ReferenceIdeal.Run

@[expose] public section

set_option maxRecDepth 16384

noncomputable section

namespace Cert.Att.Ref

open Idealize.ShloMosaic Idealize.ShloMosaic.StableHlo Idealize.SL.Sem Cert.ReferenceIdeal Cert.ReferenceIdeal.Gen Cert.ReferenceIdeal.Read

/-- What the precondition says of an element: its absolute value is less than infinity, so it is a real number. -/
theorem isReal_of_lt {x : EReal} (h : Ideal.cmp .olt (max x (-x)) (Ideal.ofBits .f32 0x7F800000#32) = 1#1) : IsReal x := by
  have e : Ideal.ofBits .f32 0x7F800000#32 = ⊤ := by simp [Ideal.ofBits, Ideal.ieee]
  rw [e] at h
  induction x with
  | bot => simp [Ideal.cmp] at h
  | top => simp [Ideal.cmp] at h
  | coe r => exact ⟨r, rfl⟩

theorem facts_finite : Cert.Pre_finite.Facts := ⟨by decide, by decide, by decide⟩

local instance : Cert.Pre_finite.Facts := facts_finite

/-- The precondition: the projections and the table hold real numbers. -/
theorem reals (X : FVec Ideal ⟨2, ![4096, 1536]⟩ .bf16) (Y : FVec Ideal ⟨2, ![4096, 512]⟩ .bf16) (T : FVec Ideal ⟨2, ![8, 513]⟩ .f32)
    (h : (Cert.Pre_finite.fn (F := Ideal) X Y T).1 = (fun _ => 1#1)
      ∧ (Cert.Pre_finite.fn (F := Ideal) X Y T).2 = (fun _ => 1#1)) :
    (∀ i, IsReal (X i)) ∧ ∀ i, IsReal (T i) :=
  ⟨fun i => isReal_of_lt (congrFun h.1 i), fun i => isReal_of_lt (congrFun h.2 i)⟩

variable (X : FVec Ideal ⟨2, ![4096, 1536]⟩ .bf16) (Y : FVec Ideal ⟨2, ![4096, 512]⟩ .bf16) (T : FVec Ideal ⟨2, ![8, 513]⟩ .f32)
  (hX : ∀ i, IsReal (X i)) (hT : ∀ i, IsReal (T i))

include hX hT

theorem dq_array : val_main_v205 (F := Ideal) X Y T = dqOf (dataOf X Y T) :=
  funext fun y => (congrArg _ (eq_ix2 y)).trans (dq_apply X Y T hX hT (y 0) (y 1))
theorem dk_array : val_main_v206 (F := Ideal) X Y T = dkOf (dataOf X Y T) :=
  funext fun y => (congrArg _ (eq_ix2 y)).trans (dk_apply X Y T hX hT (y 0) (y 1))
theorem dv_array : val_main_v207 (F := Ideal) X Y T = dvOf (dataOf X Y T) :=
  funext fun y => (congrArg _ (eq_ix2 y)).trans (dv_apply X Y T hX hT (y 0) (y 1))
theorem db_array : val_main_v208 (F := Ideal) X Y T = dbOf (dataOf X Y T) :=
  funext fun y => (congrArg _ (eq_ix3 y)).trans (db_apply X Y T hX hT (y 0) (y 1) (y 2))

end Cert.Att.Ref

namespace Cert.Proof

open Idealize.ShloMosaic Idealize.ShloMosaic.StableHlo Idealize.SL.Sem

/-- From arguments that are the same and of which the projections and the table are real, the kernel and the reference
    end with the same gradients of the queries, the keys, the values and the biases. -/
theorem algebraic : Cert.algebraic_KernelIdeal_ReferenceIdeal_pre_finite (hKernelIdeal := Cert.KernelIdeal.Gen.facts)
    (hReferenceIdeal := Cert.ReferenceIdeal.Gen.facts) (hPre_finite := Cert.Att.Ref.facts_finite) := fun m ρ m' ρ' hpre hag => by
  refine ⟨_, _, _, _, Cert.Att.run_values m ρ, (θ_run Cert.ReferenceIdeal.defs _ _).mono (fun r h c => ?_) (Cert.ReferenceIdeal.Value.run (F := Ideal) m' ρ')⟩
  obtain ⟨hX, hT⟩ := Cert.Att.Ref.reals _ _ _ (hpre c)
  obtain ⟨g0, g1, g2⟩ := hag c
  obtain ⟨h0, h1, h2, h3, hk⟩ := h c
  refine ⟨h0.trans ?_, h1.trans ?_, h2.trans ?_, h3.trans ?_, hk⟩
  · refine (Cert.ReferenceIdeal.Read.val_main_v205_eq (launchContents m' c)).trans ?_
    rw [launchContents_devRef, launchContents_devRef, launchContents_devRef, g0, g1, g2]
    exact Cert.Att.Ref.dq_array _ _ _ hX hT
  · refine (Cert.ReferenceIdeal.Read.val_main_v206_eq (launchContents m' c)).trans ?_
    rw [launchContents_devRef, launchContents_devRef, launchContents_devRef, g0, g1, g2]
    exact Cert.Att.Ref.dk_array _ _ _ hX hT
  · refine (Cert.ReferenceIdeal.Read.val_main_v207_eq (launchContents m' c)).trans ?_
    rw [launchContents_devRef, launchContents_devRef, launchContents_devRef, g0, g1, g2]
    exact Cert.Att.Ref.dv_array _ _ _ hX hT
  · refine (Cert.ReferenceIdeal.Read.val_main_v208_eq (launchContents m' c)).trans ?_
    rw [launchContents_devRef, launchContents_devRef, launchContents_devRef, g0, g1, g2]
    exact Cert.Att.Ref.db_array _ _ _ hX hT

end Cert.Proof

end
-- ==== Proof.Ffn.Sums.lean ====
/- A product over all tokens, gathered a block of tokens at a time. -/
module

public import proofs.«01_k».proof.Proof.Att.Spec
public import Idealize.ShloMosaic.Lib.Pipeline.Value

@[expose] public section

namespace Cert.Ffn

open Idealize.ShloMosaic

/-- An array that one point sets to the first block's addend and three further points add theirs to ends at the sum over
    all tokens. -/
theorem acc_total {N : ℕ} {ι : Type*} (a : (n : ℕ) → n < N → ι → EReal) (g : (n : ℕ) → n < N → (ι → EReal) → ι → EReal) (s : ℕ)
    (M : Fin 4096 → ι → EReal)
    (ha : ∀ (h : 4 * s + 0 < N) (i : ι), a (4 * s + 0) h i = ∑ t : Fin 1024, M ⟨1024 * 0 + t.val, by omega⟩ i)
    (hg : ∀ (q : ℕ) (hq : q < 4) (h : 4 * s + q < N) (acc : ι → EReal) (i : ι),
      g (4 * s + q) h acc i = acc i + ∑ t : Fin 1024, M ⟨1024 * q + t.val, by omega⟩ i)
    (h : 4 * s + 3 < N) (i : ι) : Pipeline.accAt a g (4 * s) 3 h i = ∑ T, M T i := by
  rw [Pipeline.accAt_add_apply a g (fun _ => 0)
    (fun n i => if hq : n - 4 * s < 4 then ∑ t : Fin 1024, M ⟨1024 * (n - 4 * s) + t.val, by omega⟩ i else 0) (4 * s) 3 ?_ ?_ 3 le_rfl h i]
  · rw [zero_add, Finset.sum_range]
    rw [← Cert.Att.sum_blocks 4 1024 4096 rfl]
    refine Finset.sum_congr rfl fun q _ => ?_
    have e : 4 * s + q.val - 4 * s = q.val := by omega
    rw [dif_pos (by omega)]
    refine Finset.sum_congr rfl fun t _ => ?_
    congr 2
    omega
  · intro h i
    rw [show a (4 * s) h i = _ from ha h i, dif_pos (by omega), zero_add]
    refine Finset.sum_congr rfl fun t _ => ?_
    congr 2
    omega
  · intro n hn acc i h1 h2
    obtain ⟨q, rfl⟩ : ∃ q, n = 4 * s + q := ⟨n - 4 * s, by omega⟩
    rw [hg q (by omega) hn acc i, dif_pos (by omega)]
    congr 1
    refine Finset.sum_congr rfl fun t _ => ?_
    congr 2
    omega

/-- The same run by another name of its number. -/
theorem acc_at {N : ℕ} {β : Type*} (a : (n : ℕ) → n < N → β) (g : (n : ℕ) → n < N → β → β) {n n' : ℕ} (e : n = n')
    (h : 4 * n + 3 < N) (h' : 4 * n' + 3 < N) : Pipeline.accAt a g (4 * n) 3 h = Pipeline.accAt a g (4 * n') 3 h' := by
  subst e; rfl

end Cert.Ffn

end
-- ==== Proof.Ffn.Block.lean ====
/- What one point of the feed-forward weights' gradient adds: a block of tokens' products. -/
module

public import proofs.«01_k».proof.Proof.Gen.Kernel2Ideal.Skeleton
public import Idealize.ShloMosaic.Lib.ValueIdx
public import Idealize.ShloMosaic.Lib.Pointwise
public import Idealize.ShloMosaic.PureOps.Ideal

@[expose] public section

set_option maxRecDepth 16384

noncomputable section

namespace Cert.Ffn

open Idealize.ShloMosaic Cert.Kernel2Ideal Cert.Kernel2Ideal.Gen Idealize.ShloMosaic.TcCoe
open Idealize.ShloMosaic.Ideal (matmul_constant_zero_apply)
open Idealize.ShloMosaic.ValueIdx (contrEquiv1 contrEquiv1_symm_val)

/-- The product of two blocks over their tokens. -/
theorem tokens_apply (x : FVec Ideal S1024x704 .bf16) (y : FVec Ideal S1024x1024 .bf16) (f : Fin 704) (d : Fin 1024) :
    matmul dot_S1024x704_S1024x1024_S704x1024_0_0_1_1_n_n none x y (constant S704x1024 .f32 0x00000000#32) (ix2 f d)
      = ∑ t : Fin 1024, x (ix2 t f) * y (ix2 t d) := by
  simp only [matmul]
  rw [matmul_constant_zero_apply, ← Equiv.sum_comp (contrEquiv1 dot_S1024x704_S1024x1024_S704x1024_0_0_1_1_n_n 1024 rfl rfl).symm]
  refine Finset.sum_congr rfl fun t _ => ?_
  have ht := contrEquiv1_symm_val dot_S1024x704_S1024x1024_S704x1024_0_0_1_1_n_n 1024 rfl rfl t
  have e1 : DotDims.lhsIdx dot_S1024x704_S1024x1024_S704x1024_0_0_1_1_n_n (ix2 f d) ((contrEquiv1 dot_S1024x704_S1024x1024_S704x1024_0_0_1_1_n_n 1024 rfl rfl).symm t) = ix2 t f := by
    funext a; refine Fin.ext ?_
    match a with
    | ⟨0, _⟩ => exact ht
    | ⟨1, _⟩ => rfl
  have e2 : DotDims.rhsIdx dot_S1024x704_S1024x1024_S704x1024_0_0_1_1_n_n (ix2 f d) ((contrEquiv1 dot_S1024x704_S1024x1024_S704x1024_0_0_1_1_n_n 1024 rfl rfl).symm t) = ix2 t d := by
    funext a; refine Fin.ext ?_
    match a with
    | ⟨0, _⟩ => exact ht
    | ⟨1, _⟩ => rfl
  rw [e1, e2]

theorem wide_apply {φ : FTy} (x : FVec Ideal S704x1024 φ) (f : Fin 704) (d : Fin 1024) :
    shapeCast S1x704x1024 x shapeCasts_S704x1024_S1x704x1024 (ix3 0 f d) = x (ix2 f d) :=
  shapeCast_apply _ _ _ (ix2 f d) (by rw [Shape.rowMajor_val_two, Shape.rowMajor_val_three]; show f.val * 1024 + d.val = (0 * 704 + f.val) * 1024 + d.val; omega)

theorem flat_apply {φ : FTy} (x : FVec Ideal S1x704x1024 φ) (f : Fin 704) (d : Fin 1024) :
    shapeCast S704x1024 x shapeCasts_S1x704x1024_S704x1024 (ix2 f d) = x (ix3 0 f d) :=
  shapeCast_apply _ _ _ (ix3 0 f d) (by rw [Shape.rowMajor_val_two, Shape.rowMajor_val_three]; show (0 * 704 + f.val) * 1024 + d.val = f.val * 1024 + d.val; omega)

theorem rows_apply {φ : FTy} (x : FVec Ideal S1x1024x704 φ) (t : Fin 1024) (f : Fin 704) :
    shapeCast S1024x704 x shapeCasts_S1x1024x704_S1024x704 (ix2 t f) = x (ix3 0 t f) :=
  shapeCast_apply _ _ _ (ix3 0 t f) (by rw [Shape.rowMajor_val_two, Shape.rowMajor_val_three]; show (0 * 1024 + t.val) * 704 + f.val = t.val * 704 + f.val; omega)

/-- A point adds to the gate weights' gradient its block's products. -/
theorem gate_apply (h : FVec Ideal S1024x1024 .bf16) (acc : FVec Ideal S1x704x1024 .f32) (x : FVec Ideal S1x1024x704 .bf16) (f : Fin 704) (d : Fin 1024) :
    k0_pay6 h acc x (ix3 0 f d) = acc (ix3 0 f d) + ∑ t : Fin 1024, x (ix3 0 t f) * h (ix2 t d) := by
  unfold k0_pay6 k0_pay5
  rw [wide_apply]
  show shapeCast S704x1024 acc _ (ix2 f d) + matmul (F := Ideal) _ none _ _ _ (ix2 f d) = _
  rw [flat_apply, tokens_apply]
  congr 1
  refine Finset.sum_congr rfl fun t _ => ?_
  rw [rows_apply, shapeCast_self]

/-- A point adds to the up weights' gradient its block's products. -/
theorem up_apply (h : FVec Ideal S1024x1024 .bf16) (acc : FVec Ideal S1x704x1024 .f32) (x : FVec Ideal S1x1024x704 .bf16) (f : Fin 704) (d : Fin 1024) :
    k0_pay7 h acc x (ix3 0 f d) = acc (ix3 0 f d) + ∑ t : Fin 1024, x (ix3 0 t f) * h (ix2 t d) := by
  unfold k0_pay7 k0_pay5
  rw [wide_apply]
  show shapeCast S704x1024 acc _ (ix2 f d) + matmul (F := Ideal) _ none _ _ _ (ix2 f d) = _
  rw [flat_apply, tokens_apply]
  congr 1
  refine Finset.sum_congr rfl fun t _ => ?_
  rw [rows_apply, shapeCast_self]

/-- Half the gated unit, as the kernel writes it. -/
def halfGated (a b : EReal) : EReal :=
  Ideal.ofBits .f32 0x3F000000#32 * a
    * Ideal.div (Ideal.ofBits .f32 0x3F800000#32) (Ideal.ofBits .f32 0x3F800000#32 + Ideal.exp (Ideal.ofBits .f32 0x00000000#32 - a)) * b

/-- A point adds to the down weights' gradient its block's products of half the gated unit. -/
theorem down_apply (g : FVec Ideal S1024x1024 .bf16) (a b : FVec Ideal S1x1024x704 .bf16) (acc : FVec Ideal S1x704x1024 .f32) (f : Fin 704) (d : Fin 1024) :
    k0_pay1 g a b acc (ix3 0 f d) = acc (ix3 0 f d) + ∑ t : Fin 1024, halfGated (a (ix3 0 t f)) (b (ix3 0 t f)) * g (ix2 t d) := by
  unfold k0_pay1
  rw [wide_apply]
  show shapeCast S704x1024 acc _ (ix2 f d) + matmul (F := Ideal) _ none _ _ _ (ix2 f d) = _
  rw [flat_apply, tokens_apply]
  congr 1
  refine Finset.sum_congr rfl fun t _ => ?_
  rw [← rows_apply a, ← rows_apply b]
  rfl

end Cert.Ffn

end
-- ==== Proof.Ffn.Grads.lean ====
/- The feed-forward weights' gradients: what the kernel's three arrays hold at the end, over all tokens. -/
module

public import proofs.«01_k».proof.Proof.Gen.Kernel2Ideal.Value
public import proofs.«01_k».proof.Proof.Ffn.Sums
public import proofs.«01_k».proof.Proof.Ffn.Block

@[expose] public section

set_option maxRecDepth 16384

noncomputable section

namespace Cert.Ffn

open Idealize.ShloMosaic Cert.Kernel2Ideal Cert.Kernel2Ideal.Gen Cert.Kernel2Ideal.Value Idealize.ShloMosaic.TcCoe

variable (m : (ℓ : Loc nD τ sig) → Buf (Elt Ideal) ℓ) (c : Dev nD)

/-- The arrays as the kernel finds them: the normed input, the gate's pre-activation, the up product, their gradients, the
    cotangent; -/
def arrH : FVec Ideal S4096x1024 .bf16 := V m c main_v13
def arrA : FVec Ideal S4x4096x704 .bf16 := V m c main_v16
def arrB : FVec Ideal S4x4096x704 .bf16 := V m c main_v19
def arrDa : FVec Ideal S4x4096x704 .bf16 := V m c main_v22
def arrDb : FVec Ideal S4x4096x704 .bf16 := V m c main_v25
def arrCt : FVec Ideal S4096x1024 .f32 := V m c main_arg4
/-- and the arrays it leaves. -/
def gateGrad : FVec Ideal S4x704x1024 .f32 := G6 m c
def upGrad : FVec Ideal S4x704x1024 .f32 := G7 m c
def downGrad : FVec Ideal S4x704x1024 .f32 := G8 m c

theorem points (t : Fin cfg0.N) : t.val < 16 := lt_of_lt_of_eq t.isLt N_0

/-- Which block of each array a point reads: the tokens' block by the point's remainder, the shard by its quotient. -/
theorem where0 : ∀ t : Fin cfg0.N, win0_0.index t (0 : Fin 2) = t.val % 4 ∧ win0_0.index t (1 : Fin 2) = 0 :=
  (by decide +kernel : ∀ t : Fin grid0.N, win0_0.index t (0 : Fin 2) = t.val % 4 ∧ win0_0.index t (1 : Fin 2) = 0)
theorem where1 : ∀ t : Fin cfg0.N, win0_1.index t (0 : Fin 2) = t.val % 4 ∧ win0_1.index t (1 : Fin 2) = 0 :=
  (by decide +kernel : ∀ t : Fin grid0.N, win0_1.index t (0 : Fin 2) = t.val % 4 ∧ win0_1.index t (1 : Fin 2) = 0)
theorem where2 : ∀ t : Fin cfg0.N, win0_2.index t (0 : Fin 3) = t.val / 4 ∧ win0_2.index t (1 : Fin 3) = t.val % 4 ∧ win0_2.index t (2 : Fin 3) = 0 :=
  (by decide +kernel : ∀ t : Fin grid0.N, win0_2.index t (0 : Fin 3) = t.val / 4 ∧ win0_2.index t (1 : Fin 3) = t.val % 4 ∧ win0_2.index t (2 : Fin 3) = 0)
theorem where3 : ∀ t : Fin cfg0.N, win0_3.index t (0 : Fin 3) = t.val / 4 ∧ win0_3.index t (1 : Fin 3) = t.val % 4 ∧ win0_3.index t (2 : Fin 3) = 0 :=
  (by decide +kernel : ∀ t : Fin grid0.N, win0_3.index t (0 : Fin 3) = t.val / 4 ∧ win0_3.index t (1 : Fin 3) = t.val % 4 ∧ win0_3.index t (2 : Fin 3) = 0)
theorem where4 : ∀ t : Fin cfg0.N, win0_4.index t (0 : Fin 3) = t.val / 4 ∧ win0_4.index t (1 : Fin 3) = t.val % 4 ∧ win0_4.index t (2 : Fin 3) = 0 :=
  (by decide +kernel : ∀ t : Fin grid0.N, win0_4.index t (0 : Fin 3) = t.val / 4 ∧ win0_4.index t (1 : Fin 3) = t.val % 4 ∧ win0_4.index t (2 : Fin 3) = 0)
theorem where5 : ∀ t : Fin cfg0.N, win0_5.index t (0 : Fin 3) = t.val / 4 ∧ win0_5.index t (1 : Fin 3) = t.val % 4 ∧ win0_5.index t (2 : Fin 3) = 0 :=
  (by decide +kernel : ∀ t : Fin grid0.N, win0_5.index t (0 : Fin 3) = t.val / 4 ∧ win0_5.index t (1 : Fin 3) = t.val % 4 ∧ win0_5.index t (2 : Fin 3) = 0)

section Reads

variable (s : Fin 4) (q : ℕ) (hq : q < 4) (h : 4 * s.val + q < cfg0.N)

include hq

/-- A block of the normed input. -/
theorem read0 (t d : Fin 1024) : (iblk m c 0 ⟨4 * s.val + q, h⟩ : FVec Ideal S1024x1024 .bf16) (ix2 t d)
    = arrH m c (ix2 ⟨1024 * q + t.val, by omega⟩ d) := by
  obtain ⟨i0, i1⟩ := where0 ⟨4 * s.val + q, h⟩
  unfold iblk
  rw [View.read_apply]
  show V m c main_v13 _ = V m c main_v13 _
  congr 1; funext a; apply Fin.ext
  match a with
  | ⟨0, _⟩ => show win0_0.index ⟨4 * s.val + q, h⟩ 0 * 1024 + 1 * t.val = 1024 * q + t.val; rw [i0]; dsimp only; omega
  | ⟨1, _⟩ => show win0_0.index ⟨4 * s.val + q, h⟩ 1 * 1024 + 1 * d.val = d.val; rw [i1]; omega

/-- A block of the cotangent. -/
theorem read1 (t d : Fin 1024) : (iblk m c 1 ⟨4 * s.val + q, h⟩ : FVec Ideal S1024x1024 .f32) (ix2 t d)
    = arrCt m c (ix2 ⟨1024 * q + t.val, by omega⟩ d) := by
  obtain ⟨i0, i1⟩ := where1 ⟨4 * s.val + q, h⟩
  unfold iblk
  rw [View.read_apply]
  show V m c main_arg4 _ = V m c main_arg4 _
  congr 1; funext a; apply Fin.ext
  match a with
  | ⟨0, _⟩ => show win0_1.index ⟨4 * s.val + q, h⟩ 0 * 1024 + 1 * t.val = 1024 * q + t.val; rw [i0]; dsimp only; omega
  | ⟨1, _⟩ => show win0_1.index ⟨4 * s.val + q, h⟩ 1 * 1024 + 1 * d.val = d.val; rw [i1]; omega

/-- A block of the gate's pre-activation. -/
theorem read2 (t : Fin 1024) (f : Fin 704) : (iblk m c 2 ⟨4 * s.val + q, h⟩ : FVec Ideal S1x1024x704 .bf16) (ix3 0 t f)
    = arrA m c (ix3 s ⟨1024 * q + t.val, by omega⟩ f) := by
  obtain ⟨i0, i1, i2⟩ := where2 ⟨4 * s.val + q, h⟩
  unfold iblk
  rw [View.read_apply]
  show V m c main_v16 _ = V m c main_v16 _
  congr 1; funext a; apply Fin.ext
  match a with
  | ⟨0, _⟩ => show win0_2.index ⟨4 * s.val + q, h⟩ 0 * 1 + 1 * 0 = s.val; rw [i0]; dsimp only; omega
  | ⟨1, _⟩ => show win0_2.index ⟨4 * s.val + q, h⟩ 1 * 1024 + 1 * t.val = 1024 * q + t.val; rw [i1]; dsimp only; omega
  | ⟨2, _⟩ => show win0_2.index ⟨4 * s.val + q, h⟩ 2 * 704 + 1 * f.val = f.val; rw [i2]; omega

/-- A block of the up product. -/
theorem read3 (t : Fin 1024) (f : Fin 704) : (iblk m c 3 ⟨4 * s.val + q, h⟩ : FVec Ideal S1x1024x704 .bf16) (ix3 0 t f)
    = arrB m c (ix3 s ⟨1024 * q + t.val, by omega⟩ f) := by
  obtain ⟨i0, i1, i2⟩ := where3 ⟨4 * s.val + q, h⟩
  unfold iblk
  rw [View.read_apply]
  show V m c main_v19 _ = V m c main_v19 _
  congr 1; funext a; apply Fin.ext
  match a with
  | ⟨0, _⟩ => show win0_3.index ⟨4 * s.val + q, h⟩ 0 * 1 + 1 * 0 = s.val; rw [i0]; dsimp only; omega
  | ⟨1, _⟩ => show win0_3.index ⟨4 * s.val + q, h⟩ 1 * 1024 + 1 * t.val = 1024 * q + t.val; rw [i1]; dsimp only; omega
  | ⟨2, _⟩ => show win0_3.index ⟨4 * s.val + q, h⟩ 2 * 704 + 1 * f.val = f.val; rw [i2]; omega

/-- A block of the gate pre-activation's gradient. -/
theorem read4 (t : Fin 1024) (f : Fin 704) : (iblk m c 4 ⟨4 * s.val + q, h⟩ : FVec Ideal S1x1024x704 .bf16) (ix3 0 t f)
    = arrDa m c (ix3 s ⟨1024 * q + t.val, by omega⟩ f) := by
  obtain ⟨i0, i1, i2⟩ := where4 ⟨4 * s.val + q, h⟩
  unfold iblk
  rw [View.read_apply]
  show V m c main_v22 _ = V m c main_v22 _
  congr 1; funext a; apply Fin.ext
  match a with
  | ⟨0, _⟩ => show win0_4.index ⟨4 * s.val + q, h⟩ 0 * 1 + 1 * 0 = s.val; rw [i0]; dsimp only; omega
  | ⟨1, _⟩ => show win0_4.index ⟨4 * s.val + q, h⟩ 1 * 1024 + 1 * t.val = 1024 * q + t.val; rw [i1]; dsimp only; omega
  | ⟨2, _⟩ => show win0_4.index ⟨4 * s.val + q, h⟩ 2 * 704 + 1 * f.val = f.val; rw [i2]; omega

/-- A block of the up product's gradient. -/
theorem read5 (t : Fin 1024) (f : Fin 704) : (iblk m c 5 ⟨4 * s.val + q, h⟩ : FVec Ideal S1x1024x704 .bf16) (ix3 0 t f)
    = arrDb m c (ix3 s ⟨1024 * q + t.val, by omega⟩ f) := by
  obtain ⟨i0, i1, i2⟩ := where5 ⟨4 * s.val + q, h⟩
  unfold iblk
  rw [View.read_apply]
  show V m c main_v25 _ = V m c main_v25 _
  congr 1; funext a; apply Fin.ext
  match a with
  | ⟨0, _⟩ => show win0_5.index ⟨4 * s.val + q, h⟩ 0 * 1 + 1 * 0 = s.val; rw [i0]; dsimp only; omega
  | ⟨1, _⟩ => show win0_5.index ⟨4 * s.val + q, h⟩ 1 * 1024 + 1 * t.val = 1024 * q + t.val; rw [i1]; dsimp only; omega
  | ⟨2, _⟩ => show win0_5.index ⟨4 * s.val + q, h⟩ 2 * 704 + 1 * f.val = f.val; rw [i2]; omega

end Reads

/-- The coordinates of an index of a block of a shard's gradient. -/
def hiddenOf (i : S1x704x1024.Idx) : Fin 704 := i 1
def modelOf (i : S1x704x1024.Idx) : Fin 1024 := i 2
theorem eq_block (i : S1x704x1024.Idx) : ∃ (f : Fin 704) (d : Fin 1024), i = ix3 0 f d :=
  ⟨i 1, i 2, (eq_ix3 i).trans (by congr 1; exact Subsingleton.elim (α := Fin 1) _ _)⟩

/-- The block's place of an index. -/
theorem loc_eq (s : Fin 4) (f : Fin 704) (d : Fin 1024) : loc6Of (ix3 s f d) = ix3 0 f d := by
  funext a; apply Fin.ext
  match a with
  | ⟨0, _⟩ => show s.val % 1 = 0; omega
  | ⟨1, _⟩ => show f.val % 704 = f.val; omega
  | ⟨2, _⟩ => show d.val % 1024 = d.val; omega

theorem run_eq (s : Fin 4) (f : Fin 704) (d : Fin 1024) : run6Of (ix3 s f d) = s.val := by
  show 1 * (s.val / 1 - 0) + 1 * (f.val / 704 - 0) + 1 * (d.val / 1024 - 0) = s.val; omega

/-- A point's products of the gate pre-activation's gradient and the normed input. -/
def gatePart (s : Fin 4) (T : Fin 4096) (i : S1x704x1024.Idx) : EReal :=
  arrDa m c (ix3 s T (hiddenOf i)) * arrH m c (ix2 T (modelOf i))

theorem gate_reset (s : Fin 4) (h : 4 * s.val + 0 < cfg0.N) (i : S1x704x1024.Idx) :
    reset6 m c (4 * s.val + 0) h i = ∑ t : Fin 1024, gatePart m c s ⟨1024 * 0 + t.val, by omega⟩ i := by
  obtain ⟨f, d, rfl⟩ := eq_block i
  refine (gate_apply (iblk m c 0 ⟨4 * s.val + 0, h⟩) k0_pay2 (iblk m c 4 ⟨4 * s.val + 0, h⟩) f d).trans ?_
  rw [show k0_pay2 (F := Ideal) _ = 0 from Ideal.ofBits_zero_f32, zero_add]
  refine Finset.sum_congr rfl fun t _ => ?_
  exact congrArg₂ (fun a b : EReal => a * b) (read4 m c s 0 (by omega) h t f) (read0 m c s 0 (by omega) h t d)

theorem gate_step (s : Fin 4) (q : ℕ) (hq : q < 4) (h : 4 * s.val + q < cfg0.N) (acc : S1x704x1024.Idx → EReal) (i : S1x704x1024.Idx) :
    step6 m c (4 * s.val + q) h acc i = acc i + ∑ t : Fin 1024, gatePart m c s ⟨1024 * q + t.val, by omega⟩ i := by
  obtain ⟨f, d, rfl⟩ := eq_block i
  refine (gate_apply (iblk m c 0 ⟨4 * s.val + q, h⟩) acc (iblk m c 4 ⟨4 * s.val + q, h⟩) f d).trans (congrArg (fun z : EReal => acc (ix3 0 f d) + z) (Finset.sum_congr rfl fun t _ => ?_))
  exact congrArg₂ (fun a b : EReal => a * b) (read4 m c s q hq h t f) (read0 m c s q hq h t d)

/-- The gate weights' gradient: over all tokens, the products of the gate pre-activation's gradient and the normed input. -/
theorem gate_total (s : Fin 4) (f : Fin 704) (d : Fin 1024) :
    gateGrad m c (ix3 s f d) = ∑ T : Fin 4096, gatePart m c s T (ix3 0 f d) := by
  have hN : 4 * s.val + 3 < cfg0.N := lt_of_lt_of_eq (by omega) N_0.symm
  have hR : 4 * run6Of (ix3 s f d) + 3 < cfg0.N := by rw [run_eq]; exact hN
  refine (dif_pos hR).trans ?_
  refine Eq.trans ?_ (acc_total (reset6 m c) (step6 m c) s.val (gatePart m c s) (gate_reset m c s) (gate_step m c s) hN (ix3 0 f d))
  rw [acc_at (reset6 m c) (step6 m c) (run_eq s f d) hR hN]
  exact congrArg (Pipeline.accAt (reset6 m c) (step6 m c) (4 * s.val) 3 hN) (loc_eq s f d)

/-- A point's products of the up product's gradient and the normed input. -/
def upPart (s : Fin 4) (T : Fin 4096) (i : S1x704x1024.Idx) : EReal :=
  arrDb m c (ix3 s T (hiddenOf i)) * arrH m c (ix2 T (modelOf i))

theorem up_reset (s : Fin 4) (h : 4 * s.val + 0 < cfg0.N) (i : S1x704x1024.Idx) :
    reset7 m c (4 * s.val + 0) h i = ∑ t : Fin 1024, upPart m c s ⟨1024 * 0 + t.val, by omega⟩ i := by
  obtain ⟨f, d, rfl⟩ := eq_block i
  refine (up_apply (iblk m c 0 ⟨4 * s.val + 0, h⟩) k0_pay3 (iblk m c 5 ⟨4 * s.val + 0, h⟩) f d).trans ?_
  rw [show k0_pay3 (F := Ideal) _ = 0 from Ideal.ofBits_zero_f32, zero_add]
  refine Finset.sum_congr rfl fun t _ => ?_
  exact congrArg₂ (fun a b : EReal => a * b) (read5 m c s 0 (by omega) h t f) (read0 m c s 0 (by omega) h t d)

theorem up_step (s : Fin 4) (q : ℕ) (hq : q < 4) (h : 4 * s.val + q < cfg0.N) (acc : S1x704x1024.Idx → EReal) (i : S1x704x1024.Idx) :
    step7 m c (4 * s.val + q) h acc i = acc i + ∑ t : Fin 1024, upPart m c s ⟨1024 * q + t.val, by omega⟩ i := by
  obtain ⟨f, d, rfl⟩ := eq_block i
  refine (up_apply (iblk m c 0 ⟨4 * s.val + q, h⟩) acc (iblk m c 5 ⟨4 * s.val + q, h⟩) f d).trans (congrArg (fun z : EReal => acc (ix3 0 f d) + z) (Finset.sum_congr rfl fun t _ => ?_))
  exact congrArg₂ (fun a b : EReal => a * b) (read5 m c s q hq h t f) (read0 m c s q hq h t d)

/-- The up weights' gradient: over all tokens, the products of the up product's gradient and the normed input. -/
theorem up_total (s : Fin 4) (f : Fin 704) (d : Fin 1024) :
    upGrad m c (ix3 s f d) = ∑ T : Fin 4096, upPart m c s T (ix3 0 f d) := by
  have hN : 4 * s.val + 3 < cfg0.N := lt_of_lt_of_eq (by omega) N_0.symm
  have hR : 4 * run6Of (ix3 s f d) + 3 < cfg0.N := by rw [run_eq]; exact hN
  refine (dif_pos hR).trans ?_
  refine Eq.trans ?_ (acc_total (reset7 m c) (step7 m c) s.val (upPart m c s) (up_reset m c s) (up_step m c s) hN (ix3 0 f d))
  rw [acc_at (reset7 m c) (step7 m c) (run_eq s f d) hR hN]
  exact congrArg (Pipeline.accAt (reset7 m c) (step7 m c) (4 * s.val) 3 hN) (loc_eq s f d)

/-- A point's products of half the gated unit and the cotangent. -/
def downPart (s : Fin 4) (T : Fin 4096) (i : S1x704x1024.Idx) : EReal :=
  halfGated (arrA m c (ix3 s T (hiddenOf i))) (arrB m c (ix3 s T (hiddenOf i))) * arrCt m c (ix2 T (modelOf i))

theorem down_reset (s : Fin 4) (h : 4 * s.val + 0 < cfg0.N) (i : S1x704x1024.Idx) :
    reset8 m c (4 * s.val + 0) h i = ∑ t : Fin 1024, downPart m c s ⟨1024 * 0 + t.val, by omega⟩ i := by
  obtain ⟨f, d, rfl⟩ := eq_block i
  refine (down_apply (k0_pay8 (iblk m c 1 ⟨4 * s.val + 0, h⟩)) (iblk m c 2 ⟨4 * s.val + 0, h⟩) (iblk m c 3 ⟨4 * s.val + 0, h⟩) k0_pay4 f d).trans ?_
  rw [show k0_pay4 (F := Ideal) _ = 0 from Ideal.ofBits_zero_f32, zero_add]
  refine Finset.sum_congr rfl fun t _ => ?_
  exact congrArg₂ (fun a b : EReal => a * b) (congrArg₂ halfGated (read2 m c s 0 (by omega) h t f) (read3 m c s 0 (by omega) h t f)) (read1 m c s 0 (by omega) h t d)

theorem down_step (s : Fin 4) (q : ℕ) (hq : q < 4) (h : 4 * s.val + q < cfg0.N) (acc : S1x704x1024.Idx → EReal) (i : S1x704x1024.Idx) :
    step8 m c (4 * s.val + q) h acc i = acc i + ∑ t : Fin 1024, downPart m c s ⟨1024 * q + t.val, by omega⟩ i := by
  obtain ⟨f, d, rfl⟩ := eq_block i
  refine (down_apply (k0_pay8 (iblk m c 1 ⟨4 * s.val + q, h⟩)) (iblk m c 2 ⟨4 * s.val + q, h⟩) (iblk m c 3 ⟨4 * s.val + q, h⟩) acc f d).trans (congrArg (fun z : EReal => acc (ix3 0 f d) + z) (Finset.sum_congr rfl fun t _ => ?_))
  exact congrArg₂ (fun a b : EReal => a * b) (congrArg₂ halfGated (read2 m c s q hq h t f) (read3 m c s q hq h t f)) (read1 m c s q hq h t d)

/-- The down weights' gradient: over all tokens, the products of half the gated unit and the cotangent. -/
theorem down_total (s : Fin 4) (f : Fin 704) (d : Fin 1024) :
    downGrad m c (ix3 s f d) = ∑ T : Fin 4096, downPart m c s T (ix3 0 f d) := by
  have hN : 4 * s.val + 3 < cfg0.N := lt_of_lt_of_eq (by omega) N_0.symm
  have hR : 4 * run6Of (ix3 s f d) + 3 < cfg0.N := by rw [run_eq]; exact hN
  refine (dif_pos hR).trans ?_
  refine Eq.trans ?_ (acc_total (reset8 m c) (step8 m c) s.val (downPart m c s) (down_reset m c s) (down_step m c s) hN (ix3 0 f d))
  rw [acc_at (reset8 m c) (step8 m c) (run_eq s f d) hR hN]
  exact congrArg (Pipeline.accAt (reset8 m c) (step8 m c) (4 * s.val) 3 hN) (loc_eq s f d)

end Cert.Ffn

end
-- ==== Proof.Ffn.Host.lean ====
/- The arrays that the host lines hand to the feed-forward weights' gradient, in the reference's terms. -/
module

public import proofs.«01_k».proof.Proof.Gen.Kernel2Ideal.Frame.Runs
public import proofs.«01_k».proof.Proof.Gen.Reference2Ideal.Read
public import Idealize.ShloMosaic.Lib.KernelVsHost
public import Idealize.ShloMosaic.Lib.ValueIdx
public import Idealize.ShloMosaic.Lib.Pointwise
public import Idealize.ShloMosaic.PureOps.Ideal

@[expose] public section

set_option maxRecDepth 16384

noncomputable section

namespace Cert.Ffn

open Idealize.ShloMosaic Cert.Kernel2Ideal Cert.Kernel2Ideal.Gen Idealize.ShloMosaic.TcCoe Idealize.ShloMosaic.StableHlo
open Cert.Reference2Ideal.Read (val_main_v0 val_main_v2 val_main_v12 val_main_v16)

/-- The hidden units' array, cut into the four shards. -/
def shardsOf (x : FVec Ideal S4096x2816 .f32) : FVec Ideal S4x4096x704 .bf16 :=
  truncf .bf16 (transpose S4x4096x704 [1, 0, 2] (shapeCast S4096x4x704 x shapeCasts_S4096x2816_S4096x4x704) transposes_S4096x4x704_S4x4096x704_1_0_2) bitsLt_bf16_f32

/-- Hidden unit `f` of shard `s`. -/
def unit (s : Fin 4) (f : Fin 704) : Fin 2816 := ⟨704 * s.val + f.val, by omega⟩

theorem shardsOf_apply (x : FVec Ideal S4096x2816 .f32) (s : Fin 4) (T : Fin 4096) (f : Fin 704) :
    shardsOf x (ix3 s T f) = x (ix2 T (unit s f)) := by
  show transpose S4x4096x704 [1, 0, 2] (shapeCast S4096x4x704 x shapeCasts_S4096x2816_S4096x4x704) _ (ix3 s T f) = _
  rw [transpose_apply _ _ _ _ (ix3 T s f) (fun a => by match a with
    | ⟨0, _⟩ => rfl
    | ⟨1, _⟩ => rfl
    | ⟨2, _⟩ => rfl)]
  exact shapeCast_apply _ _ _ _ (by
    rw [Shape.rowMajor_val_two, Shape.rowMajor_val_three]
    show T.val * 2816 + (704 * s.val + f.val) = (T.val * 4 + s.val) * 704 + f.val; omega)

variable (m : (ℓ : Loc nD τ sig) → Buf (Elt Ideal) ℓ) (c : Dev nD)

/-- The arguments, as launched. -/
abbrev hOf : FVec Ideal S4096x1024 .f32 := m ((c : Thread nD τ).loc main_arg0)
abbrev wgOf : FVec Ideal S1024x2816 .f32 := m ((c : Thread nD τ).loc main_arg1)
abbrev wuOf : FVec Ideal S1024x2816 .f32 := m ((c : Thread nD τ).loc main_arg2)
abbrev wdOf : FVec Ideal S2816x1024 .f32 := m ((c : Thread nD τ).loc main_arg3)
abbrev ctOf : FVec Ideal S4096x1024 .f32 := m ((c : Thread nD τ).loc main_arg4)

set_option maxHeartbeats 2000000 in
/-- The host's copy of the normed input. -/
theorem host_h : V m c main_v13 = truncf .bf16 (hOf m c) bitsLt_bf16_f32 := by
  show after (hostOps0 ++ (hostOps0_1 ++ (hostOps0_2 ++ (hostOps0_3 ++ (hostOps0_4 ++ []))))) _ (Proc.devRef .tc main_v13) = _
  simp only [hostOps0, hostOps0_1, hostOps0_2, hostOps0_3, hostOps0_4, List.cons_append, List.nil_append, List.append_nil, TRef.binary, TRef.unary, TRef.nullary, TRef.toBuf, TRef.ofBuf, cast_eq]
  after_results_simp

set_option maxHeartbeats 2000000 in
/-- The host's shards of the gate's pre-activation. -/
theorem host_a : V m c main_v16 = shardsOf (val_main_v0 (F := Ideal) (hOf m c) (wgOf m c)) := by
  show after (hostOps0 ++ (hostOps0_1 ++ (hostOps0_2 ++ (hostOps0_3 ++ (hostOps0_4 ++ []))))) _ (Proc.devRef .tc main_v16) = _
  simp only [hostOps0, hostOps0_1, hostOps0_2, hostOps0_3, hostOps0_4, List.cons_append, List.nil_append, List.append_nil, TRef.binary, TRef.unary, TRef.nullary, TRef.toBuf, TRef.ofBuf, cast_eq]
  after_results_simp
  rfl

set_option maxHeartbeats 2000000 in
/-- The host's shards of the up product. -/
theorem host_b : V m c main_v19 = shardsOf (val_main_v2 (F := Ideal) (hOf m c) (wuOf m c)) := by
  show after (hostOps0 ++ (hostOps0_1 ++ (hostOps0_2 ++ (hostOps0_3 ++ (hostOps0_4 ++ []))))) _ (Proc.devRef .tc main_v19) = _
  simp only [hostOps0, hostOps0_1, hostOps0_2, hostOps0_3, hostOps0_4, List.cons_append, List.nil_append, List.append_nil, TRef.binary, TRef.unary, TRef.nullary, TRef.toBuf, TRef.ofBuf, cast_eq]
  after_results_simp
  rfl

set_option maxHeartbeats 2000000 in
/-- The host's shards of the gate pre-activation's gradient. -/
theorem host_da : V m c main_v22 = shardsOf (val_main_v16 (F := Ideal) (hOf m c) (wgOf m c) (wuOf m c) (wdOf m c) (ctOf m c)) := by
  show after (hostOps0 ++ (hostOps0_1 ++ (hostOps0_2 ++ (hostOps0_3 ++ (hostOps0_4 ++ []))))) _ (Proc.devRef .tc main_v22) = _
  simp only [hostOps0, hostOps0_1, hostOps0_2, hostOps0_3, hostOps0_4, List.cons_append, List.nil_append, List.append_nil, TRef.binary, TRef.unary, TRef.nullary, TRef.toBuf, TRef.ofBuf, cast_eq]
  after_results_simp
  rfl

set_option maxHeartbeats 2000000 in
/-- The host's shards of the up product's gradient. -/
theorem host_db : V m c main_v25 = shardsOf (val_main_v12 (F := Ideal) (hOf m c) (wgOf m c) (wdOf m c) (ctOf m c)) := by
  show after (hostOps0 ++ (hostOps0_1 ++ (hostOps0_2 ++ (hostOps0_3 ++ (hostOps0_4 ++ []))))) _ (Proc.devRef .tc main_v25) = _
  simp only [hostOps0, hostOps0_1, hostOps0_2, hostOps0_3, hostOps0_4, List.cons_append, List.nil_append, List.append_nil, TRef.binary, TRef.unary, TRef.nullary, TRef.toBuf, TRef.ofBuf, cast_eq]
  after_results_simp
  rfl

end Cert.Ffn

end
-- ==== Proof.Ffn.Reference.lean ====
/- The feed-forward weights' gradients that the reference leaves, over all tokens. -/
module

public import proofs.«01_k».proof.Proof.Ffn.Host
public import proofs.«01_k».proof.Proof.Ffn.Block

@[expose] public section

set_option maxRecDepth 16384

noncomputable section

namespace Cert.Ffn.Ref

open Idealize.ShloMosaic Cert.Reference2Ideal Cert.Reference2Ideal.Read
open Cert.Ffn (unit halfGated)

variable (x0 : FVec Ideal S4096x1024 .f32) (x1 x2 : FVec Ideal S1024x2816 .f32) (x3 : FVec Ideal S2816x1024 .f32) (x4 : FVec Ideal S4096x1024 .f32)
  (s : Fin 4) (f : Fin 704) (d : Fin 1024)

theorem place20 : idx_main_v20 (ix3 s f d) = ix2 (unit s f) d := by
  funext a; apply Fin.ext
  match a with
  | ⟨0, _⟩ => show ((s.val * 704 + f.val) * 1024 + d.val) / 1024 = 704 * s.val + f.val; omega
  | ⟨1, _⟩ => show ((s.val * 704 + f.val) * 1024 + d.val) % 1024 = d.val; omega
theorem place22 : idx_main_v22 (ix3 s f d) = ix2 (unit s f) d := place20 s f d
theorem place23 : idx_main_v23 (ix3 s f d) = ix2 (unit s f) d := place20 s f d

/-- The gate weights' gradient. -/
theorem gate_ref : val_main_v20 (F := Ideal) x0 x1 x2 x3 x4 (ix3 s f d)
    = ∑ T : Fin 4096, val_main_v16 (F := Ideal) x0 x1 x2 x3 x4 (ix2 T (unit s f)) * x0 (ix2 T d) := by
  rw [val_main_v20_apply, place20, val_main_v19_apply, val_main_v18_apply, val_main_v17_apply]
  refine Finset.sum_congr rfl fun T _ => ?_
  exact congrArg₂ (fun a b : EReal => a * b) (congrArg _ (eq_ix2 _)) (congrArg _ (eq_ix2 _))

/-- The up weights' gradient. -/
theorem up_ref : val_main_v22 (F := Ideal) x0 x1 x3 x4 (ix3 s f d)
    = ∑ T : Fin 4096, val_main_v12 (F := Ideal) x0 x1 x3 x4 (ix2 T (unit s f)) * x0 (ix2 T d) := by
  rw [val_main_v22_apply, place22, val_main_v21_apply, val_main_v15_apply, val_main_v14_apply]
  refine Finset.sum_congr rfl fun T _ => ?_
  exact congrArg₂ (fun a b : EReal => a * b) (congrArg _ (eq_ix2 _)) (congrArg _ (eq_ix2 _))

/-- The down weights' gradient, before its factors are read. -/
theorem down_sum : val_main_v23 (F := Ideal) x0 x1 x2 x4 (ix3 s f d)
    = ∑ T : Fin 4096, val_main_v8 (F := Ideal) x4 (ix2 T d) * val_main_v3 (F := Ideal) x0 x1 x2 (ix2 T (unit s f)) := by
  rw [val_main_v23_apply, place23, val_main_v10_apply, val_main_v9_apply]
  refine Finset.sum_congr rfl fun T _ => ?_
  exact congrArg₂ (fun a b : EReal => a * b) (congrArg _ (eq_ix2 _)) (congrArg _ (eq_ix2 _))

/-- Half the cotangent. -/
theorem half_apply (T : Fin 4096) : val_main_v8 (F := Ideal) x4 (ix2 T d) = Ideal.ofBits .f32 0x3F000000#32 * x4 (ix2 T d) := rfl

/-- The gated unit. -/
theorem gated_apply (T : Fin 4096) (n : Fin 2816) : val_main_v3 (F := Ideal) x0 x1 x2 (ix2 T n)
    = val_main_v0 (F := Ideal) x0 x1 (ix2 T n) * Ideal.div (Ideal.ofBits .f32 0x3F800000#32) (Ideal.ofBits .f32 0x3F800000#32 + Ideal.exp (-val_main_v0 (F := Ideal) x0 x1 (ix2 T n)))
      * val_main_v2 (F := Ideal) x0 x2 (ix2 T n) := rfl

/-- Half the gated unit is the same half of the gated unit. -/
theorem halfGated_mul (a b g : EReal) : halfGated a b * g
    = Ideal.ofBits .f32 0x3F000000#32 * g * (a * Ideal.div (Ideal.ofBits .f32 0x3F800000#32) (Ideal.ofBits .f32 0x3F800000#32 + Ideal.exp (-a)) * b) := by
  unfold halfGated
  rw [Ideal.ofBits_zero_f32, zero_sub]
  ac_rfl

/-- The down weights' gradient. -/
theorem down_ref : val_main_v23 (F := Ideal) x0 x1 x2 x4 (ix3 s f d)
    = ∑ T : Fin 4096, halfGated (val_main_v0 (F := Ideal) x0 x1 (ix2 T (unit s f))) (val_main_v2 (F := Ideal) x0 x2 (ix2 T (unit s f))) * x4 (ix2 T d) := by
  rw [down_sum]
  refine Finset.sum_congr rfl fun T _ => ?_
  rw [half_apply, gated_apply, halfGated_mul]

end Cert.Ffn.Ref

end
-- ==== Proof.Ffn.Equation.lean ====
/- The feed-forward weights' gradients: kernel and reference end with the same three. -/
module

public import proofs.«01_k».proof.Defs
public import proofs.«01_k».proof.Proof.Ffn.Grads
public import proofs.«01_k».proof.Proof.Ffn.Reference
public import proofs.«01_k».proof.Proof.Gen.Reference2Ideal.Run

@[expose] public section

set_option maxRecDepth 16384

noncomputable section

namespace Cert.Ffn

open Idealize.ShloMosaic Cert.Kernel2Ideal Cert.Kernel2Ideal.Gen Idealize.ShloMosaic.TcCoe
open Cert.Reference2Ideal.Read

variable (m : (ℓ : Loc nD τ sig) → Buf (Elt Ideal) ℓ) (c : Dev nD)

theorem arrH_eq (T : Fin 4096) (d : Fin 1024) : arrH m c (ix2 T d) = hOf m c (ix2 T d) :=
  congrFun (host_h m c) (ix2 T d)
theorem arrCt_eq (T : Fin 4096) (d : Fin 1024) : arrCt m c (ix2 T d) = ctOf m c (ix2 T d) :=
  congrFun (V_main_arg4 m c) (ix2 T d)
theorem arrA_eq (s : Fin 4) (T : Fin 4096) (f : Fin 704) : arrA m c (ix3 s T f) = val_main_v0 (F := Ideal) (hOf m c) (wgOf m c) (ix2 T (unit s f)) :=
  (congrFun (host_a m c) (ix3 s T f)).trans (shardsOf_apply _ s T f)
theorem arrB_eq (s : Fin 4) (T : Fin 4096) (f : Fin 704) : arrB m c (ix3 s T f) = val_main_v2 (F := Ideal) (hOf m c) (wuOf m c) (ix2 T (unit s f)) :=
  (congrFun (host_b m c) (ix3 s T f)).trans (shardsOf_apply _ s T f)
theorem arrDa_eq (s : Fin 4) (T : Fin 4096) (f : Fin 704) :
    arrDa m c (ix3 s T f) = val_main_v16 (F := Ideal) (hOf m c) (wgOf m c) (wuOf m c) (wdOf m c) (ctOf m c) (ix2 T (unit s f)) :=
  (congrFun (host_da m c) (ix3 s T f)).trans (shardsOf_apply _ s T f)
theorem arrDb_eq (s : Fin 4) (T : Fin 4096) (f : Fin 704) :
    arrDb m c (ix3 s T f) = val_main_v12 (F := Ideal) (hOf m c) (wgOf m c) (wdOf m c) (ctOf m c) (ix2 T (unit s f)) :=
  (congrFun (host_db m c) (ix3 s T f)).trans (shardsOf_apply _ s T f)

/-- The gate weights' gradients agree. -/
theorem gate_same : gateGrad m c = val_main_v20 (F := Ideal) (hOf m c) (wgOf m c) (wuOf m c) (wdOf m c) (ctOf m c) := by
  funext i
  obtain ⟨s, f, d, rfl⟩ : ∃ (s : Fin 4) (f : Fin 704) (d : Fin 1024), i = ix3 s f d := ⟨i 0, i 1, i 2, eq_ix3 i⟩
  refine (gate_total m c s f d).trans (Eq.trans ?_ (Ref.gate_ref _ _ _ _ _ s f d).symm)
  exact Finset.sum_congr rfl fun T _ => congrArg₂ (fun a b : EReal => a * b) (arrDa_eq m c s T f) (arrH_eq m c T d)

/-- The up weights' gradients agree. -/
theorem up_same : upGrad m c = val_main_v22 (F := Ideal) (hOf m c) (wgOf m c) (wdOf m c) (ctOf m c) := by
  funext i
  obtain ⟨s, f, d, rfl⟩ : ∃ (s : Fin 4) (f : Fin 704) (d : Fin 1024), i = ix3 s f d := ⟨i 0, i 1, i 2, eq_ix3 i⟩
  refine (up_total m c s f d).trans (Eq.trans ?_ (Ref.up_ref _ _ _ _ s f d).symm)
  exact Finset.sum_congr rfl fun T _ => congrArg₂ (fun a b : EReal => a * b) (arrDb_eq m c s T f) (arrH_eq m c T d)

/-- The down weights' gradients agree. -/
theorem down_same : downGrad m c = val_main_v23 (F := Ideal) (hOf m c) (wgOf m c) (wuOf m c) (ctOf m c) := by
  funext i
  obtain ⟨s, f, d, rfl⟩ : ∃ (s : Fin 4) (f : Fin 704) (d : Fin 1024), i = ix3 s f d := ⟨i 0, i 1, i 2, eq_ix3 i⟩
  refine (down_total m c s f d).trans (Eq.trans ?_ (Ref.down_ref _ _ _ _ s f d).symm)
  exact Finset.sum_congr rfl fun T _ => congrArg₂ (fun a b : EReal => a * b)
    (congrArg₂ halfGated (arrA_eq m c s T f) (arrB_eq m c s T f)) (arrCt_eq m c T d)

end Cert.Ffn

namespace Cert.Proof

open Idealize.ShloMosaic Idealize.ShloMosaic.StableHlo Idealize.SL.Sem

/-- From the same arguments, kernel and reference end with the same gradients of the gate, up and down weights. -/
theorem algebraic2 : Cert.algebraic_Kernel2Ideal_Reference2Ideal (hKernel2Ideal := Cert.Kernel2Ideal.Gen.facts)
    (hReference2Ideal := Cert.Reference2Ideal.Gen.facts) := fun m ρ m' ρ' _ hag => by
  refine ⟨_, _, _, Cert.Kernel2Ideal.Value.run m ρ, (θ_run Cert.Reference2Ideal.defs _ _).mono (fun r h c => ?_) (Cert.Reference2Ideal.Value.run (F := Ideal) m' ρ')⟩
  obtain ⟨g0, g1, g2, g3, g4⟩ := hag c
  obtain ⟨h0, h1, h2, hk⟩ := h c
  refine ⟨h0.trans ?_, h1.trans ?_, h2.trans ?_, hk⟩
  · refine (Cert.Reference2Ideal.Read.val_main_v20_eq (F := Ideal) _ _ _ _ _).trans ?_
    rw [g0, g1, g2, g3, g4]
    exact (Cert.Ffn.gate_same m c).symm
  · refine (Cert.Reference2Ideal.Read.val_main_v22_eq (F := Ideal) _ _ _ _).trans ?_
    rw [g0, g1, g3, g4]
    exact (Cert.Ffn.up_same m c).symm
  · refine (Cert.Reference2Ideal.Read.val_main_v23_eq (F := Ideal) _ _ _ _).trans ?_
    rw [g0, g1, g2, g4]
    exact (Cert.Ffn.down_same m c).symm

end Cert.Proof

end
-- ==== Proof.Inw.Equation.lean ====
/- The gradient of the input projection's weights: kernel and reference end with the same. -/
module

public import proofs.«01_k».proof.Defs
public import proofs.«01_k».proof.Proof.Ffn.Sums
public import proofs.«01_k».proof.Proof.Gen.Kernel3Ideal.Value
public import proofs.«01_k».proof.Proof.Gen.Reference3Ideal.Read
public import proofs.«01_k».proof.Proof.Gen.Reference3Ideal.Run
public import Idealize.ShloMosaic.Lib.ValueIdx
public import Idealize.ShloMosaic.Lib.Pointwise
public import Idealize.ShloMosaic.PureOps.Ideal

@[expose] public section

set_option maxRecDepth 16384

noncomputable section

namespace Cert.Inw

open Idealize.ShloMosaic Cert.Kernel3Ideal Cert.Kernel3Ideal.Gen Cert.Kernel3Ideal.Value Idealize.ShloMosaic.TcCoe
open Idealize.ShloMosaic.Ideal (matmul_constant_zero_apply)
open Idealize.ShloMosaic.ValueIdx (contrEquiv1 contrEquiv1_symm_val)

/-- A point adds the products of its block of tokens. -/
theorem point_apply (acc : FVec Ideal S1x1024x1152 .f32) (x : FVec Ideal S1024x1024 .bf16) (y : FVec Ideal S1024x1152 .bf16) (d : Fin 1024) (e : Fin 1152) :
    k0_pay2 acc x y (ix3 0 d e) = acc (ix3 0 d e) + ∑ t : Fin 1024, x (ix2 t d) * y (ix2 t e) := by
  unfold k0_pay2
  rw [shapeCast_apply _ _ _ (ix2 d e) (by rw [Shape.rowMajor_val_two, Shape.rowMajor_val_three]; show d.val * 1152 + e.val = (0 * 1024 + d.val) * 1152 + e.val; omega)]
  show shapeCast S1024x1152 acc _ (ix2 d e) + matmul (F := Ideal) _ none _ _ _ (ix2 d e) = _
  rw [shapeCast_apply _ _ _ (ix3 0 d e) (by rw [Shape.rowMajor_val_two, Shape.rowMajor_val_three]; show (0 * 1024 + d.val) * 1152 + e.val = d.val * 1152 + e.val; omega)]
  simp only [matmul]
  rw [matmul_constant_zero_apply, ← Equiv.sum_comp (contrEquiv1 dot_S1024x1024_S1024x1152_S1024x1152_0_0_1_1_n_n 1024 rfl rfl).symm]
  congr 1
  refine Finset.sum_congr rfl fun t _ => ?_
  have ht := contrEquiv1_symm_val dot_S1024x1024_S1024x1152_S1024x1152_0_0_1_1_n_n 1024 rfl rfl t
  have e1 : DotDims.lhsIdx dot_S1024x1024_S1024x1152_S1024x1152_0_0_1_1_n_n (ix2 d e) ((contrEquiv1 dot_S1024x1024_S1024x1152_S1024x1152_0_0_1_1_n_n 1024 rfl rfl).symm t) = ix2 t d := by
    funext a; refine Fin.ext ?_
    match a with
    | ⟨0, _⟩ => exact ht
    | ⟨1, _⟩ => rfl
  have e2 : DotDims.rhsIdx dot_S1024x1024_S1024x1152_S1024x1152_0_0_1_1_n_n (ix2 d e) ((contrEquiv1 dot_S1024x1024_S1024x1152_S1024x1152_0_0_1_1_n_n 1024 rfl rfl).symm t) = ix2 t e := by
    funext a; refine Fin.ext ?_
    match a with
    | ⟨0, _⟩ => exact ht
    | ⟨1, _⟩ => rfl
  rw [e1, e2]

variable (m : (ℓ : Loc nD τ sig) → Buf (Elt Ideal) ℓ) (c : Dev nD)

/-- The arguments, as launched, and the array that the kernel leaves. -/
def hOf : FVec Ideal S4096x1024 .bf16 := m ((c : Thread nD τ).loc main_arg0)
def dzOf : FVec Ideal S4096x4608 .bf16 := m ((c : Thread nD τ).loc main_arg1)
def grad : FVec Ideal S4x1024x1152 .f32 := G2 m c

/-- Column `e` of shard `s`. -/
def colOf (s : Fin 4) (e : Fin 1152) : Fin 4608 := ⟨1152 * s.val + e.val, by omega⟩

/-- Which block of each array a point reads. -/
theorem where0 : ∀ t : Fin cfg0.N, win0_0.index t (0 : Fin 2) = t.val % 4 ∧ win0_0.index t (1 : Fin 2) = 0 :=
  (by decide +kernel : ∀ t : Fin grid0.N, win0_0.index t (0 : Fin 2) = t.val % 4 ∧ win0_0.index t (1 : Fin 2) = 0)
theorem where1 : ∀ t : Fin cfg0.N, win0_1.index t (0 : Fin 2) = t.val % 4 ∧ win0_1.index t (1 : Fin 2) = t.val / 4 :=
  (by decide +kernel : ∀ t : Fin grid0.N, win0_1.index t (0 : Fin 2) = t.val % 4 ∧ win0_1.index t (1 : Fin 2) = t.val / 4)

section Reads

variable (s : Fin 4) (q : ℕ) (hq : q < 4) (h : 4 * s.val + q < cfg0.N)

include hq

/-- A block of the normed input. -/
theorem read0 (t d : Fin 1024) : (iblk m c 0 ⟨4 * s.val + q, h⟩ : FVec Ideal S1024x1024 .bf16) (ix2 t d) = hOf m c (ix2 ⟨1024 * q + t.val, by omega⟩ d) := by
  obtain ⟨i0, i1⟩ := where0 ⟨4 * s.val + q, h⟩
  unfold iblk
  rw [View.read_apply]
  show V m c main_arg0 _ = _
  rw [V_main_arg0]
  show _ = m ((c : Thread nD τ).loc main_arg0) _
  congr 1; funext a; apply Fin.ext
  match a with
  | ⟨0, _⟩ => show win0_0.index ⟨4 * s.val + q, h⟩ 0 * 1024 + 1 * t.val = 1024 * q + t.val; rw [i0]; dsimp only; omega
  | ⟨1, _⟩ => show win0_0.index ⟨4 * s.val + q, h⟩ 1 * 1024 + 1 * d.val = d.val; rw [i1]; omega

/-- A block of the projection's cotangent. -/
theorem read1 (t : Fin 1024) (e : Fin 1152) : (iblk m c 1 ⟨4 * s.val + q, h⟩ : FVec Ideal S1024x1152 .bf16) (ix2 t e) = dzOf m c (ix2 ⟨1024 * q + t.val, by omega⟩ (colOf s e)) := by
  obtain ⟨i0, i1⟩ := where1 ⟨4 * s.val + q, h⟩
  unfold iblk
  rw [View.read_apply]
  show V m c main_arg1 _ = _
  rw [V_main_arg1]
  show _ = m ((c : Thread nD τ).loc main_arg1) _
  congr 1; funext a; apply Fin.ext
  match a with
  | ⟨0, _⟩ => show win0_1.index ⟨4 * s.val + q, h⟩ 0 * 1024 + 1 * t.val = 1024 * q + t.val; rw [i0]; dsimp only; omega
  | ⟨1, _⟩ => show win0_1.index ⟨4 * s.val + q, h⟩ 1 * 1152 + 1 * e.val = 1152 * s.val + e.val; rw [i1]; dsimp only; omega

end Reads

/-- The coordinates of an index of a shard's gradient. -/
def rowIn (i : S1x1024x1152.Idx) : Fin 1024 := i 1
def colIn (i : S1x1024x1152.Idx) : Fin 1152 := i 2
theorem eq_block (i : S1x1024x1152.Idx) : ∃ (d : Fin 1024) (e : Fin 1152), i = ix3 0 d e :=
  ⟨i 1, i 2, (eq_ix3 i).trans (by congr 1; exact Subsingleton.elim (α := Fin 1) _ _)⟩

theorem loc_eq (s : Fin 4) (d : Fin 1024) (e : Fin 1152) : loc2Of (ix3 s d e) = ix3 0 d e := by
  funext a; apply Fin.ext
  match a with
  | ⟨0, _⟩ => show s.val % 1 = 0; omega
  | ⟨1, _⟩ => show d.val % 1024 = d.val; omega
  | ⟨2, _⟩ => show e.val % 1152 = e.val; omega

theorem run_eq (s : Fin 4) (d : Fin 1024) (e : Fin 1152) : run2Of (ix3 s d e) = s.val := by
  show 1 * (s.val / 1 - 0) + 1 * (d.val / 1024 - 0) + 1 * (e.val / 1152 - 0) = s.val; omega

/-- A token's product. -/
def part (s : Fin 4) (T : Fin 4096) (i : S1x1024x1152.Idx) : EReal := hOf m c (ix2 T (rowIn i)) * dzOf m c (ix2 T (colOf s (colIn i)))

theorem reset_apply (s : Fin 4) (h : 4 * s.val + 0 < cfg0.N) (i : S1x1024x1152.Idx) :
    reset2 m c (4 * s.val + 0) h i = ∑ t : Fin 1024, part m c s ⟨1024 * 0 + t.val, by omega⟩ i := by
  obtain ⟨d, e, rfl⟩ := eq_block i
  refine (point_apply k0_pay1 (iblk m c 0 ⟨4 * s.val + 0, h⟩) (iblk m c 1 ⟨4 * s.val + 0, h⟩) d e).trans ?_
  rw [show k0_pay1 (F := Ideal) _ = 0 from Ideal.ofBits_zero_f32, zero_add]
  refine Finset.sum_congr rfl fun t _ => ?_
  exact congrArg₂ (fun a b : EReal => a * b) (read0 m c s 0 (by omega) h t d) (read1 m c s 0 (by omega) h t e)

theorem step_apply (s : Fin 4) (q : ℕ) (hq : q < 4) (h : 4 * s.val + q < cfg0.N) (acc : S1x1024x1152.Idx → EReal) (i : S1x1024x1152.Idx) :
    step2 m c (4 * s.val + q) h acc i = acc i + ∑ t : Fin 1024, part m c s ⟨1024 * q + t.val, by omega⟩ i := by
  obtain ⟨d, e, rfl⟩ := eq_block i
  refine (point_apply acc (iblk m c 0 ⟨4 * s.val + q, h⟩) (iblk m c 1 ⟨4 * s.val + q, h⟩) d e).trans
    (congrArg (fun z : EReal => acc (ix3 0 d e) + z) (Finset.sum_congr rfl fun t _ => ?_))
  exact congrArg₂ (fun a b : EReal => a * b) (read0 m c s q hq h t d) (read1 m c s q hq h t e)

/-- The kernel's array: over all tokens, the products of the normed input and the projection's cotangent. -/
theorem total (s : Fin 4) (d : Fin 1024) (e : Fin 1152) : grad m c (ix3 s d e) = ∑ T : Fin 4096, part m c s T (ix3 0 d e) := by
  have hN : 4 * s.val + 3 < cfg0.N := lt_of_lt_of_eq (by omega) N_0.symm
  have hR : 4 * run2Of (ix3 s d e) + 3 < cfg0.N := by rw [run_eq]; exact hN
  refine (dif_pos hR).trans ?_
  refine Eq.trans ?_ (Cert.Ffn.acc_total (reset2 m c) (step2 m c) s.val (part m c s) (reset_apply m c s) (step_apply m c s) hN (ix3 0 d e))
  rw [Cert.Ffn.acc_at (reset2 m c) (step2 m c) (run_eq s d e) hR hN]
  exact congrArg (Pipeline.accAt (reset2 m c) (step2 m c) (4 * s.val) 3 hN) (loc_eq s d e)

open Cert.Reference3Ideal.Read in
/-- The reference's array: the same sums. -/
theorem ref_apply (x : FVec Ideal S4096x1024 .bf16) (y : FVec Ideal S4096x4608 .bf16) (s : Fin 4) (d : Fin 1024) (e : Fin 1152) :
    val_main_v7 (F := Ideal) x y (ix3 s d e) = ∑ T : Fin 4096, x (ix2 T d) * y (ix2 T (colOf s e)) := by
  have p : idx_main_v6 (idx_main_v7 (ix3 s d e)) = ix2 d (colOf s e) := by
    funext a; apply Fin.ext
    match a with
    | ⟨0, _⟩ => show ((d.val * 4 + s.val) * 1152 + e.val) / 4608 = d.val; omega
    | ⟨1, _⟩ => show ((d.val * 4 + s.val) * 1152 + e.val) % 4608 = 1152 * s.val + e.val; omega
  rw [val_main_v7_apply, val_main_v6_apply, p, val_main_v5_apply, val_main_v4_apply]
  refine Finset.sum_congr rfl fun T _ => ?_
  refine (congrArg₂ (fun a b : EReal => a * b) (congrArg y (eq_ix2 _)) (congrArg x (eq_ix2 _))).trans (mul_comm _ _)

/-- The arrays agree. -/
theorem same : grad m c = Cert.Reference3Ideal.Read.val_main_v7 (F := Ideal) (hOf m c) (dzOf m c) := by
  funext i
  obtain ⟨s, d, e, rfl⟩ : ∃ (s : Fin 4) (d : Fin 1024) (e : Fin 1152), i = ix3 s d e := ⟨i 0, i 1, i 2, eq_ix3 i⟩
  exact (total m c s d e).trans (ref_apply _ _ s d e).symm

end Cert.Inw

namespace Cert.Proof

open Idealize.ShloMosaic Idealize.ShloMosaic.StableHlo Idealize.SL.Sem

/-- From the same arguments, kernel and reference end with the same gradient of the input projection's weights. -/
theorem algebraic3 : Cert.algebraic_Kernel3Ideal_Reference3Ideal (hKernel3Ideal := Cert.Kernel3Ideal.Gen.facts)
    (hReference3Ideal := Cert.Reference3Ideal.Gen.facts) := fun m ρ m' ρ' _ hag => by
  refine ⟨_, Cert.Kernel3Ideal.Value.run m ρ, (θ_run Cert.Reference3Ideal.defs _ _).mono (fun r h c => ?_) (Cert.Reference3Ideal.Value.run (F := Ideal) m' ρ')⟩
  obtain ⟨g0, g1⟩ := hag c
  obtain ⟨h0, hk⟩ := h c
  refine ⟨h0.trans ?_, hk⟩
  refine (Cert.Reference3Ideal.Read.val_main_v7_eq (F := Ideal) _ _).trans ?_
  rw [g0, g1]
  exact (Cert.Inw.same m c).symm

end Cert.Proof

end
-- ==== Proof.Dgrad.Arith.lean ====
/- The feed-forward block's backward pass over the real numbers: two ways to write the gate's derivative, and two ways to write
   the norm's. -/
module

public import Idealize.ShloMosaic.PureOps.Ideal
public import proofs.«01_k».proof.Proof.Att.RefGrad

@[expose] public section

noncomputable section

namespace Cert.Dgrad

open Idealize.ShloMosaic
open Cert.Att.Ref (IsReal ofBits_one)

/-- A finite sum of real numbers. -/
theorem coe_sum {ι : Type} (s : Finset ι) (f : ι → ℝ) : ((∑ i ∈ s, f i : ℝ) : EReal) = ∑ i ∈ s, (f i : EReal) :=
  map_sum (⟨⟨Real.toEReal, EReal.coe_zero⟩, EReal.coe_add⟩ : ℝ →+ EReal) f s

/-- The words of the programs' constants. -/
def half : EReal := Ideal.ofBits .f32 0x3F000000#32
def minusHalf : EReal := Ideal.ofBits .f32 0xBF000000#32
def width : EReal := Ideal.ofBits .f32 0x44800000#32
def eps : EReal := Ideal.ofBits .f32 0x358637BD#32

theorem half_eq : half = ((1 / 2 : ℝ) : EReal) := by
  simp [half, Ideal.ofBits, Ideal.ieee, -EReal.coe_mul]; norm_num
theorem minusHalf_eq : minusHalf = ((-1 / 2 : ℝ) : EReal) := by
  simp [minusHalf, Ideal.ofBits, Ideal.ieee, -EReal.coe_mul]; norm_num
theorem width_eq : width = ((1024 : ℝ) : EReal) := by
  simp [width, Ideal.ofBits, Ideal.ieee, -EReal.coe_mul]; norm_num
theorem eps_pos : ∃ e : ℝ, 0 < e ∧ eps = (e : EReal) := by
  refine ⟨_, ?_, by simp [eps, Ideal.ofBits, Ideal.ieee]; rfl⟩
  positivity

theorem IsReal.sub {x y : EReal} (hx : IsReal x) (hy : IsReal y) : IsReal (x - y) := by
  obtain ⟨a, rfl⟩ := hx; obtain ⟨b, rfl⟩ := hy; exact ⟨a - b, (EReal.coe_sub a b).symm⟩

theorem isReal_half : IsReal half := ⟨_, half_eq⟩

/-- The logistic function, as the programs write it. -/
def sigm (a : EReal) : EReal := Ideal.div 1 (1 + Ideal.exp (-a))

theorem isReal_sigm {a : EReal} (ha : IsReal a) : IsReal (sigm a) := by
  obtain ⟨r, rfl⟩ := ha
  refine ⟨1 * (1 / (1 + Real.exp (-r))), ?_⟩
  have h : (1 : EReal) + Ideal.exp (-(r : EReal)) = ((1 + Real.exp (-r) : ℝ) : EReal) := by
    rw [← EReal.coe_neg, Ideal.exp_coe, EReal.coe_add, EReal.coe_one]
  unfold sigm
  rw [h, Ideal.div_coe (by positivity), EReal.coe_mul, EReal.coe_one]

/-- The gate's derivative, as the kernel writes it and as the derivative of `a · sigm a` is written. -/
theorem gate_eq {ds a b : EReal} (hd : IsReal ds) (ha : IsReal a) (hb : IsReal b) :
    ds * b * (sigm a * (1 + a * (1 - sigm a))) = ds * b * sigm a + a * (ds * b) * (sigm a * (1 - sigm a)) := by
  obtain ⟨s, hs⟩ := isReal_sigm ha
  rw [hs]
  obtain ⟨d, rfl⟩ := hd; obtain ⟨r, rfl⟩ := ha; obtain ⟨u, rfl⟩ := hb
  rw [← EReal.coe_one]
  simp only [← EReal.coe_mul, ← EReal.coe_sub, ← EReal.coe_add]
  congr 1; ring

/-- A row's mean of squares, and the inverse of its root. -/
def meanSq (x : Fin 1024 → EReal) : EReal := Ideal.div (∑ e, x e * x e) width + eps
def invRms (x : Fin 1024 → EReal) : EReal := Ideal.rsqrt (meanSq x)

theorem div_width (x : ℝ) : Ideal.div (x : EReal) width = ((x * (1 / 1024) : ℝ) : EReal) := by
  rw [width_eq, Ideal.div_coe (by norm_num), EReal.coe_mul]

/-- Over real rows they are real, and positive. -/
theorem meanSq_real (r : Fin 1024 → ℝ) : ∃ u : ℝ, 0 < u ∧ meanSq (fun e => (r e : EReal)) = u := by
  obtain ⟨e, he, hE⟩ := eps_pos
  refine ⟨(∑ d, r d * r d) * (1 / 1024) + e, add_pos_of_nonneg_of_pos (mul_nonneg (Finset.sum_nonneg fun d _ => mul_self_nonneg (r d)) (by norm_num)) he, ?_⟩
  unfold meanSq
  rw [show (∑ d, (r d : EReal) * (r d : EReal)) = ((∑ d, r d * r d : ℝ) : EReal) by simp only [← EReal.coe_mul, ← coe_sum], div_width, hE, ← EReal.coe_add]

theorem rsqrt_pos {u : ℝ} (hu : 0 < u) : Ideal.rsqrt (u : EReal) = (((Real.sqrt u)⁻¹ : ℝ) : EReal) := by
  rw [Ideal.rsqrt_coe, if_neg hu.le.not_gt, if_neg hu.ne']

theorem isReal_invRms {x : Fin 1024 → EReal} (hx : ∀ d, IsReal (x d)) : IsReal (invRms x) := by
  choose r hr using hx
  obtain rfl : x = fun e => (r e : EReal) := funext hr
  obtain ⟨u, hu, h⟩ := meanSq_real r
  exact ⟨_, by unfold invRms; rw [h, rsqrt_pos hu]⟩

/-- The norm's gradient of a row `x`, as the kernel writes it (from the normed row `x · invRms x`), and as the derivative of
    `x · invRms x` is written. `y` is the cotangent of the normed row, `c` what is added. -/
theorem norm_eq {x y : Fin 1024 → EReal} (hx : ∀ d, IsReal (x d)) (hy : ∀ d, IsReal (y d)) {c : EReal} (hc : IsReal c) (d : Fin 1024) :
    c + invRms x * (y d - x d * invRms x * Ideal.div (∑ e, y e * (x e * invRms x)) width)
      = c + y d * invRms x + x d * Ideal.div ((∑ e, x e * y e) * (minusHalf * Ideal.div (invRms x) (meanSq x))) width
        + Ideal.div ((∑ e, x e * y e) * (minusHalf * Ideal.div (invRms x) (meanSq x))) width * x d := by
  choose r hr using hx
  obtain rfl : x = fun e => (r e : EReal) := funext hr
  choose s hs using hy
  obtain rfl : y = fun e => (s e : EReal) := funext hs
  obtain ⟨c, rfl⟩ := hc
  obtain ⟨u, hu, h⟩ := meanSq_real r
  have hi : invRms (fun e => (r e : EReal)) = (((Real.sqrt u)⁻¹ : ℝ) : EReal) := by unfold invRms; rw [h, rsqrt_pos hu]
  rw [hi, h, minusHalf_eq, Ideal.div_coe hu.ne']
  set p : ℝ := (Real.sqrt u)⁻¹ with hp
  have hq : p * p = 1 / u := by rw [hp, ← mul_inv, Real.mul_self_sqrt hu.le, one_div]
  rw [show (∑ e, (s e : EReal) * ((r e : EReal) * (p : EReal))) = ((∑ e, s e * (r e * p) : ℝ) : EReal) by
      simp only [← EReal.coe_mul, ← coe_sum],
    show (∑ e, (r e : EReal) * (s e : EReal)) = ((∑ e, r e * s e : ℝ) : EReal) by
      simp only [← EReal.coe_mul, ← coe_sum]]
  simp only [div_width, ← EReal.coe_mul, ← EReal.coe_add, ← EReal.coe_sub]
  congr 1
  have e : (∑ e, s e * (r e * p)) = (∑ e, r e * s e) * p := by
    rw [Finset.sum_mul]; exact Finset.sum_congr rfl fun e _ => by ring
  rw [e, ← hq]
  ring

end Cert.Dgrad

end
-- ==== Proof.Dgrad.Block.lean ====
/- One block of 256 tokens of the feed-forward block's backward pass: its steps as functions of what they load, and each read at
   an index over the extended reals. -/
module

public import proofs.«01_k».proof.Proof.Gen.Kernel4Ideal.Skeleton
public import proofs.«01_k».proof.Proof.Dgrad.Arith
public import Idealize.ShloMosaic.Lib.ValueIdx
public import Idealize.ShloMosaic.Lib.Pointwise
public import Idealize.ShloMosaic.PureOps.Ideal

@[expose] public section

set_option maxRecDepth 16384

noncomputable section

namespace Cert.Dgrad

open Idealize.ShloMosaic Cert.Kernel4Ideal Cert.Kernel4Ideal.Gen Idealize.ShloMosaic.TcCoe
open Idealize.ShloMosaic.Ideal (matmul_constant_zero_apply multiReduction_add_single)
open Idealize.ShloMosaic.ValueIdx (contrEquiv1 contrEquiv1_symm_val)
open Cert.Att.Ref (ofBits_one)

section Terms

variable {F : FTy → Type} [FloatOps F]

/-- Rows 64q … 64q + 63 of a block fit in it. -/
theorem fits (q : Fin 4) : S256x704.Slices ![64 * q.val, 0] S64x704 := by
  refine ⟨rfl, fun a => ?_⟩
  match a with
  | ⟨0, _⟩ => show 64 * q.val + 64 ≤ 256; omega
  | ⟨1, _⟩ => show 0 + 704 ≤ 704; omega

/-- The cotangent of a shard's hidden units: half the cotangent, times the shard's rows of the down weights. -/
def hiddenCt (x : Vec F S256x1024 .f32) (w : Vec F S1x704x1024 .bf16) : FVec F S256x704 .f32 :=
  matmul dot_S256x1024_S704x1024_S256x704_1_1_0_0_n_n none (k0_pay3 x) (shapeCast S704x1024 w shapeCasts_S1x704x1024_S704x1024)
    (constant S256x704 .f32 0x00000000#32)

/-- The logistic function of 64 rows. -/
def sigmRows (a : FVec F S64x704 .f32) : FVec F S64x704 .f32 :=
  divf (broadcast S64x704 (Scalar.ofBits .f32 0x3F800000#32))
    (addf (broadcast S64x704 (Scalar.ofBits .f32 0x3F800000#32)) (exp (subf (broadcast S64x704 (Scalar.ofBits .f32 0x00000000#32)) a)))

/-- 64 saved rows, widened. -/
def wide (a : Vec F S1x64x704 .bf16) : FVec F S64x704 .f32 :=
  extf .f32 (shapeCast S64x704 a shapeCasts_S1x64x704_S64x704) bitsLt_bf16_f32

/-- The gate pre-activation's gradient of 64 rows. -/
def gateRows (v : FVec F S256x704 .f32) (q : Fin 4) (a b : Vec F S1x64x704 .bf16) : FVec F S1x64x704 .bf16 :=
  shapeCast S1x64x704 (truncf .bf16 (mulf (mulf (extractStridedSlice S64x704 ![64 * q.val, 0] v (fits q)) (wide b))
    (mulf (sigmRows (wide a)) (addf (broadcast S64x704 (Scalar.ofBits .f32 0x3F800000#32))
      (mulf (wide a) (subf (broadcast S64x704 (Scalar.ofBits .f32 0x3F800000#32)) (sigmRows (wide a))))))) bitsLt_bf16_f32)
    shapeCasts_S64x704_S1x64x704

/-- The up product's gradient of 64 rows. -/
def upRows (v : FVec F S256x704 .f32) (q : Fin 4) (a : Vec F S1x64x704 .bf16) : FVec F S1x64x704 .bf16 :=
  shapeCast S1x64x704 (truncf .bf16 (mulf (extractStridedSlice S64x704 ![64 * q.val, 0] v (fits q)) (mulf (wide a) (sigmRows (wide a)))) bitsLt_bf16_f32)
    shapeCasts_S64x704_S1x64x704

/-- What a shard adds to the gradient of the normed input. -/
def shardStep (acc : FVec F S256x1024 .f32) (da : Vec F S1x256x704 .bf16) (wg : Vec F S1x704x1024 .bf16) (db : Vec F S1x256x704 .bf16)
    (wu : Vec F S1x704x1024 .bf16) : FVec F S256x1024 .f32 := k0_pay103 acc da wg db wu

end Terms

section Read

theorem shard_rows (w : Vec Ideal S1x704x1024 .bf16) (f : Fin 704) (d : Fin 1024) :
    shapeCast S704x1024 w shapeCasts_S1x704x1024_S704x1024 (ix2 f d) = w (ix3 0 f d) :=
  shapeCast_apply _ _ _ (ix3 0 f d) (by rw [Shape.rowMajor_val_two, Shape.rowMajor_val_three]; show (0 * 704 + f.val) * 1024 + d.val = f.val * 1024 + d.val; omega)

theorem hiddenCt_apply (x : Vec Ideal S256x1024 .f32) (w : Vec Ideal S1x704x1024 .bf16) (t : Fin 256) (f : Fin 704) :
    hiddenCt x w (ix2 t f) = ∑ d : Fin 1024, half * x (ix2 t d) * w (ix3 0 f d) := by
  unfold hiddenCt
  simp only [matmul]
  rw [matmul_constant_zero_apply, ← Equiv.sum_comp (contrEquiv1 dot_S256x1024_S704x1024_S256x704_1_1_0_0_n_n 1024 rfl rfl).symm]
  refine Finset.sum_congr rfl fun d _ => ?_
  have hd := contrEquiv1_symm_val dot_S256x1024_S704x1024_S256x704_1_1_0_0_n_n 1024 rfl rfl d
  have e1 : DotDims.lhsIdx dot_S256x1024_S704x1024_S256x704_1_1_0_0_n_n (ix2 t f) ((contrEquiv1 dot_S256x1024_S704x1024_S256x704_1_1_0_0_n_n 1024 rfl rfl).symm d) = ix2 t d := by
    funext a; refine Fin.ext ?_
    match a with
    | ⟨0, _⟩ => rfl
    | ⟨1, _⟩ => exact hd
  have e2 : DotDims.rhsIdx dot_S256x1024_S704x1024_S256x704_1_1_0_0_n_n (ix2 t f) ((contrEquiv1 dot_S256x1024_S704x1024_S256x704_1_1_0_0_n_n 1024 rfl rfl).symm d) = ix2 f d := by
    funext a; refine Fin.ext ?_
    match a with
    | ⟨0, _⟩ => rfl
    | ⟨1, _⟩ => exact hd
  rw [e1, e2, shard_rows]
  rfl

theorem wide_apply (a : Vec Ideal S1x64x704 .bf16) (r : Fin 64) (f : Fin 704) : wide a (ix2 r f) = a (ix3 0 r f) :=
  shapeCast_apply _ _ _ (ix3 0 r f) (by rw [Shape.rowMajor_val_two, Shape.rowMajor_val_three]; show (0 * 64 + r.val) * 704 + f.val = r.val * 704 + f.val; omega)

theorem sigmRows_apply (a : FVec Ideal S64x704 .f32) (i : S64x704.Idx) : sigmRows a i = sigm (a i) := by
  show Ideal.div (Ideal.ofBits .f32 0x3F800000#32) (Ideal.ofBits .f32 0x3F800000#32 + Ideal.exp (Ideal.ofBits .f32 0x00000000#32 - a i)) = _
  rw [ofBits_one, Ideal.ofBits_zero_f32, zero_sub]; rfl

/-- Row `r` of a block's rows 64q … 64q + 63. -/
def rowAt (q : Fin 4) (r : Fin 64) : Fin 256 := ⟨64 * q.val + r.val, by omega⟩

theorem slice_apply (v : FVec Ideal S256x704 .f32) (q : Fin 4) (r : Fin 64) (f : Fin 704) :
    extractStridedSlice S64x704 ![64 * q.val, 0] v (fits q) (ix2 r f) = v (ix2 (rowAt q r) f) :=
  extractStridedSlice_apply _ _ _ _ _ fun a => by
    match a with
    | ⟨0, _⟩ => rfl
    | ⟨1, _⟩ => show f.val = 0 + f.val; omega

theorem pack_apply (v : FVec Ideal S64x704 .bf16) (r : Fin 64) (f : Fin 704) :
    shapeCast S1x64x704 v shapeCasts_S64x704_S1x64x704 (ix3 0 r f) = v (ix2 r f) :=
  shapeCast_apply _ _ _ (ix2 r f) (by rw [Shape.rowMajor_val_two, Shape.rowMajor_val_three]; show r.val * 704 + f.val = (0 * 64 + r.val) * 704 + f.val; omega)

/-- The gate pre-activation's gradient, and the up product's, of a unit: from its cotangent and its two saved projections. -/
def gateCt (ds a b : EReal) : EReal := ds * b * (sigm a * (1 + a * (1 - sigm a)))
def upCt (ds a : EReal) : EReal := ds * (a * sigm a)

theorem gateRows_apply (v : FVec Ideal S256x704 .f32) (q : Fin 4) (a b : Vec Ideal S1x64x704 .bf16) (r : Fin 64) (f : Fin 704) :
    gateRows v q a b (ix3 0 r f) = gateCt (v (ix2 (rowAt q r) f)) (a (ix3 0 r f)) (b (ix3 0 r f)) := by
  unfold gateRows
  rw [pack_apply]
  show (extractStridedSlice S64x704 ![64 * q.val, 0] v (fits q) (ix2 r f) * wide b (ix2 r f) : EReal)
    * (sigmRows (wide a) (ix2 r f) * (Ideal.ofBits .f32 0x3F800000#32 + wide a (ix2 r f) * (Ideal.ofBits .f32 0x3F800000#32 - sigmRows (wide a) (ix2 r f)))) = _
  rw [slice_apply, sigmRows_apply, wide_apply, wide_apply, ofBits_one]
  rfl

theorem upRows_apply (v : FVec Ideal S256x704 .f32) (q : Fin 4) (a : Vec Ideal S1x64x704 .bf16) (r : Fin 64) (f : Fin 704) :
    upRows v q a (ix3 0 r f) = upCt (v (ix2 (rowAt q r) f)) (a (ix3 0 r f)) := by
  unfold upRows
  rw [pack_apply]
  show (extractStridedSlice S64x704 ![64 * q.val, 0] v (fits q) (ix2 r f) : EReal) * (wide a (ix2 r f) * sigmRows (wide a) (ix2 r f)) = _
  rw [slice_apply, sigmRows_apply, wide_apply]
  rfl

theorem flat_apply (x : Vec Ideal S1x256x704 .bf16) (t : Fin 256) (f : Fin 704) :
    shapeCast S256x704 x shapeCasts_S1x256x704_S256x704 (ix2 t f) = x (ix3 0 t f) :=
  shapeCast_apply _ _ _ (ix3 0 t f) (by rw [Shape.rowMajor_val_two, Shape.rowMajor_val_three]; show (0 * 256 + t.val) * 704 + f.val = t.val * 704 + f.val; omega)

/-- The product of a shard's gradient and its rows of the weights. -/
theorem units_apply (x : Vec Ideal S1x256x704 .bf16) (w : Vec Ideal S1x704x1024 .bf16) (t : Fin 256) (d : Fin 1024) :
    matmul dot_S256x704_S704x1024_S256x1024_1_0_0_1_n_n none (shapeCast S256x704 x shapeCasts_S1x256x704_S256x704 : FVec Ideal S256x704 .bf16)
      (shapeCast S704x1024 w shapeCasts_S1x704x1024_S704x1024 : FVec Ideal S704x1024 .bf16) (constant S256x1024 .f32 0x00000000#32) (ix2 t d)
      = ∑ f : Fin 704, x (ix3 0 t f) * w (ix3 0 f d) := by
  simp only [matmul]
  rw [matmul_constant_zero_apply, ← Equiv.sum_comp (contrEquiv1 dot_S256x704_S704x1024_S256x1024_1_0_0_1_n_n 704 rfl rfl).symm]
  refine Finset.sum_congr rfl fun f _ => ?_
  have hf := contrEquiv1_symm_val dot_S256x704_S704x1024_S256x1024_1_0_0_1_n_n 704 rfl rfl f
  have e1 : DotDims.lhsIdx dot_S256x704_S704x1024_S256x1024_1_0_0_1_n_n (ix2 t d) ((contrEquiv1 dot_S256x704_S704x1024_S256x1024_1_0_0_1_n_n 704 rfl rfl).symm f) = ix2 t f := by
    funext a; refine Fin.ext ?_
    match a with
    | ⟨0, _⟩ => rfl
    | ⟨1, _⟩ => exact hf
  have e2 : DotDims.rhsIdx dot_S256x704_S704x1024_S256x1024_1_0_0_1_n_n (ix2 t d) ((contrEquiv1 dot_S256x704_S704x1024_S256x1024_1_0_0_1_n_n 704 rfl rfl).symm f) = ix2 f d := by
    funext a; refine Fin.ext ?_
    match a with
    | ⟨0, _⟩ => exact hf
    | ⟨1, _⟩ => rfl
  rw [e1, e2, shard_rows, flat_apply]

theorem shardStep_apply (acc : FVec Ideal S256x1024 .f32) (da : Vec Ideal S1x256x704 .bf16) (wg : Vec Ideal S1x704x1024 .bf16)
    (db : Vec Ideal S1x256x704 .bf16) (wu : Vec Ideal S1x704x1024 .bf16) (t : Fin 256) (d : Fin 1024) :
    shardStep acc da wg db wu (ix2 t d) = acc (ix2 t d) + ((∑ f : Fin 704, da (ix3 0 t f) * wg (ix3 0 f d)) + ∑ f : Fin 704, db (ix3 0 t f) * wu (ix3 0 f d)) := by
  rw [← units_apply, ← units_apply]
  rfl

/-- The row of an array. -/
abbrev rowOf (x : FVec Ideal S256x1024 .f32) (t : Fin 256) : Fin 1024 → EReal := fun d => x (ix2 t d)

theorem rowSum_apply (x : FVec Ideal S256x1024 .f32) (t : Fin 256) :
    shapeCast S256x1 (multiReduction .add [1] S256 x 0x00000000#32 reduces_S256x1024_S256 (.inl rfl) rfl) shapeCasts_S256_S256x1 (ix2 t 0)
      = ∑ d : Fin 1024, x (ix2 t d) := by
  rw [shapeCast_apply _ _ _ (ix1 t) (by rw [Shape.rowMajor_val_one, Shape.rowMajor_val_two]; show t.val = t.val * 1 + 0; omega)]
  refine (multiReduction_add_single _ _ reduces_S256x1024_S256 _ _ _).trans ?_
  refine Finset.sum_congr rfl fun d _ => congrArg x ?_
  funext a; refine Fin.ext ?_
  match a with
  | ⟨0, _⟩ => rfl
  | ⟨1, _⟩ => rfl

theorem colSum_apply (x : FVec Ideal S256x1024 .f32) (d : Fin 1024) :
    shapeCast S1x1024 (multiReduction .add [0] S1024 x 0x00000000#32 reduces_S256x1024_S1024 (.inl rfl) rfl) shapeCasts_S1024_S1x1024 (ix2 0 d)
      = ∑ t : Fin 256, x (ix2 t d) := by
  rw [shapeCast_apply _ _ _ (ix1 d) (by rw [Shape.rowMajor_val_one, Shape.rowMajor_val_two]; show d.val = 0 * 1024 + d.val; omega)]
  refine (multiReduction_add_single _ _ reduces_S256x1024_S1024 _ _ _).trans ?_
  refine Finset.sum_congr rfl fun t _ => congrArg x ?_
  funext a; refine Fin.ext ?_
  match a with
  | ⟨0, _⟩ => rfl
  | ⟨1, _⟩ => rfl

theorem column_apply (x : FVec Ideal S256x1 .f32) (t : Fin 256) (d : Fin 1024) :
    broadcastTo S256x1024 x broadcasts_S256x1_S256x1024 (ix2 t d) = x (ix2 t 0) :=
  broadcastTo_apply _ _ _ (ix2 t 0) fun a => by
    match a with
    | ⟨0, _⟩ => rfl
    | ⟨1, _⟩ => rfl

theorem line_apply (x : FVec Ideal S1x1024 .f32) (t : Fin 256) (d : Fin 1024) :
    broadcastTo S256x1024 x broadcasts_S1x1024_S256x1024 (ix2 t d) = x (ix2 0 d) :=
  broadcastTo_apply _ _ _ (ix2 0 d) fun a => by
    match a with
    | ⟨0, _⟩ => rfl
    | ⟨1, _⟩ => rfl

theorem invRms_apply (x : FVec Ideal S256x1024 .f32) (t : Fin 256) : k0_pay104 (F := Ideal) x (ix2 t 0) = invRms (rowOf x t) := by
  show Ideal.rsqrt (Ideal.div (shapeCast S256x1 _ shapeCasts_S256_S256x1 (ix2 t 0)) width + eps) = _
  rw [rowSum_apply]
  rfl

theorem normed_apply (x : FVec Ideal S256x1024 .f32) (t : Fin 256) (d : Fin 1024) :
    k0_pay105 x (ix2 t d) = x (ix2 t d) * invRms (rowOf x t) := by
  show x (ix2 t d) * broadcastTo S256x1024 _ broadcasts_S256x1_S256x1024 (ix2 t d) = _
  rw [column_apply, invRms_apply]

/-- What a block adds to the gain's gradient. -/
theorem gain_apply (dh x : FVec Ideal S256x1024 .f32) (d : Fin 1024) :
    k0_pay106 dh x (ix2 0 d) = ∑ t : Fin 256, dh (ix2 t d) * (x (ix2 t d) * invRms (rowOf x t)) := by
  unfold k0_pay106
  refine (colSum_apply _ d).trans (Finset.sum_congr rfl fun t _ => ?_)
  show dh (ix2 t d) * k0_pay105 x (ix2 t d) = _
  rw [normed_apply]

/-- A block of the input's gradient. -/
theorem input_apply (ct dh : FVec Ideal S256x1024 .f32) (g : FVec Ideal S1x1024 .f32) (x : FVec Ideal S256x1024 .f32) (t : Fin 256) (d : Fin 1024) :
    k0_pay107 ct dh g x (ix2 t d) = ct (ix2 t d) + invRms (rowOf x t) * (dh (ix2 t d) * g (ix2 0 d) - x (ix2 t d) * invRms (rowOf x t)
      * Ideal.div (∑ e : Fin 1024, dh (ix2 t e) * g (ix2 0 e) * (x (ix2 t e) * invRms (rowOf x t))) width) := by
  show ct (ix2 t d) + broadcastTo S256x1024 (k0_pay104 x) broadcasts_S256x1_S256x1024 (ix2 t d)
    * (dh (ix2 t d) * broadcastTo S256x1024 g broadcasts_S1x1024_S256x1024 (ix2 t d) - k0_pay105 x (ix2 t d)
      * broadcastTo S256x1024 _ broadcasts_S256x1_S256x1024 (ix2 t d)) = _
  rw [column_apply, column_apply, line_apply, invRms_apply, normed_apply]
  show _ + _ * (_ - _ * Ideal.div (shapeCast S256x1 _ shapeCasts_S256_S256x1 (ix2 t 0)) width) = _
  rw [rowSum_apply]
  refine congrArg (fun z => ct (ix2 t d) + invRms (rowOf x t) * (dh (ix2 t d) * g (ix2 0 d) - x (ix2 t d) * invRms (rowOf x t) * Ideal.div z width)) ?_
  refine Finset.sum_congr rfl fun e _ => ?_
  show dh (ix2 t e) * broadcastTo S256x1024 g broadcasts_S1x1024_S256x1024 (ix2 t e) * k0_pay105 x (ix2 t e) = _
  rw [line_apply, normed_apply]

end Read

end Cert.Dgrad

end
-- ==== Proof.Dgrad.Spec.lean ====
/- The feed-forward input's gradient as functions of token, unit and feature: what kernel and reference are both read as. -/
module

public import proofs.«01_k».proof.Proof.Dgrad.Block

@[expose] public section

noncomputable section

namespace Cert.Dgrad

open Idealize.ShloMosaic

/-- The arguments: the input, the norm's gain, the gate, up and down weights, the cotangent. -/
structure Args where
  x : Fin 4096 → Fin 1024 → EReal
  g : Fin 1024 → EReal
  wg : Fin 1024 → Fin 2816 → EReal
  wu : Fin 1024 → Fin 2816 → EReal
  wd : Fin 2816 → Fin 1024 → EReal
  ct : Fin 4096 → Fin 1024 → EReal

namespace Args

variable (P : Args)

/-- A token's normed input. -/
def normed (T : Fin 4096) (d : Fin 1024) : EReal := P.x T d * invRms (P.x T) * P.g d
/-- The gate's pre-activation and the up product of a unit. -/
def gate (T : Fin 4096) (n : Fin 2816) : EReal := ∑ d : Fin 1024, P.normed T d * P.wg d n
def up (T : Fin 4096) (n : Fin 2816) : EReal := ∑ d : Fin 1024, P.normed T d * P.wu d n
/-- The cotangent of a unit. -/
def unitCt (T : Fin 4096) (n : Fin 2816) : EReal := ∑ d : Fin 1024, half * P.ct T d * P.wd n d
/-- The gradients of a unit's gate pre-activation and of its up product. -/
def dGate (T : Fin 4096) (n : Fin 2816) : EReal := gateCt (P.unitCt T n) (P.gate T n) (P.up T n)
def dUp (T : Fin 4096) (n : Fin 2816) : EReal := upCt (P.unitCt T n) (P.gate T n)
/-- The gradient of the normed input. -/
def dNormed (T : Fin 4096) (d : Fin 1024) : EReal := (∑ n : Fin 2816, P.dGate T n * P.wg d n) + ∑ n : Fin 2816, P.dUp T n * P.wu d n
/-- A token's part of the gain's gradient, and the gain's gradient. -/
def gainTerm (d : Fin 1024) (T : Fin 4096) : EReal := P.dNormed T d * (P.x T d * invRms (P.x T))
def dGain (d : Fin 1024) : EReal := ∑ T : Fin 4096, P.gainTerm d T
/-- The input's gradient. -/
def dInput (T : Fin 4096) (d : Fin 1024) : EReal :=
  P.ct T d + invRms (P.x T) * (P.dNormed T d * P.g d - P.x T d * invRms (P.x T)
    * Ideal.div (∑ e : Fin 1024, P.dNormed T e * P.g e * (P.x T e * invRms (P.x T))) width)

end Args

/-- Unit `f` of shard `s`, and token `r` of block `t`. -/
def unit (s : Fin 4) (f : Fin 704) : Fin 2816 := ⟨704 * s.val + f.val, by omega⟩
def token (t : Fin 16) (r : Fin 256) : Fin 4096 := ⟨256 * t.val + r.val, by omega⟩

end Cert.Dgrad

end
-- ==== Proof.Dgrad.Host.lean ====
/- The arrays that the host lines hand to the feed-forward input's gradient, in the reference's terms. -/
module

public import proofs.«01_k».proof.Proof.Gen.Kernel4Ideal.Frame.Runs
public import proofs.«01_k».proof.Proof.Gen.Reference4Ideal.Read
public import proofs.«01_k».proof.Proof.Dgrad.Spec
public import Idealize.ShloMosaic.Lib.KernelVsHost
public import Idealize.ShloMosaic.Lib.ValueIdx
public import Idealize.ShloMosaic.Lib.Pointwise

@[expose] public section

set_option maxRecDepth 16384

noncomputable section

namespace Cert.Dgrad

open Idealize.ShloMosaic Cert.Kernel4Ideal Cert.Kernel4Ideal.Gen Idealize.ShloMosaic.TcCoe Idealize.ShloMosaic.StableHlo
open Cert.Reference4Ideal.Read (val_main_v16 val_main_v18)

/-- The hidden units' array, cut into the four shards. -/
def shardsOf (x : FVec Ideal S4096x2816 .f32) : FVec Ideal S4x4096x704 .bf16 :=
  truncf .bf16 (transpose S4x4096x704 [1, 0, 2] (shapeCast S4096x4x704 x shapeCasts_S4096x2816_S4096x4x704) transposes_S4096x4x704_S4x4096x704_1_0_2) bitsLt_bf16_f32

theorem shardsOf_apply (x : FVec Ideal S4096x2816 .f32) (s : Fin 4) (T : Fin 4096) (f : Fin 704) :
    shardsOf x (ix3 s T f) = x (ix2 T (unit s f)) := by
  show transpose S4x4096x704 [1, 0, 2] (shapeCast S4096x4x704 x shapeCasts_S4096x2816_S4096x4x704) _ (ix3 s T f) = _
  rw [transpose_apply _ _ _ _ (ix3 T s f) (fun a => by match a with
    | ⟨0, _⟩ => rfl
    | ⟨1, _⟩ => rfl
    | ⟨2, _⟩ => rfl)]
  exact shapeCast_apply _ _ _ _ (by
    rw [Shape.rowMajor_val_two, Shape.rowMajor_val_three]
    show T.val * 2816 + (704 * s.val + f.val) = (T.val * 4 + s.val) * 704 + f.val; omega)

/-- Weights whose rows are hidden units, cut into the four shards. -/
def rowShards (w : FVec Ideal S2816x1024 .f32) : FVec Ideal S4x704x1024 .bf16 :=
  truncf .bf16 (shapeCast S4x704x1024 w shapeCasts_S2816x1024_S4x704x1024) bitsLt_bf16_f32

theorem rowShards_apply (w : FVec Ideal S2816x1024 .f32) (s : Fin 4) (f : Fin 704) (d : Fin 1024) :
    rowShards w (ix3 s f d) = w (ix2 (unit s f) d) :=
  shapeCast_apply _ _ _ (ix2 (unit s f) d) (by
    rw [Shape.rowMajor_val_two, Shape.rowMajor_val_three]
    show (704 * s.val + f.val) * 1024 + d.val = (s.val * 704 + f.val) * 1024 + d.val; omega)

/-- The same, of weights whose columns are hidden units. -/
def columnShards (w : FVec Ideal S1024x2816 .f32) : FVec Ideal S4x704x1024 .bf16 :=
  rowShards (transpose S2816x1024 [1, 0] w transposes_S1024x2816_S2816x1024_1_0)

theorem columnShards_apply (w : FVec Ideal S1024x2816 .f32) (s : Fin 4) (f : Fin 704) (d : Fin 1024) :
    columnShards w (ix3 s f d) = w (ix2 d (unit s f)) :=
  (rowShards_apply _ s f d).trans (transpose_apply _ _ _ _ (ix2 d (unit s f)) fun a => by
    match a with
    | ⟨0, _⟩ => rfl
    | ⟨1, _⟩ => rfl)

variable (m : (ℓ : Loc nD τ sig) → Buf (Elt Ideal) ℓ) (c : Dev nD)

/-- The arguments, as launched. -/
abbrev xOf : FVec Ideal S4096x1024 .f32 := m ((c : Thread nD τ).loc main_arg0)
abbrev gOf : FVec Ideal S1x1024 .f32 := m ((c : Thread nD τ).loc main_arg1)
abbrev wgOf : FVec Ideal S1024x2816 .f32 := m ((c : Thread nD τ).loc main_arg2)
abbrev wuOf : FVec Ideal S1024x2816 .f32 := m ((c : Thread nD τ).loc main_arg3)
abbrev wdOf : FVec Ideal S2816x1024 .f32 := m ((c : Thread nD τ).loc main_arg4)
abbrev ctOf : FVec Ideal S4096x1024 .f32 := m ((c : Thread nD τ).loc main_arg5)

set_option maxHeartbeats 2000000 in
/-- The host's shards of the gate's pre-activation. -/
theorem host_a : V m c main_v23 = shardsOf (val_main_v16 (F := Ideal) (xOf m c) (gOf m c) (wgOf m c)) := by
  show after (hostOps0 ++ []) _ (Proc.devRef .tc main_v23) = _
  simp only [hostOps0, List.cons_append, List.nil_append, List.append_nil, TRef.binary, TRef.unary, TRef.nullary, TRef.toBuf, TRef.ofBuf, cast_eq]
  after_results_simp
  rfl

set_option maxHeartbeats 2000000 in
/-- The host's shards of the up product. -/
theorem host_b : V m c main_v27 = shardsOf (val_main_v18 (F := Ideal) (xOf m c) (gOf m c) (wuOf m c)) := by
  show after (hostOps0 ++ []) _ (Proc.devRef .tc main_v27) = _
  simp only [hostOps0, List.cons_append, List.nil_append, List.append_nil, TRef.binary, TRef.unary, TRef.nullary, TRef.toBuf, TRef.ofBuf, cast_eq]
  after_results_simp
  rfl

set_option maxHeartbeats 2000000 in
/-- The host's shards of the gate weights, -/
theorem host_wg : V m c main_v14 = columnShards (wgOf m c) := by
  show after (hostOps0 ++ []) _ (Proc.devRef .tc main_v14) = _
  simp only [hostOps0, List.cons_append, List.nil_append, List.append_nil, TRef.binary, TRef.unary, TRef.nullary, TRef.toBuf, TRef.ofBuf, cast_eq]
  after_results_simp
  rfl

set_option maxHeartbeats 2000000 in
/-- of the up weights, -/
theorem host_wu : V m c main_v17 = columnShards (wuOf m c) := by
  show after (hostOps0 ++ []) _ (Proc.devRef .tc main_v17) = _
  simp only [hostOps0, List.cons_append, List.nil_append, List.append_nil, TRef.binary, TRef.unary, TRef.nullary, TRef.toBuf, TRef.ofBuf, cast_eq]
  after_results_simp
  rfl

set_option maxHeartbeats 2000000 in
/-- and of the down weights. -/
theorem host_wd : V m c main_v19 = rowShards (wdOf m c) := by
  show after (hostOps0 ++ []) _ (Proc.devRef .tc main_v19) = _
  simp only [hostOps0, List.cons_append, List.nil_append, List.append_nil, TRef.binary, TRef.unary, TRef.nullary, TRef.toBuf, TRef.ofBuf, cast_eq]
  after_results_simp
  rfl

end Cert.Dgrad

end
-- ==== Proof.Dgrad.Reference.lean ====
/- What the reference of the feed-forward input's gradient leaves, as functions of token, unit and feature. -/
module

public import proofs.«01_k».proof.Proof.Gen.Reference4Ideal.Read
public import proofs.«01_k».proof.Proof.Dgrad.Spec
public import Idealize.ShloMosaic.Lib.ValueIdx
public import Idealize.ShloMosaic.Lib.Pointwise

@[expose] public section

set_option maxRecDepth 16384

noncomputable section

namespace Cert.Dgrad

open Idealize.ShloMosaic Cert.Reference4Ideal Cert.Reference4Ideal.Read
open Cert.Att.Ref (IsReal ofBits_one)

variable (x0 : FVec Ideal S4096x1024 .f32) (x1 : FVec Ideal S1x1024 .f32) (x2 x3 : FVec Ideal S1024x2816 .f32) (x4 : FVec Ideal S2816x1024 .f32)
  (x5 : FVec Ideal S4096x1024 .f32)

/-- The arguments' arrays, as functions. -/
def argsOf : Args where
  x := fun T d => x0 (ix2 T d)
  g := fun d => x1 (ix2 0 d)
  wg := fun d n => x2 (ix2 d n)
  wu := fun d n => x3 (ix2 d n)
  wd := fun n d => x4 (ix2 n d)
  ct := fun T d => x5 (ix2 T d)

namespace Ref

/-- A row of the input. -/
abbrev row (T : Fin 4096) : Fin 1024 → EReal := fun d => x0 (ix2 T d)

theorem meanSq_ref (T : Fin 4096) (z : Fin 1) : val_main_v7 (F := Ideal) x0 (ix2 T z) = meanSq (row x0 T) := by
  rw [val_main_v7_apply, val_main_v5_apply, val_main_v3_apply, val_main_v2_apply, val_main_v4_apply, val_main_v6_apply]
  show Ideal.div (Ideal.ofBits .f32 0x00000000#32 + ∑ k : Fin 1024, _) width + eps = _
  rw [Ideal.ofBits_zero_f32, zero_add]
  exact congrArg (fun z : EReal => Ideal.div z width + eps) (Finset.sum_congr rfl fun e _ =>
    congrArg₂ (fun a b : EReal => a * b) (congrArg x0 (eq_ix2 _)) (congrArg x0 (eq_ix2 _)))

theorem invRms_ref (T : Fin 4096) (z : Fin 1) : val_main_v8 (F := Ideal) x0 (ix2 T z) = invRms (row x0 T) :=
  congrArg Ideal.rsqrt (meanSq_ref x0 T z)

theorem scaled_ref (T : Fin 4096) (d : Fin 1024) : val_main_v13 (F := Ideal) x0 (ix2 T d) = x0 (ix2 T d) * invRms (row x0 T) := by
  rw [val_main_v13_apply, val_main_v12_apply]
  exact congrArg (fun z : EReal => x0 (ix2 T d) * z) ((congrArg _ (eq_ix2 _)).trans (invRms_ref x0 T 0))

theorem normed_ref (T : Fin 4096) (d : Fin 1024) : val_main_v15 (F := Ideal) x0 x1 (ix2 T d) = x0 (ix2 T d) * invRms (row x0 T) * x1 (ix2 0 d) := by
  rw [val_main_v15_apply, val_main_v14_apply]
  exact congrArg₂ (fun a b : EReal => a * b) (scaled_ref x0 T d) (congrArg x1 (eq_ix2 _))

theorem gate_ref (T : Fin 4096) (n : Fin 2816) : val_main_v16 (F := Ideal) x0 x1 x2 (ix2 T n) = (argsOf x0 x1 x2 x3 x4 x5).gate T n := by
  rw [val_main_v16_apply]
  exact Finset.sum_congr rfl fun d _ => congrArg₂ (fun a b : EReal => a * b)
    ((congrArg _ (eq_ix2 _)).trans (normed_ref x0 x1 T d)) (congrArg x2 (eq_ix2 _))

theorem up_ref (T : Fin 4096) (n : Fin 2816) : val_main_v18 (F := Ideal) x0 x1 x3 (ix2 T n) = (argsOf x0 x1 x2 x3 x4 x5).up T n := by
  rw [val_main_v18_apply]
  exact Finset.sum_congr rfl fun d _ => congrArg₂ (fun a b : EReal => a * b)
    ((congrArg _ (eq_ix2 _)).trans (normed_ref x0 x1 T d)) (congrArg x3 (eq_ix2 _))

theorem zero_ref (i : S4096x2816.Idx) : val_main_v0 (F := Ideal) i = (0 : EReal) := by
  rw [val_main_v0_apply]; exact Ideal.ofBits_zero_f32

theorem gate_ref' (T : Fin 4096) (n : Fin 2816) : val_main_v17 (F := Ideal) x0 x1 x2 (ix2 T n) = (argsOf x0 x1 x2 x3 x4 x5).gate T n := by
  rw [val_main_v17_apply, zero_ref]
  exact (add_zero (M := EReal) _).trans (gate_ref x0 x1 x2 x3 x4 x5 T n)

theorem up_ref' (T : Fin 4096) (n : Fin 2816) : val_main_v19 (F := Ideal) x0 x1 x3 (ix2 T n) = (argsOf x0 x1 x2 x3 x4 x5).up T n := by
  rw [val_main_v19_apply, zero_ref]
  exact (add_zero (M := EReal) _).trans (up_ref x0 x1 x2 x3 x4 x5 T n)

theorem sigm_ref (T : Fin 4096) (n : Fin 2816) : val_main_v20_2 (F := Ideal) x0 x1 x2 (ix2 T n) = sigm ((argsOf x0 x1 x2 x3 x4 x5).gate T n) := by
  rw [val_main_v20_2_apply, val_main_call0_v4_apply, val_main_call0_v3_apply, val_main_call0_v2_apply, val_main_call0_v1_apply, val_main_call0_v0_apply, gate_ref' x0 x1 x2 x3 x4 x5]
  show Ideal.div (Ideal.ofBits .f32 0x3F800000#32) (Ideal.ofBits .f32 0x3F800000#32 + Ideal.exp (-_)) = _
  rw [ofBits_one]; rfl

theorem slope_ref (T : Fin 4096) (n : Fin 2816) : val_main_v20_1 (F := Ideal) x0 x1 x2 (ix2 T n)
    = sigm ((argsOf x0 x1 x2 x3 x4 x5).gate T n) * (1 - sigm ((argsOf x0 x1 x2 x3 x4 x5).gate T n)) := by
  rw [val_main_v20_1_apply, val_main_call0_v7_apply, val_main_call0_v6_apply, sigm_ref x0 x1 x2 x3 x4 x5]
  show _ * (Ideal.ofBits .f32 0x3F800000#32 - _) = _
  rw [ofBits_one]

theorem unitCt_ref (T : Fin 4096) (n : Fin 2816) : val_main_v29 (F := Ideal) x4 x5 (ix2 T n) = (argsOf x0 x1 x2 x3 x4 x5).unitCt T n := by
  rw [val_main_v29_apply]
  refine Finset.sum_congr rfl fun d _ => congrArg₂ (fun a b : EReal => a * b) ?_ (congrArg x4 (eq_ix2 _))
  rw [val_main_v28_apply, val_main_v27_apply, val_main_v26_apply]
  refine congrArg (fun z : EReal => half * z) (congrArg x5 ?_)
  funext a; refine Fin.ext ?_
  match a with
  | ⟨0, _⟩ => show (T.val * 1024 + d.val) / 1024 = T.val; omega
  | ⟨1, _⟩ => show (T.val * 1024 + d.val) % 1024 = d.val; omega

theorem dUp_ref (T : Fin 4096) (n : Fin 2816) : val_main_v30 (F := Ideal) x0 x1 x2 x4 x5 (ix2 T n) = (argsOf x0 x1 x2 x3 x4 x5).dUp T n := by
  rw [val_main_v30_apply, val_main_v20_0_apply, gate_ref' x0 x1 x2 x3 x4 x5, sigm_ref x0 x1 x2 x3 x4 x5, unitCt_ref x0 x1 x2 x3 x4 x5]
  exact mul_comm (G := EReal) _ _

/-- The gate pre-activation's gradient: the two summands of the derivative are the kernel's one product, over reals. -/
theorem dGate_ref (T : Fin 4096) (n : Fin 2816) (hd : IsReal ((argsOf x0 x1 x2 x3 x4 x5).unitCt T n)) (ha : IsReal ((argsOf x0 x1 x2 x3 x4 x5).gate T n))
    (hb : IsReal ((argsOf x0 x1 x2 x3 x4 x5).up T n)) :
    val_main_v32 (F := Ideal) x0 x1 x2 x3 x4 x5 (ix2 T n) = (argsOf x0 x1 x2 x3 x4 x5).dGate T n := by
  rw [val_main_v32_apply, val_main_call1_v1_apply, val_main_call1_v2_apply, val_main_call1_v0_apply, val_main_v31_apply,
    slope_ref x0 x1 x2 x3 x4 x5, sigm_ref x0 x1 x2 x3 x4 x5, gate_ref' x0 x1 x2 x3 x4 x5, up_ref' x0 x1 x2 x3 x4 x5, unitCt_ref x0 x1 x2 x3 x4 x5]
  exact (gate_eq hd ha hb).symm

theorem dNormed_ref (T : Fin 4096) (d : Fin 1024)
    (h : ∀ n, val_main_v32 (F := Ideal) x0 x1 x2 x3 x4 x5 (ix2 T n) = (argsOf x0 x1 x2 x3 x4 x5).dGate T n) :
    val_main_v35 (F := Ideal) x0 x1 x2 x3 x4 x5 (ix2 T d) = (argsOf x0 x1 x2 x3 x4 x5).dNormed T d := by
  rw [val_main_v35_apply, val_main_v33_apply, val_main_v34_apply]
  refine (add_comm (G := EReal) _ _).trans (congrArg₂ (fun a b : EReal => a + b) ?_ ?_)
  · exact Finset.sum_congr rfl fun n _ => congrArg₂ (fun a b : EReal => a * b) ((congrArg _ (eq_ix2 _)).trans (h n)) (congrArg x2 (eq_ix2 _))
  · exact Finset.sum_congr rfl fun n _ => congrArg₂ (fun a b : EReal => a * b)
      ((congrArg _ (eq_ix2 _)).trans (dUp_ref x0 x1 x2 x3 x4 x5 T n)) (congrArg x3 (eq_ix2 _))

theorem idx37 (T : Fin 4096) (d : Fin 1024) : idx_main_v37 (idx_main_v38 (ix2 0 d)) T = ix2 T d := by
  funext a; refine Fin.ext ?_
  match a with
  | ⟨0, _⟩ => rfl
  | ⟨1, _⟩ => show 0 * 1024 + d.val = d.val; omega

theorem idx56 (s : Fin 4) (T : Fin 4096) (f : Fin 704) : idx_main_v56 (idx_main_v57 (ix3 s T f)) = ix2 T (unit s f) := by
  funext a; refine Fin.ext ?_
  match a with
  | ⟨0, _⟩ => show ((T.val * 4 + s.val) * 704 + f.val) / 2816 = T.val; omega
  | ⟨1, _⟩ => show ((T.val * 4 + s.val) * 704 + f.val) % 2816 = 704 * s.val + f.val; omega

/-- The scalar that the derivative of a row's mean square carries. -/
def moment (x y : Fin 1024 → EReal) : EReal :=
  Ideal.div ((∑ e, x e * y e) * (minusHalf * Ideal.div (invRms x) (meanSq x))) width

/-- The gradient of a row's normed values, before the gain. -/
abbrev gained (P : Args) (T : Fin 4096) : Fin 1024 → EReal := fun d => P.dNormed T d * P.g d

section Whole

variable (h : ∀ T n, val_main_v32 (F := Ideal) x0 x1 x2 x3 x4 x5 (ix2 T n) = (argsOf x0 x1 x2 x3 x4 x5).dGate T n)

include h

theorem dGain_ref (d : Fin 1024) : val_main_v38 (F := Ideal) x0 x1 x2 x3 x4 x5 (ix2 0 d) = (argsOf x0 x1 x2 x3 x4 x5).dGain d := by
  rw [val_main_v38_apply, val_main_v37_apply]
  show Ideal.ofBits .f32 0x00000000#32 + ∑ k : Fin 4096, _ = _
  rw [Ideal.ofBits_zero_f32, zero_add]
  refine Finset.sum_congr rfl fun T _ => ?_
  rw [val_main_v36_apply]
  refine (mul_comm (G := EReal) _ _).trans (congrArg₂ (fun a b : EReal => a * b) ?_ ?_)
  · exact (congrArg _ (idx37 T d)).trans (dNormed_ref x0 x1 x2 x3 x4 x5 T d (h T))
  · exact (congrArg _ (idx37 T d)).trans (scaled_ref x0 T d)

theorem gained_ref (T : Fin 4096) (d : Fin 1024) : val_main_v40 (F := Ideal) x0 x1 x2 x3 x4 x5 (ix2 T d) = gained (argsOf x0 x1 x2 x3 x4 x5) T d := by
  rw [val_main_v40_apply, val_main_v39_apply]
  exact congrArg₂ (fun a b : EReal => a * b) (dNormed_ref x0 x1 x2 x3 x4 x5 T d (h T)) (congrArg x1 (eq_ix2 _))

theorem dot_ref (T : Fin 4096) (z : Fin 1) : val_main_v43 (F := Ideal) x0 x1 x2 x3 x4 x5 (ix2 T z)
    = ∑ e, row x0 T e * gained (argsOf x0 x1 x2 x3 x4 x5) T e := by
  rw [val_main_v43_apply, val_main_v42_apply]
  show Ideal.ofBits .f32 0x00000000#32 + ∑ k : Fin 1024, _ = _
  rw [Ideal.ofBits_zero_f32, zero_add]
  refine Finset.sum_congr rfl fun e _ => ?_
  have place : idx_main_v42 (idx_main_v43 (ix2 T z)) e = ix2 T e := by
    funext a; refine Fin.ext ?_
    match a with
    | ⟨0, _⟩ => show T.val * 1 + z.val = T.val; omega
    | ⟨1, _⟩ => rfl
  rw [place, val_main_v41_apply]
  exact congrArg (fun y : EReal => x0 (ix2 T e) * y) (gained_ref x0 x1 x2 x3 x4 x5 h T e)

theorem scalar_ref (T : Fin 4096) (z : Fin 1) : val_main_v49 (F := Ideal) x0 x1 x2 x3 x4 x5 (ix2 T z)
    = moment (row x0 T) (gained (argsOf x0 x1 x2 x3 x4 x5) T) := by
  rw [val_main_v49_apply, val_main_v48_apply, val_main_v47_apply, val_main_v11_apply, val_main_v10_apply, val_main_v9_apply,
    dot_ref x0 x1 x2 x3 x4 x5 h, invRms_ref, meanSq_ref]
  rfl

theorem moment_ref (T : Fin 4096) (d : Fin 1024) : val_main_v51 (F := Ideal) x0 x1 x2 x3 x4 x5 (ix2 T d)
    = moment (row x0 T) (gained (argsOf x0 x1 x2 x3 x4 x5) T) := by
  rw [val_main_v51_apply, val_main_v50_apply]
  show Ideal.ofBits .f32 0x00000000#32 + ∑ k : Fin 1, _ = _
  rw [Ideal.ofBits_zero_f32, zero_add, Fin.sum_univ_one]
  exact (congrArg _ (eq_ix2 _)).trans (scalar_ref x0 x1 x2 x3 x4 x5 h T 0)

/-- The input's gradient: over reals the derivative's three summands are the kernel's one correction. -/
theorem dInput_ref (T : Fin 4096) (d : Fin 1024) (hx : ∀ e, IsReal (row x0 T e)) (hy : ∀ e, IsReal (gained (argsOf x0 x1 x2 x3 x4 x5) T e))
    (hc : IsReal (x5 (ix2 T d))) :
    val_main_v55 (F := Ideal) x0 x1 x2 x3 x4 x5 (ix2 T d) = (argsOf x0 x1 x2 x3 x4 x5).dInput T d := by
  rw [val_main_v55_apply, val_main_v54_apply, val_main_v53_apply, val_main_v52_apply, val_main_v46_apply, val_main_v45_apply, val_main_v44_apply,
    moment_ref x0 x1 x2 x3 x4 x5 h, gained_ref x0 x1 x2 x3 x4 x5 h,
    show val_main_v8 (F := Ideal) x0 (idx_main_v44 (ix2 T d)) = invRms (row x0 T) from (congrArg _ (eq_ix2 _)).trans (invRms_ref x0 T 0)]
  exact (norm_eq hx hy hc d).symm

theorem dGate_shards (s : Fin 4) (T : Fin 4096) (f : Fin 704) : val_main_v58 (F := Ideal) x0 x1 x2 x3 x4 x5 (ix3 s T f)
    = (argsOf x0 x1 x2 x3 x4 x5).dGate T (unit s f) := by
  refine (val_main_v57_apply (F := Ideal) x0 x1 x2 x3 x4 x5 (ix3 s T f)).trans ((val_main_v56_apply (F := Ideal) x0 x1 x2 x3 x4 x5 _).trans ?_)
  exact (congrArg _ (idx56 s T f)).trans (h T (unit s f))

end Whole

theorem dUp_shards (s : Fin 4) (T : Fin 4096) (f : Fin 704) : val_main_v61 (F := Ideal) x0 x1 x2 x4 x5 (ix3 s T f)
    = (argsOf x0 x1 x2 x3 x4 x5).dUp T (unit s f) := by
  refine (val_main_v60_apply (F := Ideal) x0 x1 x2 x4 x5 (ix3 s T f)).trans ((val_main_v59_apply (F := Ideal) x0 x1 x2 x4 x5 _).trans ?_)
  exact (congrArg _ (idx56 s T f)).trans (dUp_ref x0 x1 x2 x3 x4 x5 T (unit s f))

end Ref

end Cert.Dgrad

end
-- ==== Proof.Dgrad.Tiles.lean ====
/- The three-axis buffers of a block (shard, token, unit) are written in tiles of 64 tokens, four tiles to a shard: what a buffer
   holds once the tiles of a shard, and of those before it, are written. -/
module

public import proofs.«01_k».proof.Proof.Gen.Kernel4Ideal.Skeleton
public import proofs.«01_k».proof.Proof.Dgrad.Block
public import Idealize.ShloMosaic.Lib.Pipeline.FrameBody
public import Idealize.ShloMosaic.Lib.Pipeline.CanonAppend

@[expose] public section

set_option maxRecDepth 16384

noncomputable section

namespace Cert.Dgrad

open Idealize.ShloMosaic Cert.Kernel4Ideal Cert.Kernel4Ideal.Gen Idealize.ShloMosaic.TcCoe

theorem tile_fits (s q : Fin 4) (a : Fin 3) : (![s.val, 64 * q.val, 0] : Fin 3 → ℕ) a + S1x64x704.size a ≤ S4x256x704.size a := by
  match a with
  | ⟨0, _⟩ => show s.val + 1 ≤ 4; omega
  | ⟨1, _⟩ => show 64 * q.val + 64 ≤ 256; omega
  | ⟨2, _⟩ => show 0 + 704 ≤ 704; omega

theorem shard_fits (s : Fin 4) (a : Fin 3) : (![s.val, 0, 0] : Fin 3 → ℕ) a + S1x256x704.size a ≤ S4x256x704.size a := by
  match a with
  | ⟨0, _⟩ => show s.val + 1 ≤ 4; omega
  | ⟨1, _⟩ => show 0 + 256 ≤ 256; omega
  | ⟨2, _⟩ => show 0 + 704 ≤ 704; omega

theorem weights_fit (s : Fin 4) (a : Fin 3) : (![s.val, 0, 0] : Fin 3 → ℕ) a + S1x704x1024.size a ≤ S4x704x1024.size a := by
  match a with
  | ⟨0, _⟩ => show s.val + 1 ≤ 4; omega
  | ⟨1, _⟩ => show 0 + 704 ≤ 704; omega
  | ⟨2, _⟩ => show 0 + 1024 ≤ 1024; omega

/-- Tile `q` of shard `s`. -/
abbrev tileRect (s q : Fin 4) : Rect S4x256x704 := Rect.unit (s := S4x256x704) ![s.val, 64 * q.val, 0] S1x64x704.size (tile_fits s q)
/-- Shard `s` of a block. -/
abbrev shardRect (s : Fin 4) : Rect S4x256x704 := Rect.unit (s := S4x256x704) ![s.val, 0, 0] S1x256x704.size (shard_fits s)
/-- Shard `s` of the weights. -/
abbrev weightsRect (s : Fin 4) : Rect S4x704x1024 := Rect.unit (s := S4x704x1024) ![s.val, 0, 0] S1x704x1024.size (weights_fit s)

variable {F : FTy → Type} [FloatOps F]

/-- One tile written. -/
abbrev tile (w : Fin 4 → Fin 4 → FVec F S1x64x704 .bf16) (s q : Fin 4) : View.Piece (Elt F) S4x256x704 .bf16 := ⟨tileRect s q, w s q⟩

/-- A shard's four tiles written after the pieces of `L`. -/
abbrev quad (w : Fin 4 → Fin 4 → FVec F S1x64x704 .bf16) (s : Fin 4) (L : List (View.Piece (Elt F) S4x256x704 .bf16)) :
    List (View.Piece (Elt F) S4x256x704 .bf16) := tile w s 3 :: tile w s 2 :: tile w s 1 :: tile w s 0 :: L

/-- The tiles of the shards up to `s`. -/
def upto (w : Fin 4 → Fin 4 → FVec F S1x64x704 .bf16) (s : Fin 4) : List (View.Piece (Elt F) S4x256x704 .bf16) :=
  match s with
  | 0 => quad w 0 []
  | 1 => quad w 1 (quad w 0 [])
  | 2 => quad w 2 (quad w 1 (quad w 0 []))
  | 3 => quad w 3 (quad w 2 (quad w 1 (quad w 0 [])))

theorem upto_mem (w : Fin 4 → Fin 4 → FVec F S1x64x704 .bf16) (s s' q : Fin 4) (h : s' ≤ s) : tile w s' q ∈ upto w s := by
  have hq : ∀ s (L : List (View.Piece (Elt F) S4x256x704 .bf16)), tile w s q ∈ quad w s L := fun s L => by
    match q with
    | 0 => exact .tail _ (.tail _ (.tail _ (.head _)))
    | 1 => exact .tail _ (.tail _ (.head _))
    | 2 => exact .tail _ (.head _)
    | 3 => exact .head _
  have ht : ∀ s (L : List (View.Piece (Elt F) S4x256x704 .bf16)) p, p ∈ L → p ∈ quad w s L := fun s L p hp =>
    .tail _ (.tail _ (.tail _ (.tail _ hp)))
  match s, s', h with
  | 0, 0, _ => exact hq _ _
  | 1, 0, _ => exact ht _ _ _ (hq _ _)
  | 1, 1, _ => exact hq _ _
  | 2, 0, _ => exact ht _ _ _ (ht _ _ _ (hq _ _))
  | 2, 1, _ => exact ht _ _ _ (hq _ _)
  | 2, 2, _ => exact hq _ _
  | 3, 0, _ => exact ht _ _ _ (ht _ _ _ (ht _ _ _ (hq _ _)))
  | 3, 1, _ => exact ht _ _ _ (ht _ _ _ (hq _ _))
  | 3, 2, _ => exact ht _ _ _ (hq _ _)
  | 3, 3, _ => exact hq _ _

theorem mem_upto (w : Fin 4 → Fin 4 → FVec F S1x64x704 .bf16) (s : Fin 4) (p : View.Piece (Elt F) S4x256x704 .bf16) (h : p ∈ upto w s) :
    ∃ s' q, p = tile w s' q := by
  have hq : ∀ s (L : List (View.Piece (Elt F) S4x256x704 .bf16)), p ∈ quad w s L → (∃ s' q, p = tile w s' q) ∨ p ∈ L := fun s L hp => by
    rcases List.mem_cons.1 hp with e | hp
    · exact .inl ⟨_, _, e⟩
    rcases List.mem_cons.1 hp with e | hp
    · exact .inl ⟨_, _, e⟩
    rcases List.mem_cons.1 hp with e | hp
    · exact .inl ⟨_, _, e⟩
    rcases List.mem_cons.1 hp with e | hp
    · exact .inl ⟨_, _, e⟩
    exact .inr hp
  have hn : p ∈ ([] : List (View.Piece (Elt F) S4x256x704 .bf16)) → ∃ s' q, p = tile w s' q := fun hp => absurd hp List.not_mem_nil
  match s, h with
  | 0, h => exact (hq _ _ h).elim id hn
  | 1, h => exact (hq _ _ h).elim id fun h => (hq _ _ h).elim id hn
  | 2, h => exact (hq _ _ h).elim id fun h => (hq _ _ h).elim id fun h => (hq _ _ h).elim id hn
  | 3, h => exact (hq _ _ h).elim id fun h => (hq _ _ h).elim id fun h => (hq _ _ h).elim id fun h => (hq _ _ h).elim id hn

/-- If every tile holds the values of `G` at its place, so does the buffer, in the shards written. -/
theorem canon_upto (w : Fin 4 → Fin 4 → FVec F S1x64x704 .bf16) (G : Vec F S4x256x704 .bf16)
    (h : ∀ s q r f, w s q (ix3 0 r f) = G (ix3 s (rowAt q r) f)) (s s' : Fin 4) (hs : s' ≤ s) (t : Fin 256) (f : Fin 704) :
    View.canon (upto w s) (ix3 s' t f) = G (ix3 s' t f) := by
  have key := View.canon_append_of_pieces (Val := Elt F) G [] (upto w s) ?_ (ix3 s' t f) ?_
  · rwa [List.append_nil] at key
  · intro p hp x
    obtain ⟨s', q, rfl⟩ := mem_upto w s p hp
    have ex : x = (ix3 0 (x 1) (x 2) : S1x64x704.Idx) := by
      funext a
      match a with
      | ⟨0, _⟩ => exact Subsingleton.elim (α := Fin 1) _ _
      | ⟨1, _⟩ => rfl
      | ⟨2, _⟩ => rfl
    refine ((congrArg (w s' q) ex).trans (h s' q (x 1) (x 2))).trans (congrArg G ?_)
    funext a; refine Fin.ext ?_
    match a with
    | ⟨0, _⟩ => show s'.val = s'.val + 1 * (x 0).val; have : (x 0).val < 1 := (x 0).isLt; omega
    | ⟨1, _⟩ => show 64 * q.val + (x 1).val = 64 * q.val + 1 * (x 1).val; omega
    | ⟨2, _⟩ => show (x 2).val = 0 + 1 * (x 2).val; omega
  · refine ⟨tile w s' ⟨t.val / 64, by omega⟩, upto_mem w s s' _ hs, ?_⟩
    refine (LoadRect.mem_set _).2 fun a => ?_
    match a with
    | ⟨0, _⟩ => exact ⟨0, Nat.one_pos, rfl⟩
    | ⟨1, _⟩ => exact ⟨t.val % 64, Nat.mod_lt _ (by decide), by show t.val = 64 * (t.val / 64) + 1 * (t.val % 64); omega⟩
    | ⟨2, _⟩ => exact ⟨f.val, f.isLt, by show f.val = 0 + 1 * f.val; omega⟩

end Cert.Dgrad

end
-- ==== Proof.Dgrad.Pieces.lean ====
/- The lists of pieces one block's run writes, in the words of Block.lean: at the first block of all, and at a later one. -/
module

public import proofs.«01_k».proof.Proof.Gen.Kernel4Ideal.Frame.RunA
public import proofs.«01_k».proof.Proof.Gen.Kernel4Ideal.Frame.RunB
public import proofs.«01_k».proof.Proof.Dgrad.Tiles

@[expose] public section

set_option maxRecDepth 16384
set_option maxHeartbeats 4000000

noncomputable section

namespace Cert.Dgrad

open Idealize.ShloMosaic Cert.Kernel4Ideal Cert.Kernel4Ideal.Gen Idealize.ShloMosaic.TcCoe

variable {F : FTy → Type} [FloatOps F]

/-- The tiles of the gate pre-activation's gradient: from the block's cotangent, the down weights' shards, and the tiles of the saved
    projections. -/
def gateTile (x : Vec F S256x1024 .f32) (w : Fin 4 → Vec F S1x704x1024 .bf16) (a b : Fin 4 → Fin 4 → Vec F S1x64x704 .bf16) (s q : Fin 4) :
    FVec F S1x64x704 .bf16 := gateRows (hiddenCt x (w s)) q (a s q) (b s q)

/-- The tiles of the up product's gradient. -/
def upTile (x : Vec F S256x1024 .f32) (w : Fin 4 → Vec F S1x704x1024 .bf16) (a : Fin 4 → Fin 4 → Vec F S1x64x704 .bf16) (s q : Fin 4) :
    FVec F S1x64x704 .bf16 := upRows (hiddenCt x (w s)) q (a s q)

/-- The gradient of the block's normed input, summed over the shards. -/
def normedCt (da : Fin 4 → Vec F S1x256x704 .bf16) (wg : Fin 4 → Vec F S1x704x1024 .bf16) (db : Fin 4 → Vec F S1x256x704 .bf16)
    (wu : Fin 4 → Vec F S1x704x1024 .bf16) : FVec F S256x1024 .f32 :=
  shardStep (shardStep (shardStep (shardStep k0_pay4 (da 0) (wg 0) (db 0) (wu 0)) (da 1) (wg 1) (db 1) (wu 1)) (da 2) (wg 2) (db 2) (wu 2))
    (da 3) (wg 3) (db 3) (wu 3)

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S4x256x704 .bf16) (harg3 : arg3.IsWhole)
  (arg4 : Memref sig .tc .vmem S4x256x704 .bf16) (harg4 : arg4.IsWhole)
  (arg5 : Memref sig .tc .vmem S1x1024 .f32) (harg5 : arg5.IsWhole)
  (arg6 : Memref sig .tc .vmem S4x704x1024 .bf16) (harg6 : arg6.IsWhole)
  (arg7 : Memref sig .tc .vmem S4x704x1024 .bf16) (harg7 : arg7.IsWhole)
  (arg8 : Memref sig .tc .vmem S4x704x1024 .bf16) (harg8 : arg8.IsWhole)
  (arg9 : Memref sig .tc .vmem S256x1024 .f32) (harg9 : arg9.IsWhole)
  (arg10 : Memref sig .tc .vmem S4x256x704 .bf16) (harg10 : arg10.IsWhole)
  (arg11 : Memref sig .tc .vmem S4x256x704 .bf16) (harg11 : arg11.IsWhole)
  (arg12 : Memref sig .tc .vmem S1x1024 .f32) (harg12 : arg12.IsWhole)
  (x0 x1 : Vec F S256x1024 .f32) (x2 x3 : Vec F S4x256x704 .bf16) (x4 : Vec F S1x1024 .f32) (x5 x6 x7 : Vec F S4x704x1024 .bf16)

/-- What the run loads. -/
abbrev rowsOf (m : Memref sig .tc .vmem S256x1024 .f32) (hm : m.IsWhole) (x : Vec F S256x1024 .f32) : Vec F S256x1024 .f32 :=
  View.readAt (Elt F) m.view (Rect.unit (s := S256x1024) ![0, 0] S256x1024.size inb_S256x1024_S256x1024_0_0).toLoadRect (hm.unread x)
abbrev lineOf (m : Memref sig .tc .vmem S1x1024 .f32) (hm : m.IsWhole) (x : Vec F S1x1024 .f32) : Vec F S1x1024 .f32 :=
  View.readAt (Elt F) m.view (Rect.unit (s := S1x1024) ![0, 0] S1x1024.size inb_S1x1024_S1x1024_0_0).toLoadRect (hm.unread x)
abbrev tilesOf (m : Memref sig .tc .vmem S4x256x704 .bf16) (hm : m.IsWhole) (x : Vec F S4x256x704 .bf16) (s q : Fin 4) : Vec F S1x64x704 .bf16 :=
  View.readAt (Elt F) m.view (tileRect s q).toLoadRect (hm.unread x)
abbrev weightsOf (m : Memref sig .tc .vmem S4x704x1024 .bf16) (hm : m.IsWhole) (x : Vec F S4x704x1024 .bf16) (s : Fin 4) : Vec F S1x704x1024 .bf16 :=
  View.readAt (Elt F) m.view (weightsRect s).toLoadRect (hm.unread x)

/-- The run's tiles of the gate's gradient. -/
abbrev gates : Fin 4 → Fin 4 → FVec F S1x64x704 .bf16 :=
  gateTile (rowsOf arg1 harg1 x0) (weightsOf arg8 harg8 x7) (tilesOf arg3 harg3 x2) (tilesOf arg4 harg4 x3)
/-- The run's tiles of the up product's gradient. -/
abbrev ups : Fin 4 → Fin 4 → FVec F S1x64x704 .bf16 :=
  upTile (rowsOf arg1 harg1 x0) (weightsOf arg8 harg8 x7) (tilesOf arg3 harg3 x2)
/-- The run's gradient of the normed input. -/
abbrev normedCts : FVec F S256x1024 .f32 :=
  normedCt (fun s => arg10.view.readCov (upto (gates arg1 harg1 arg3 harg3 arg4 harg4 arg8 harg8 x0 x2 x3 x7) s) (shardRect s).toLoadRect) (weightsOf arg6 harg6 x5)
    (fun s => arg11.view.readCov (upto (ups arg1 harg1 arg3 harg3 arg8 harg8 x0 x2 x7) s) (shardRect s).toLoadRect) (weightsOf arg7 harg7 x6)

theorem piecesA_input (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).1
    = [⟨Rect.unit (s := S256x1024) ![0, 0] S256x1024.size inb_S256x1024_S256x1024_0_0,
        k0_pay107 (rowsOf arg1 harg1 x0) (normedCts arg1 harg1 arg3 harg3 arg4 harg4 arg6 harg6 arg7 harg7 arg8 harg8 arg10 arg11 x0 x2 x3 x5 x6 x7) (lineOf arg5 harg5 x4) (rowsOf arg2 harg2 x1)⟩] := by
  unfold kernelRun0_A; dsimp only; rfl

theorem piecesA_gate (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.1 = upto (gates arg1 harg1 arg3 harg3 arg4 harg4 arg8 harg8 x0 x2 x3 x7) 3 := by
  unfold kernelRun0_A; dsimp only; rfl

theorem piecesA_up (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.1 = upto (ups arg1 harg1 arg3 harg3 arg8 harg8 x0 x2 x7) 3 := by
  unfold kernelRun0_A; dsimp only; rfl

theorem piecesA_gain (hc0 : cond0_0 i) : (kernelRun0_A c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7).2.2.2.1
    = ⟨Rect.unit (s := S1x1024) ![0, 0] S1x1024.size inb_S1x1024_S1x1024_0_0,
        k0_pay2 (k0_pay106 (normedCts arg1 harg1 arg3 harg3 arg4 harg4 arg6 harg6 arg7 harg7 arg8 harg8 arg10 arg11 x0 x2 x3 x5 x6 x7) (rowsOf arg2 harg2 x1)) (arg12.view.readCov [⟨Rect.unit (s := S1x1024) ![0, 0] S1x1024.size inb_S1x1024_S1x1024_0_0, k0_pay1⟩] (Rect.unit (s := S1x1024) ![0, 0] S1x1024.size inb_S1x1024_S1x1024_0_0).toLoadRect)⟩ :: [⟨Rect.unit (s := S1x1024) ![0, 0] S1x1024.size inb_S1x1024_S1x1024_0_0, k0_pay1⟩] := by
  unfold kernelRun0_A; dsimp only; rfl

theorem piecesB_input (hc0 : ¬cond0_0 i) (x11 : Vec F S1x1024 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11).1
    = [⟨Rect.unit (s := S256x1024) ![0, 0] S256x1024.size inb_S256x1024_S256x1024_0_0,
        k0_pay107 (rowsOf arg1 harg1 x0) (normedCts arg1 harg1 arg3 harg3 arg4 harg4 arg6 harg6 arg7 harg7 arg8 harg8 arg10 arg11 x0 x2 x3 x5 x6 x7) (lineOf arg5 harg5 x4) (rowsOf arg2 harg2 x1)⟩] := by
  unfold kernelRun0_B; dsimp only; rfl

theorem piecesB_gate (hc0 : ¬cond0_0 i) (x11 : Vec F S1x1024 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11).2.1 = upto (gates arg1 harg1 arg3 harg3 arg4 harg4 arg8 harg8 x0 x2 x3 x7) 3 := by
  unfold kernelRun0_B; dsimp only; rfl

theorem piecesB_up (hc0 : ¬cond0_0 i) (x11 : Vec F S1x1024 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11).2.2.1 = upto (ups arg1 harg1 arg3 harg3 arg8 harg8 x0 x2 x7) 3 := by
  unfold kernelRun0_B; dsimp only; rfl

theorem piecesB_gain (hc0 : ¬cond0_0 i) (x11 : Vec F S1x1024 .f32) : (kernelRun0_B c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11).2.2.2.1
    = ⟨Rect.unit (s := S1x1024) ![0, 0] S1x1024.size inb_S1x1024_S1x1024_0_0,
        k0_pay2 (k0_pay106 (normedCts arg1 harg1 arg3 harg3 arg4 harg4 arg6 harg6 arg7 harg7 arg8 harg8 arg10 arg11 x0 x2 x3 x5 x6 x7) (rowsOf arg2 harg2 x1)) (lineOf arg12 harg12 x11)⟩ :: [] := by
  unfold kernelRun0_B; dsimp only; rfl

end Cert.Dgrad

end
-- ==== Proof.Dgrad.Values.lean ====
/- What one block's run leaves in each output's buffer, index by index, over the extended reals. -/
module

public import proofs.«01_k».proof.Proof.Gen.Kernel4Ideal.Frame
public import proofs.«01_k».proof.Proof.Dgrad.Pieces
public import Idealize.ShloMosaic.Lib.WholeRead
public import Idealize.ShloMosaic.Lib.VecWindow

@[expose] public section

set_option maxRecDepth 16384

noncomputable section

namespace Cert.Dgrad

open Idealize.ShloMosaic Cert.Kernel4Ideal Cert.Kernel4Ideal.Gen Idealize.ShloMosaic.TcCoe

/-! ### What the run loads -/

theorem rowsOf_eq (m : Memref sig .tc .vmem S256x1024 .f32) (hm : m.IsWhole) (x : Vec Ideal S256x1024 .f32) : rowsOf m hm x = x :=
  (View.readAt_full _ _ _).trans (hm.read_unread x)

theorem lineOf_eq (m : Memref sig .tc .vmem S1x1024 .f32) (hm : m.IsWhole) (x : Vec Ideal S1x1024 .f32) : lineOf m hm x = x :=
  (View.readAt_full _ _ _).trans (hm.read_unread x)

theorem tilesOf_apply (m : Memref sig .tc .vmem S4x256x704 .bf16) (hm : m.IsWhole) (x : Vec Ideal S4x256x704 .bf16) (s q : Fin 4) (r : Fin 64) (f : Fin 704) :
    tilesOf m hm x s q (ix3 0 r f) = x (ix3 s (rowAt q r) f) := by
  refine (hm.readAt_unread x (tileRect s q).toLoadRect (ix3 0 r f : S1x64x704.Idx)).trans (congrArg x ?_)
  funext a; refine Fin.ext ?_
  match a with
  | ⟨0, _⟩ => show s.val + 1 * 0 = s.val; omega
  | ⟨1, _⟩ => show 64 * q.val + 1 * r.val = 64 * q.val + r.val; omega
  | ⟨2, _⟩ => show 0 + 1 * f.val = f.val; omega

theorem weightsOf_apply (m : Memref sig .tc .vmem S4x704x1024 .bf16) (hm : m.IsWhole) (x : Vec Ideal S4x704x1024 .bf16) (s : Fin 4) (f : Fin 704) (d : Fin 1024) :
    weightsOf m hm x s (ix3 0 f d) = x (ix3 s f d) := by
  refine (hm.readAt_unread x (weightsRect s).toLoadRect (ix3 0 f d : S1x704x1024.Idx)).trans (congrArg x ?_)
  funext a; refine Fin.ext ?_
  match a with
  | ⟨0, _⟩ => show s.val + 1 * 0 = s.val; omega
  | ⟨1, _⟩ => show 0 + 1 * f.val = f.val; omega
  | ⟨2, _⟩ => show 0 + 1 * d.val = d.val; omega

/-! ### A block's arrays -/

/-- The cotangent of a hidden unit. -/
def unitCt (x0 : Vec Ideal S256x1024 .f32) (x7 : Vec Ideal S4x704x1024 .bf16) (s : Fin 4) (t : Fin 256) (f : Fin 704) : EReal :=
  ∑ d : Fin 1024, half * x0 (ix2 t d) * x7 (ix3 s f d)

/-- The block's gradient of the gate's pre-activation. -/
def gateBlk (x0 : Vec Ideal S256x1024 .f32) (x2 x3 : Vec Ideal S4x256x704 .bf16) (x7 : Vec Ideal S4x704x1024 .bf16) : Vec Ideal S4x256x704 .bf16 :=
  fun y => gateCt (unitCt x0 x7 (y 0) (y 1) (y 2)) (x2 y) (x3 y)

/-- The block's gradient of the up product. -/
def upBlk (x0 : Vec Ideal S256x1024 .f32) (x2 : Vec Ideal S4x256x704 .bf16) (x7 : Vec Ideal S4x704x1024 .bf16) : Vec Ideal S4x256x704 .bf16 :=
  fun y => upCt (unitCt x0 x7 (y 0) (y 1) (y 2)) (x2 y)

/-- The block's gradient of the normed input. -/
def normedBlk (x0 : Vec Ideal S256x1024 .f32) (x2 x3 : Vec Ideal S4x256x704 .bf16) (x5 x6 x7 : Vec Ideal S4x704x1024 .bf16) : FVec Ideal S256x1024 .f32 :=
  fun y => ∑ s : Fin 4, ((∑ f : Fin 704, gateBlk x0 x2 x3 x7 (ix3 s (y 0) f) * x5 (ix3 s f (y 1)))
    + ∑ f : Fin 704, upBlk x0 x2 x7 (ix3 s (y 0) f) * x6 (ix3 s f (y 1)))

variable (c : Dev nD) (i : grid0.Coords)
  (arg1 : Memref sig .tc .vmem S256x1024 .f32) (harg1 : arg1.IsWhole)
  (arg2 : Memref sig .tc .vmem S256x1024 .f32) (harg2 : arg2.IsWhole)
  (arg3 : Memref sig .tc .vmem S4x256x704 .bf16) (harg3 : arg3.IsWhole)
  (arg4 : Memref sig .tc .vmem S4x256x704 .bf16) (harg4 : arg4.IsWhole)
  (arg5 : Memref sig .tc .vmem S1x1024 .f32) (harg5 : arg5.IsWhole)
  (arg6 : Memref sig .tc .vmem S4x704x1024 .bf16) (harg6 : arg6.IsWhole)
  (arg7 : Memref sig .tc .vmem S4x704x1024 .bf16) (harg7 : arg7.IsWhole)
  (arg8 : Memref sig .tc .vmem S4x704x1024 .bf16) (harg8 : arg8.IsWhole)
  (arg9 : Memref sig .tc .vmem S256x1024 .f32) (harg9 : arg9.IsWhole)
  (arg10 : Memref sig .tc .vmem S4x256x704 .bf16) (harg10 : arg10.IsWhole)
  (arg11 : Memref sig .tc .vmem S4x256x704 .bf16) (harg11 : arg11.IsWhole)
  (arg12 : Memref sig .tc .vmem S1x1024 .f32) (harg12 : arg12.IsWhole)
  (x0 x1 : Vec Ideal S256x1024 .f32) (x2 x3 : Vec Ideal S4x256x704 .bf16) (x4 : Vec Ideal S1x1024 .f32) (x5 x6 x7 : Vec Ideal S4x704x1024 .bf16)

theorem hiddenCt_loaded (s : Fin 4) (t : Fin 256) (f : Fin 704) :
    hiddenCt (rowsOf arg1 harg1 x0) (weightsOf arg8 harg8 x7 s) (ix2 t f) = unitCt x0 x7 s t f := by
  rw [rowsOf_eq]
  exact (hiddenCt_apply _ _ t f).trans (Finset.sum_congr rfl fun d _ =>
    congrArg (fun z : EReal => half * x0 (ix2 t d) * z) (weightsOf_apply arg8 harg8 x7 s f d))

theorem gates_apply (s q : Fin 4) (r : Fin 64) (f : Fin 704) :
    gates arg1 harg1 arg3 harg3 arg4 harg4 arg8 harg8 x0 x2 x3 x7 s q (ix3 0 r f) = gateBlk x0 x2 x3 x7 (ix3 s (rowAt q r) f) := by
  refine (gateRows_apply _ q _ _ r f).trans ?_
  rw [hiddenCt_loaded, tilesOf_apply, tilesOf_apply]
  rfl

theorem ups_apply (s q : Fin 4) (r : Fin 64) (f : Fin 704) :
    ups arg1 harg1 arg3 harg3 arg8 harg8 x0 x2 x7 s q (ix3 0 r f) = upBlk x0 x2 x7 (ix3 s (rowAt q r) f) := by
  refine (upRows_apply _ q _ r f).trans ?_
  rw [hiddenCt_loaded, tilesOf_apply]
  rfl

theorem shardRect_idx (s : Fin 4) (t : Fin 256) (f : Fin 704) : (shardRect s).toLoadRect.idx (ix3 0 t f : S1x256x704.Idx) = ix3 s t f := by
  funext a; refine Fin.ext ?_
  match a with
  | ⟨0, _⟩ => show s.val + 1 * 0 = s.val; omega
  | ⟨1, _⟩ => show 0 + 1 * t.val = t.val; omega
  | ⟨2, _⟩ => show 0 + 1 * f.val = f.val; omega

/-- A shard of the gate's gradient, read back. -/
theorem gate_back (s : Fin 4) (t : Fin 256) (f : Fin 704) :
    arg10.view.readCov (upto (gates arg1 harg1 arg3 harg3 arg4 harg4 arg8 harg8 x0 x2 x3 x7) s) (shardRect s).toLoadRect (ix3 0 t f : S1x256x704.Idx)
      = gateBlk x0 x2 x3 x7 (ix3 s t f) := by
  refine (congrFun (View.readCov_eq_canon' arg10.view (upto (gates arg1 harg1 arg3 harg3 arg4 harg4 arg8 harg8 x0 x2 x3 x7) s) (shardRect s).toLoadRect) (ix3 0 t f : S1x256x704.Idx)).trans ?_
  refine (congrArg (View.canon (upto (gates arg1 harg1 arg3 harg3 arg4 harg4 arg8 harg8 x0 x2 x3 x7) s)) (shardRect_idx s t f)).trans ?_
  exact canon_upto _ _ (gates_apply arg1 harg1 arg3 harg3 arg4 harg4 arg8 harg8 x0 x2 x3 x7) s s le_rfl t f

/-- A shard of the up product's gradient, read back. -/
theorem up_back (s : Fin 4) (t : Fin 256) (f : Fin 704) :
    arg11.view.readCov (upto (ups arg1 harg1 arg3 harg3 arg8 harg8 x0 x2 x7) s) (shardRect s).toLoadRect (ix3 0 t f : S1x256x704.Idx)
      = upBlk x0 x2 x7 (ix3 s t f) := by
  refine (congrFun (View.readCov_eq_canon' arg11.view (upto (ups arg1 harg1 arg3 harg3 arg8 harg8 x0 x2 x7) s) (shardRect s).toLoadRect) (ix3 0 t f : S1x256x704.Idx)).trans ?_
  refine (congrArg (View.canon (upto (ups arg1 harg1 arg3 harg3 arg8 harg8 x0 x2 x7) s)) (shardRect_idx s t f)).trans ?_
  exact canon_upto _ _ (ups_apply arg1 harg1 arg3 harg3 arg8 harg8 x0 x2 x7) s s le_rfl t f

theorem normedCts_eq :
    normedCts arg1 harg1 arg3 harg3 arg4 harg4 arg6 harg6 arg7 harg7 arg8 harg8 arg10 arg11 x0 x2 x3 x5 x6 x7 = normedBlk x0 x2 x3 x5 x6 x7 := by
  funext y
  obtain ⟨t, d, rfl⟩ : ∃ (t : Fin 256) (d : Fin 1024), y = ix2 t d := ⟨y 0, y 1, eq_ix2 y⟩
  have step : ∀ (acc : FVec Ideal S256x1024 .f32) (s : Fin 4),
      shardStep acc (arg10.view.readCov (upto (gates arg1 harg1 arg3 harg3 arg4 harg4 arg8 harg8 x0 x2 x3 x7) s) (shardRect s).toLoadRect) (weightsOf arg6 harg6 x5 s)
        (arg11.view.readCov (upto (ups arg1 harg1 arg3 harg3 arg8 harg8 x0 x2 x7) s) (shardRect s).toLoadRect) (weightsOf arg7 harg7 x6 s) (ix2 t d)
      = acc (ix2 t d) + ((∑ f : Fin 704, gateBlk x0 x2 x3 x7 (ix3 s t f) * x5 (ix3 s f d)) + ∑ f : Fin 704, upBlk x0 x2 x7 (ix3 s t f) * x6 (ix3 s f d)) := fun acc s => by
    refine (shardStep_apply acc _ _ _ _ t d).trans (congrArg (fun z : EReal => acc (ix2 t d) + z) (congrArg₂ (fun a b : EReal => a + b) ?_ ?_))
    · exact Finset.sum_congr rfl fun f _ => congrArg₂ (fun a b : EReal => a * b)
        (gate_back arg1 harg1 arg3 harg3 arg4 harg4 arg8 harg8 arg10 x0 x2 x3 x7 s t f) (weightsOf_apply arg6 harg6 x5 s f d)
    · exact Finset.sum_congr rfl fun f _ => congrArg₂ (fun a b : EReal => a * b)
        (up_back arg1 harg1 arg3 harg3 arg8 harg8 arg11 x0 x2 x7 s t f) (weightsOf_apply arg7 harg7 x6 s f d)
  have zero : (k0_pay4 (F := Ideal)) (ix2 t d) = (0 : EReal) := Ideal.ofBits_zero_f32
  refine (step _ 3).trans ?_
  rw [step _ 2, step _ 1, step _ 0, zero]
  show _ = ∑ s : Fin 4, ((∑ f : Fin 704, gateBlk x0 x2 x3 x7 (ix3 s t f) * x5 (ix3 s f d)) + ∑ f : Fin 704, upBlk x0 x2 x7 (ix3 s t f) * x6 (ix3 s f d))
  rw [Fin.sum_univ_four, zero_add]

theorem gate_outA (hc0 : cond0_0 i) : out0_A_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = gateBlk x0 x2 x3 x7 := by
  unfold out0_A_9
  rw [View.read_writes_junk_eq_canon, piecesA_gate]
  funext y
  obtain ⟨s, t, f, rfl⟩ : ∃ (s : Fin 4) (t : Fin 256) (f : Fin 704), y = ix3 s t f := ⟨y 0, y 1, y 2, eq_ix3 y⟩
  exact canon_upto _ _ (gates_apply arg1 harg1 arg3 harg3 arg4 harg4 arg8 harg8 x0 x2 x3 x7) 3 s (Fin.le_last s) t f

theorem up_outA (hc0 : cond0_0 i) : out0_A_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = upBlk x0 x2 x7 := by
  unfold out0_A_10
  rw [View.read_writes_junk_eq_canon, piecesA_up]
  funext y
  obtain ⟨s, t, f, rfl⟩ : ∃ (s : Fin 4) (t : Fin 256) (f : Fin 704), y = ix3 s t f := ⟨y 0, y 1, y 2, eq_ix3 y⟩
  exact canon_upto _ _ (ups_apply arg1 harg1 arg3 harg3 arg8 harg8 x0 x2 x7) 3 s (Fin.le_last s) t f

theorem input_outA (hc0 : cond0_0 i) : out0_A_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay107 x0 (normedBlk x0 x2 x3 x5 x6 x7) x4 x1 := by
  unfold out0_A_8
  rw [piecesA_input, View.read_writes_full, normedCts_eq, rowsOf_eq, rowsOf_eq, lineOf_eq]

theorem gain_outA (hc0 : cond0_0 i) : out0_A_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 = k0_pay2 (k0_pay106 (normedBlk x0 x2 x3 x5 x6 x7) x1) (k0_pay1 (F := Ideal)) := by
  unfold out0_A_11
  rw [piecesA_gain, View.read_writes_full, normedCts_eq, rowsOf_eq, View.readCov_full]

theorem gate_outB (hc0 : ¬cond0_0 i) (x11 : Vec Ideal S1x1024 .f32) : out0_B_9 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11 = gateBlk x0 x2 x3 x7 := by
  unfold out0_B_9
  rw [View.read_writes_junk_eq_canon, piecesB_gate]
  funext y
  obtain ⟨s, t, f, rfl⟩ : ∃ (s : Fin 4) (t : Fin 256) (f : Fin 704), y = ix3 s t f := ⟨y 0, y 1, y 2, eq_ix3 y⟩
  exact canon_upto _ _ (gates_apply arg1 harg1 arg3 harg3 arg4 harg4 arg8 harg8 x0 x2 x3 x7) 3 s (Fin.le_last s) t f

theorem up_outB (hc0 : ¬cond0_0 i) (x11 : Vec Ideal S1x1024 .f32) : out0_B_10 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11 = upBlk x0 x2 x7 := by
  unfold out0_B_10
  rw [View.read_writes_junk_eq_canon, piecesB_up]
  funext y
  obtain ⟨s, t, f, rfl⟩ : ∃ (s : Fin 4) (t : Fin 256) (f : Fin 704), y = ix3 s t f := ⟨y 0, y 1, y 2, eq_ix3 y⟩
  exact canon_upto _ _ (ups_apply arg1 harg1 arg3 harg3 arg8 harg8 x0 x2 x7) 3 s (Fin.le_last s) t f

theorem input_outB (hc0 : ¬cond0_0 i) (x11 : Vec Ideal S1x1024 .f32) : out0_B_8 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11 = k0_pay107 x0 (normedBlk x0 x2 x3 x5 x6 x7) x4 x1 := by
  unfold out0_B_8
  rw [piecesB_input, View.read_writes_full, normedCts_eq, rowsOf_eq, rowsOf_eq, lineOf_eq]

theorem gain_outB (hc0 : ¬cond0_0 i) (x11 : Vec Ideal S1x1024 .f32) : out0_B_11 c i arg1 harg1 arg2 harg2 arg3 harg3 arg4 harg4 arg5 harg5 arg6 harg6 arg7 harg7 arg8 harg8 arg9 harg9 arg10 harg10 arg11 harg11 arg12 harg12 hc0 x0 x1 x2 x3 x4 x5 x6 x7 x11 = k0_pay2 (k0_pay106 (normedBlk x0 x2 x3 x5 x6 x7) x1) x11 := by
  unfold out0_B_11
  rw [piecesB_gain, View.read_writes_full, normedCts_eq, rowsOf_eq, lineOf_eq]

end Cert.Dgrad

end
-- ==== Proof.Dgrad.Reads.lean ====
/- A point's blocks of the arrays that the feed-forward input's gradient reads, and what it computes from them. -/
module

public import proofs.«01_k».proof.Proof.Gen.Kernel4Ideal.Frame
public import proofs.«01_k».proof.Proof.Att.Spec
public import proofs.«01_k».proof.Proof.Dgrad.Host
public import proofs.«01_k».proof.Proof.Dgrad.Reference
public import proofs.«01_k».proof.Proof.Dgrad.Values

@[expose] public section

set_option maxRecDepth 16384

noncomputable section

namespace Cert.Dgrad

open Idealize.ShloMosaic Cert.Kernel4Ideal Cert.Kernel4Ideal.Gen Idealize.ShloMosaic.TcCoe

variable (m : (ℓ : Loc nD τ sig) → Buf (Elt Ideal) ℓ) (c : Dev nD)

/-- The launch's arguments, as functions. -/
def args : Args := argsOf (xOf m c) (gOf m c) (wgOf m c) (wuOf m c) (wdOf m c) (ctOf m c)

/-- The point of a block of tokens. -/
def point (t : Fin 16) : Fin cfg0.N := ⟨t.val, t.isLt.trans_eq N_0.symm⟩

/-- Which block of each array a point reads or writes. -/
theorem where0 : ∀ t : Fin cfg0.N, win0_0.index t (0 : Fin 2) = t.val ∧ win0_0.index t (1 : Fin 2) = 0 :=
  (by decide +kernel : ∀ t : Fin grid0.N, win0_0.index t (0 : Fin 2) = t.val ∧ win0_0.index t (1 : Fin 2) = 0)
theorem where1 : ∀ t : Fin cfg0.N, win0_1.index t (0 : Fin 2) = t.val ∧ win0_1.index t (1 : Fin 2) = 0 :=
  (by decide +kernel : ∀ t : Fin grid0.N, win0_1.index t (0 : Fin 2) = t.val ∧ win0_1.index t (1 : Fin 2) = 0)
theorem where2 : ∀ t : Fin cfg0.N, win0_2.index t (0 : Fin 3) = 0 ∧ win0_2.index t (1 : Fin 3) = t.val ∧ win0_2.index t (2 : Fin 3) = 0 :=
  (by decide +kernel : ∀ t : Fin grid0.N, win0_2.index t (0 : Fin 3) = 0 ∧ win0_2.index t (1 : Fin 3) = t.val ∧ win0_2.index t (2 : Fin 3) = 0)
theorem where3 : ∀ t : Fin cfg0.N, win0_3.index t (0 : Fin 3) = 0 ∧ win0_3.index t (1 : Fin 3) = t.val ∧ win0_3.index t (2 : Fin 3) = 0 :=
  (by decide +kernel : ∀ t : Fin grid0.N, win0_3.index t (0 : Fin 3) = 0 ∧ win0_3.index t (1 : Fin 3) = t.val ∧ win0_3.index t (2 : Fin 3) = 0)
theorem where4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem where5 : ∀ t : Fin cfg0.N, win0_5.index t (0 : Fin 3) = 0 ∧ win0_5.index t (1 : Fin 3) = 0 ∧ win0_5.index t (2 : Fin 3) = 0 :=
  (by decide +kernel : ∀ t : Fin grid0.N, win0_5.index t (0 : Fin 3) = 0 ∧ win0_5.index t (1 : Fin 3) = 0 ∧ win0_5.index t (2 : Fin 3) = 0)
theorem where6 : ∀ t : Fin cfg0.N, win0_6.index t (0 : Fin 3) = 0 ∧ win0_6.index t (1 : Fin 3) = 0 ∧ win0_6.index t (2 : Fin 3) = 0 :=
  (by decide +kernel : ∀ t : Fin grid0.N, win0_6.index t (0 : Fin 3) = 0 ∧ win0_6.index t (1 : Fin 3) = 0 ∧ win0_6.index t (2 : Fin 3) = 0)
theorem where7 : ∀ t : Fin cfg0.N, win0_7.index t (0 : Fin 3) = 0 ∧ win0_7.index t (1 : Fin 3) = 0 ∧ win0_7.index t (2 : Fin 3) = 0 :=
  (by decide +kernel : ∀ t : Fin grid0.N, win0_7.index t (0 : Fin 3) = 0 ∧ win0_7.index t (1 : Fin 3) = 0 ∧ win0_7.index t (2 : Fin 3) = 0)

variable (t : Fin 16)

/-- A point's blocks. -/
def blkCt : FVec Ideal S256x1024 .f32 := iblk m c 0 (point t)
def blkX : FVec Ideal S256x1024 .f32 := iblk m c 1 (point t)
def blkA : FVec Ideal S4x256x704 .bf16 := iblk m c 2 (point t)
def blkB : FVec Ideal S4x256x704 .bf16 := iblk m c 3 (point t)
def blkG : FVec Ideal S1x1024 .f32 := iblk m c 4 (point t)
def blkWg : FVec Ideal S4x704x1024 .bf16 := iblk m c 5 (point t)
def blkWu : FVec Ideal S4x704x1024 .bf16 := iblk m c 6 (point t)
def blkWd : FVec Ideal S4x704x1024 .bf16 := iblk m c 7 (point t)

theorem read0 (r : Fin 256) (d : Fin 1024) : blkCt m c t (ix2 r d) = (args m c).ct (token t r) d := by
  obtain ⟨i0, i1⟩ := where0 (point t)
  unfold blkCt iblk
  rw [View.read_apply]
  show V m c main_arg5 _ = _
  rw [V_main_arg5]
  show _ = m ((c : Thread nD τ).loc main_arg5) (ix2 (token t r) d)
  congr 1; funext a; apply Fin.ext
  match a with
  | ⟨0, _⟩ => show win0_0.index (point t) 0 * 256 + 1 * r.val = 256 * t.val + r.val; rw [i0]; show t.val * 256 + 1 * r.val = _; omega
  | ⟨1, _⟩ => show win0_0.index (point t) 1 * 1024 + 1 * d.val = d.val; rw [i1]; omega

theorem read1 (r : Fin 256) (d : Fin 1024) : blkX m c t (ix2 r d) = (args m c).x (token t r) d := by
  obtain ⟨i0, i1⟩ := where1 (point t)
  unfold blkX iblk
  rw [View.read_apply]
  show V m c main_arg0 _ = _
  rw [V_main_arg0]
  show _ = m ((c : Thread nD τ).loc main_arg0) (ix2 (token t r) d)
  congr 1; funext a; apply Fin.ext
  match a with
  | ⟨0, _⟩ => show win0_1.index (point t) 0 * 256 + 1 * r.val = 256 * t.val + r.val; rw [i0]; show t.val * 256 + 1 * r.val = _; omega
  | ⟨1, _⟩ => show win0_1.index (point t) 1 * 1024 + 1 * d.val = d.val; rw [i1]; omega

theorem read2 (s : Fin 4) (r : Fin 256) (f : Fin 704) : blkA m c t (ix3 s r f) = (args m c).gate (token t r) (unit s f) := by
  obtain ⟨i0, i1, i2⟩ := where2 (point t)
  unfold blkA iblk
  rw [View.read_apply]
  refine Eq.trans (b := V m c main_v23 (ix3 s (token t r) f)) ?_
    ((congrFun (host_a m c) _).trans ((shardsOf_apply _ s (token t r) f).trans (Ref.gate_ref _ _ _ _ _ _ _ _)))
  show V m c main_v23 _ = V m c main_v23 _
  congr 1; funext a; apply Fin.ext
  match a with
  | ⟨0, _⟩ => show win0_2.index (point t) 0 * 4 + 1 * s.val = s.val; rw [i0]; omega
  | ⟨1, _⟩ => show win0_2.index (point t) 1 * 256 + 1 * r.val = 256 * t.val + r.val; rw [i1]; show t.val * 256 + 1 * r.val = _; omega
  | ⟨2, _⟩ => show win0_2.index (point t) 2 * 704 + 1 * f.val = f.val; rw [i2]; omega

theorem read3 (s : Fin 4) (r : Fin 256) (f : Fin 704) : blkB m c t (ix3 s r f) = (args m c).up (token t r) (unit s f) := by
  obtain ⟨i0, i1, i2⟩ := where3 (point t)
  unfold blkB iblk
  rw [View.read_apply]
  refine Eq.trans (b := V m c main_v27 (ix3 s (token t r) f)) ?_
    ((congrFun (host_b m c) _).trans ((shardsOf_apply _ s (token t r) f).trans (Ref.up_ref _ _ _ _ _ _ _ _)))
  show V m c main_v27 _ = V m c main_v27 _
  congr 1; funext a; apply Fin.ext
  match a with
  | ⟨0, _⟩ => show win0_3.index (point t) 0 * 4 + 1 * s.val = s.val; rw [i0]; omega
  | ⟨1, _⟩ => show win0_3.index (point t) 1 * 256 + 1 * r.val = 256 * t.val + r.val; rw [i1]; show t.val * 256 + 1 * r.val = _; omega
  | ⟨2, _⟩ => show win0_3.index (point t) 2 * 704 + 1 * f.val = f.val; rw [i2]; omega

theorem read4 (d : Fin 1024) : blkG m c t (ix2 0 d) = (args m c).g d := by
  obtain ⟨i0, i1⟩ := where4 (point t)
  unfold blkG iblk
  rw [View.read_apply]
  show V m c main_arg1 _ = _
  rw [V_main_arg1]
  show _ = m ((c : Thread nD τ).loc main_arg1) (ix2 0 d)
  congr 1; funext a; apply Fin.ext
  match a with
  | ⟨0, _⟩ => show win0_4.index (point t) 0 * 1 + 1 * 0 = 0; rw [i0]
  | ⟨1, _⟩ => show win0_4.index (point t) 1 * 1024 + 1 * d.val = d.val; rw [i1]; omega

theorem read5 (s : Fin 4) (f : Fin 704) (d : Fin 1024) : blkWg m c t (ix3 s f d) = (args m c).wg d (unit s f) := by
  obtain ⟨i0, i1, i2⟩ := where5 (point t)
  unfold blkWg iblk
  rw [View.read_apply]
  refine Eq.trans (b := V m c main_v14 (ix3 s f d)) ?_ ((congrFun (host_wg m c) _).trans (columnShards_apply _ s f d))
  show V m c main_v14 _ = V m c main_v14 _
  congr 1; funext a; apply Fin.ext
  match a with
  | ⟨0, _⟩ => show win0_5.index (point t) 0 * 4 + 1 * s.val = s.val; rw [i0]; omega
  | ⟨1, _⟩ => show win0_5.index (point t) 1 * 704 + 1 * f.val = f.val; rw [i1]; omega
  | ⟨2, _⟩ => show win0_5.index (point t) 2 * 1024 + 1 * d.val = d.val; rw [i2]; omega

theorem read6 (s : Fin 4) (f : Fin 704) (d : Fin 1024) : blkWu m c t (ix3 s f d) = (args m c).wu d (unit s f) := by
  obtain ⟨i0, i1, i2⟩ := where6 (point t)
  unfold blkWu iblk
  rw [View.read_apply]
  refine Eq.trans (b := V m c main_v17 (ix3 s f d)) ?_ ((congrFun (host_wu m c) _).trans (columnShards_apply _ s f d))
  show V m c main_v17 _ = V m c main_v17 _
  congr 1; funext a; apply Fin.ext
  match a with
  | ⟨0, _⟩ => show win0_6.index (point t) 0 * 4 + 1 * s.val = s.val; rw [i0]; omega
  | ⟨1, _⟩ => show win0_6.index (point t) 1 * 704 + 1 * f.val = f.val; rw [i1]; omega
  | ⟨2, _⟩ => show win0_6.index (point t) 2 * 1024 + 1 * d.val = d.val; rw [i2]; omega

theorem read7 (s : Fin 4) (f : Fin 704) (d : Fin 1024) : blkWd m c t (ix3 s f d) = (args m c).wd (unit s f) d := by
  obtain ⟨i0, i1, i2⟩ := where7 (point t)
  unfold blkWd iblk
  rw [View.read_apply]
  refine Eq.trans (b := V m c main_v19 (ix3 s f d)) ?_ ((congrFun (host_wd m c) _).trans (rowShards_apply _ s f d))
  show V m c main_v19 _ = V m c main_v19 _
  congr 1; funext a; apply Fin.ext
  match a with
  | ⟨0, _⟩ => show win0_7.index (point t) 0 * 4 + 1 * s.val = s.val; rw [i0]; omega
  | ⟨1, _⟩ => show win0_7.index (point t) 1 * 704 + 1 * f.val = f.val; rw [i1]; omega
  | ⟨2, _⟩ => show win0_7.index (point t) 2 * 1024 + 1 * d.val = d.val; rw [i2]; omega

/-! ### What a point computes -/

/-- A point's gradients of the gate pre-activation and of the up product, -/
def gateOf : FVec Ideal S4x256x704 .bf16 := gateBlk (blkCt m c t) (blkA m c t) (blkB m c t) (blkWd m c t)
def upOf : FVec Ideal S4x256x704 .bf16 := upBlk (blkCt m c t) (blkA m c t) (blkWd m c t)
/-- of the normed input, of the input, -/
def normedOf : FVec Ideal S256x1024 .f32 := normedBlk (blkCt m c t) (blkA m c t) (blkB m c t) (blkWg m c t) (blkWu m c t) (blkWd m c t)
def inputOf : FVec Ideal S256x1024 .f32 := k0_pay107 (blkCt m c t) (normedOf m c t) (blkG m c t) (blkX m c t)
/-- and its part of the gain's. -/
def gainOf : FVec Ideal S1x1024 .f32 := k0_pay106 (normedOf m c t) (blkX m c t)

theorem unitCt_at (s : Fin 4) (r : Fin 256) (f : Fin 704) : unitCt (blkCt m c t) (blkWd m c t) s r f = (args m c).unitCt (token t r) (unit s f) :=
  Finset.sum_congr rfl fun d _ => congrArg₂ (fun a b : EReal => half * a * b) (read0 m c t r d) (read7 m c t s f d)

theorem gateOf_apply (s : Fin 4) (r : Fin 256) (f : Fin 704) : gateOf m c t (ix3 s r f) = (args m c).dGate (token t r) (unit s f) := by
  show gateCt (unitCt (blkCt m c t) (blkWd m c t) s r f) (blkA m c t (ix3 s r f)) (blkB m c t (ix3 s r f)) = _
  rw [unitCt_at, read2, read3]; rfl

theorem upOf_apply (s : Fin 4) (r : Fin 256) (f : Fin 704) : upOf m c t (ix3 s r f) = (args m c).dUp (token t r) (unit s f) := by
  show upCt (unitCt (blkCt m c t) (blkWd m c t) s r f) (blkA m c t (ix3 s r f)) = _
  rw [unitCt_at, read2]; rfl

/-- A sum over all units, shard by shard. -/
theorem sum_units (u : Fin 2816 → EReal) : ∑ s : Fin 4, ∑ f : Fin 704, u (unit s f) = ∑ n, u n :=
  Cert.Att.sum_blocks 4 704 2816 rfl u

theorem normedOf_apply (r : Fin 256) (d : Fin 1024) : normedOf m c t (ix2 r d) = (args m c).dNormed (token t r) d := by
  show ∑ s : Fin 4, ((∑ f : Fin 704, gateOf m c t (ix3 s r f) * blkWg m c t (ix3 s f d)) + ∑ f : Fin 704, upOf m c t (ix3 s r f) * blkWu m c t (ix3 s f d)) = _
  rw [Finset.sum_add_distrib]
  refine congrArg₂ (fun a b : EReal => a + b) ?_ ?_
  · exact (Finset.sum_congr rfl fun s _ => Finset.sum_congr rfl fun f _ => congrArg₂ (fun a b : EReal => a * b)
      (gateOf_apply m c t s r f) (read5 m c t s f d)).trans (sum_units fun n => (args m c).dGate (token t r) n * (args m c).wg d n)
  · exact (Finset.sum_congr rfl fun s _ => Finset.sum_congr rfl fun f _ => congrArg₂ (fun a b : EReal => a * b)
      (upOf_apply m c t s r f) (read6 m c t s f d)).trans (sum_units fun n => (args m c).dUp (token t r) n * (args m c).wu d n)

theorem row_at (r : Fin 256) : rowOf (blkX m c t) r = (args m c).x (token t r) := funext fun d => read1 m c t r d

theorem inputOf_apply (r : Fin 256) (d : Fin 1024) : inputOf m c t (ix2 r d) = (args m c).dInput (token t r) d := by
  refine (input_apply _ _ _ _ r d).trans ?_
  simp only [row_at, read0, read1, read4, normedOf_apply]
  rfl

theorem gainOf_apply (d : Fin 1024) : gainOf m c t (ix2 0 d) = ∑ r : Fin 256, (args m c).gainTerm d (token t r) := by
  refine (gain_apply _ _ d).trans (Finset.sum_congr rfl fun r _ => ?_)
  rw [row_at, read1, normedOf_apply]; rfl

end Cert.Dgrad

end
-- ==== Proof.Dgrad.Arrays.lean ====
/- The arrays that the feed-forward input's gradient leaves: each point's blocks put together, and the gain's gradient summed. -/
module

public import proofs.«01_k».proof.Proof.Gen.Kernel4Ideal.Value
public import proofs.«01_k».proof.Proof.Dgrad.Reads

@[expose] public section

set_option maxRecDepth 16384

noncomputable section

namespace Cert.Dgrad

open Idealize.ShloMosaic Cert.Kernel4Ideal Cert.Kernel4Ideal.Gen Cert.Kernel4Ideal.Value Idealize.ShloMosaic.TcCoe

variable (m : (ℓ : Loc nD τ sig) → Buf (Elt Ideal) ℓ) (c : Dev nD) (t : Fin 16)

/-- The arrays that the kernel leaves. -/
def inputArr : FVec Ideal S4096x1024 .f32 := (dats m 0 c).arrAt 8 cfg0.N
def gateArr : FVec Ideal S4x4096x704 .bf16 := (dats m 0 c).arrAt 9 cfg0.N
def upArr : FVec Ideal S4x4096x704 .bf16 := (dats m 0 c).arrAt 10 cfg0.N
def gainArr : FVec Ideal S1x1024 .f32 := (dats m 0 c).arrAt 11 cfg0.N

theorem where8 : ∀ t : Fin cfg0.N, win0_8.index t (0 : Fin 2) = t.val ∧ win0_8.index t (1 : Fin 2) = 0 :=
  (by decide +kernel : ∀ t : Fin grid0.N, win0_8.index t (0 : Fin 2) = t.val ∧ win0_8.index t (1 : Fin 2) = 0)
theorem where9 : ∀ t : Fin cfg0.N, win0_9.index t (0 : Fin 3) = 0 ∧ win0_9.index t (1 : Fin 3) = t.val ∧ win0_9.index t (2 : Fin 3) = 0 :=
  (by decide +kernel : ∀ t : Fin grid0.N, win0_9.index t (0 : Fin 3) = 0 ∧ win0_9.index t (1 : Fin 3) = t.val ∧ win0_9.index t (2 : Fin 3) = 0)
theorem where10 : ∀ t : Fin cfg0.N, win0_10.index t (0 : Fin 3) = 0 ∧ win0_10.index t (1 : Fin 3) = t.val ∧ win0_10.index t (2 : Fin 3) = 0 :=
  (by decide +kernel : ∀ t : Fin grid0.N, win0_10.index t (0 : Fin 3) = 0 ∧ win0_10.index t (1 : Fin 3) = t.val ∧ win0_10.index t (2 : Fin 3) = 0)
theorem where11 : ∀ t : Fin cfg0.N, win0_11.index t (0 : Fin 2) = 0 ∧ win0_11.index t (1 : Fin 2) = 0 :=
  (by decide +kernel : ∀ t : Fin grid0.N, win0_11.index t (0 : Fin 2) = 0 ∧ win0_11.index t (1 : Fin 2) = 0)

/-! ### A point's three blocks -/

theorem outs_input : (outsAt0 m c (point t).val (point t).isLt).1 = inputOf m c t := by
  by_cases h0 : (point t).val % 16 = 0
  · rw [outsAt0_A m c (point t) h0]
    dsimp only
    rw [input_outA]
    rfl
  · rw [outsAt0_B m c (point t) h0]
    dsimp only
    rw [input_outB]
    rfl

theorem outs_gate : (outsAt0 m c (point t).val (point t).isLt).2.1 = gateOf m c t := by
  by_cases h0 : (point t).val % 16 = 0
  · rw [outsAt0_A m c (point t) h0]
    dsimp only
    rw [gate_outA]
    rfl
  · rw [outsAt0_B m c (point t) h0]
    dsimp only
    rw [gate_outB]
    rfl

theorem outs_up : (outsAt0 m c (point t).val (point t).isLt).2.2.1 = upOf m c t := by
  by_cases h0 : (point t).val % 16 = 0
  · rw [outsAt0_A m c (point t) h0]
    dsimp only
    rw [up_outA]
    rfl
  · rw [outsAt0_B m c (point t) h0]
    dsimp only
    rw [up_outB]
    rfl

/-- Every token is one of a block's. -/
theorem token_of (T : Fin 4096) : ∃ (t : Fin 16) (r : Fin 256), T = token t r :=
  ⟨⟨T.val / 256, by omega⟩, ⟨T.val % 256, by omega⟩, Fin.ext (by show T.val = 256 * (T.val / 256) + T.val % 256; omega)⟩

theorem place8 (r : Fin 256) (d : Fin 1024) : ((cfg0.win 8).blk (point t)).view.emb (ix2 r d : S256x1024.Idx) = (ix2 (token t r) d : S4096x1024.Idx) := by
  obtain ⟨i0, i1⟩ := where8 (point t)
  funext a; apply Fin.ext
  match a with
  | ⟨0, _⟩ => show win0_8.index (point t) 0 * 256 + 1 * r.val = 256 * t.val + r.val; rw [i0]; show t.val * 256 + 1 * r.val = _; omega
  | ⟨1, _⟩ => show win0_8.index (point t) 1 * 1024 + 1 * d.val = d.val; rw [i1]; omega

theorem place9 (s : Fin 4) (r : Fin 256) (f : Fin 704) :
    ((cfg0.win 9).blk (point t)).view.emb (ix3 s r f : S4x256x704.Idx) = (ix3 s (token t r) f : S4x4096x704.Idx) := by
  obtain ⟨i0, i1, i2⟩ := where9 (point t)
  funext a; apply Fin.ext
  match a with
  | ⟨0, _⟩ => show win0_9.index (point t) 0 * 4 + 1 * s.val = s.val; rw [i0]; omega
  | ⟨1, _⟩ => show win0_9.index (point t) 1 * 256 + 1 * r.val = 256 * t.val + r.val; rw [i1]; show t.val * 256 + 1 * r.val = _; omega
  | ⟨2, _⟩ => show win0_9.index (point t) 2 * 704 + 1 * f.val = f.val; rw [i2]; omega

theorem place10 (s : Fin 4) (r : Fin 256) (f : Fin 704) :
    ((cfg0.win 10).blk (point t)).view.emb (ix3 s r f : S4x256x704.Idx) = (ix3 s (token t r) f : S4x4096x704.Idx) := by
  obtain ⟨i0, i1, i2⟩ := where10 (point t)
  funext a; apply Fin.ext
  match a with
  | ⟨0, _⟩ => show win0_10.index (point t) 0 * 4 + 1 * s.val = s.val; rw [i0]; omega
  | ⟨1, _⟩ => show win0_10.index (point t) 1 * 256 + 1 * r.val = 256 * t.val + r.val; rw [i1]; show t.val * 256 + 1 * r.val = _; omega
  | ⟨2, _⟩ => show win0_10.index (point t) 2 * 704 + 1 * f.val = f.val; rw [i2]; omega

theorem place11 (d : Fin 1024) : ((cfg0.win 11).blk (point t)).view.emb (ix2 0 d : S1x1024.Idx) = (ix2 0 d : S1x1024.Idx) := by
  obtain ⟨i0, i1⟩ := where11 (point t)
  funext a; apply Fin.ext
  match a with
  | ⟨0, _⟩ => show win0_11.index (point t) 0 * 1 + 1 * 0 = 0; rw [i0]
  | ⟨1, _⟩ => show win0_11.index (point t) 1 * 1024 + 1 * d.val = d.val; rw [i1]; omega

/-- The input's gradient. -/
theorem inputArr_apply (T : Fin 4096) (d : Fin 1024) : inputArr m c (ix2 T d) = (args m c).dInput T d := by
  obtain ⟨t, r, rfl⟩ := token_of T
  have b := congrFun (blocks8 m c (point t) (flush0_8 (point t))) (ix2 r d : S256x1024.Idx)
  rw [flushed8, outs_input] at b
  have b' : inputArr m c (((cfg0.win 8).blk (point t)).view.emb (ix2 r d : S256x1024.Idx)) = inputOf m c t (ix2 r d) := b
  rw [place8] at b'
  exact b'.trans (inputOf_apply m c t r d)

/-- The gate pre-activation's gradient. -/
theorem gateArr_apply (s : Fin 4) (T : Fin 4096) (f : Fin 704) : gateArr m c (ix3 s T f) = (args m c).dGate T (unit s f) := by
  obtain ⟨t, r, rfl⟩ := token_of T
  have b := congrFun (blocks9 m c (point t) (flush0_9 (point t))) (ix3 s r f : S4x256x704.Idx)
  rw [flushed9, outs_gate] at b
  have b' : gateArr m c (((cfg0.win 9).blk (point t)).view.emb (ix3 s r f : S4x256x704.Idx)) = gateOf m c t (ix3 s r f) := b
  rw [place9] at b'
  exact b'.trans (gateOf_apply m c t s r f)

/-- The up product's gradient. -/
theorem upArr_apply (s : Fin 4) (T : Fin 4096) (f : Fin 704) : upArr m c (ix3 s T f) = (args m c).dUp T (unit s f) := by
  obtain ⟨t, r, rfl⟩ := token_of T
  have b := congrFun (blocks10 m c (point t) (flush0_10 (point t))) (ix3 s r f : S4x256x704.Idx)
  rw [flushed10, outs_up] at b
  have b' : upArr m c (((cfg0.win 10).blk (point t)).view.emb (ix3 s r f : S4x256x704.Idx)) = upOf m c t (ix3 s r f) := b
  rw [place10] at b'
  exact b'.trans (upOf_apply m c t s r f)

/-! ### The gain's gradient, point after point -/

/-- What the points up to `n` have added up. -/
def soFar (n : ℕ) (h : n < 16) : FVec Ideal S1x1024 .f32 := (outsAt0 m c n (h.trans_eq N_0.symm)).2.2.2

theorem add_apply (v w : FVec Ideal S1x1024 .f32) (d : Fin 1024) : k0_pay2 v w (ix2 0 d) = w (ix2 0 d) + v (ix2 0 d) := by
  show shapeCast S1x1024 w _ (ix2 0 d) + v (ix2 0 d) = _
  rw [shapeCast_apply _ _ _ (ix2 0 d) rfl]

theorem soFar_zero (d : Fin 1024) : soFar m c 0 (by decide) (ix2 0 d) = gainOf m c 0 (ix2 0 d) := by
  have e : soFar m c 0 (by decide) = k0_pay2 (gainOf m c 0) (k0_pay1 (F := Ideal)) := by
    show (outsAt0 m c (point 0).val (point 0).isLt).2.2.2 = _
    rw [outsAt0_A m c (point 0) rfl]
    dsimp only
    rw [gain_outA]
    rfl
  rw [e, add_apply]
  show Ideal.ofBits .f32 0x00000000#32 + _ = _
  rw [Ideal.ofBits_zero_f32, zero_add]

theorem soFar_succ (n : ℕ) (h : n + 1 < 16) (d : Fin 1024) :
    soFar m c (n + 1) h (ix2 0 d) = soFar m c n (by omega) (ix2 0 d) + gainOf m c ⟨n + 1, h⟩ (ix2 0 d) := by
  have e : soFar m c (n + 1) h = k0_pay2 (gainOf m c ⟨n + 1, h⟩) (soFar m c n (by omega)) := by
    show (outsAt0 m c (point ⟨n + 1, h⟩).val (point ⟨n + 1, h⟩).isLt).2.2.2 = _
    rw [outsAt0_B m c (point ⟨n + 1, h⟩) (by show ¬(n + 1) % 16 = 0; omega)]
    dsimp only
    rw [gain_outB]
    rfl
  rw [e, add_apply]

theorem soFar_apply (d : Fin 1024) : ∀ (n : ℕ) (h : n < 16), soFar m c n h (ix2 0 d) = ∑ t : Fin (n + 1), gainOf m c ⟨t.val, by omega⟩ (ix2 0 d)
  | 0, _ => by rw [Fin.sum_univ_one]; exact soFar_zero m c d
  | n + 1, h => by
    rw [Fin.sum_univ_castSucc, soFar_succ m c n h d, soFar_apply d n (by omega)]; rfl

theorem disjoint11 (t t' : Fin cfg0.N) (h : (cfg0.win 11).flush t = true) (h' : (cfg0.win 11).flush t' = true) (hne : t ≠ t') :
    Disjoint ((cfg0.win 11).blk t).view.set ((cfg0.win 11).blk t').view.set := by
  refine absurd (Fin.ext ?_) hne
  have e := (flush0_11 t).mp h
  have e' := (flush0_11 t').mp h'
  have b : t.val < 16 := t.isLt.trans_eq N_0
  have b' : t'.val < 16 := t'.isLt.trans_eq N_0
  omega

/-- The gain's gradient. -/
theorem gainArr_apply (d : Fin 1024) : gainArr m c (ix2 0 d) = (args m c).dGain d := by
  have b := congrFun ((dats m 0 c).read_blk_arrAt_eq_flushed 11 disjoint11 cfg0.N (point 15) (point 15).isLt ((flush0_11 (point 15)).mpr rfl)) (ix2 0 d : S1x1024.Idx)
  rw [flushed11] at b
  have b' : gainArr m c (((cfg0.win 11).blk (point 15)).view.emb (ix2 0 d : S1x1024.Idx)) = soFar m c 15 (by decide) (ix2 0 d) := b
  rw [place11, soFar_apply] at b'
  refine b'.trans ((Finset.sum_congr rfl fun t _ => gainOf_apply m c t d).trans ?_)
  exact Cert.Att.sum_blocks 16 256 4096 rfl ((args m c).gainTerm d)

end Cert.Dgrad

end
-- ==== Proof.Dgrad.Equation.lean ====
/- The feed-forward input's gradient: from real arguments, kernel and reference end with the same four arrays. -/
module

public import proofs.«01_k».proof.Defs
public import proofs.«01_k».proof.Proof.Att.Equation
public import proofs.«01_k».proof.Proof.Dgrad.Arrays
public import proofs.«01_k».proof.Proof.Dgrad.Reference
public import proofs.«01_k».proof.Proof.Gen.Reference4Ideal.Run

@[expose] public section

set_option maxRecDepth 16384

noncomputable section

namespace Cert.Dgrad

open Idealize.ShloMosaic
open Cert.Att.Ref (IsReal isReal_of_lt)
open Cert.Reference4Ideal Cert.Reference4Ideal.Read

theorem facts_finite4 : Cert.Pre_finite4.Facts := ⟨by decide, by decide, by decide, by decide⟩

local instance : Cert.Pre_finite4.Facts := facts_finite4

/-- Every argument holds real numbers only. -/
structure Args.Real (P : Args) : Prop where
  x : ∀ T d, IsReal (P.x T d)
  g : ∀ d, IsReal (P.g d)
  wg : ∀ d n, IsReal (P.wg d n)
  wu : ∀ d n, IsReal (P.wu d n)
  wd : ∀ n d, IsReal (P.wd n d)
  ct : ∀ T d, IsReal (P.ct T d)

/-! ### What is computed from real arguments is real -/

namespace Args.Real

variable {P : Args} (h : P.Real)

include h

theorem normed (T : Fin 4096) (d : Fin 1024) : IsReal (P.normed T d) :=
  ((h.x T d).mul (isReal_invRms (h.x T))).mul (h.g d)

theorem gate (T : Fin 4096) (n : Fin 2816) : IsReal (P.gate T n) :=
  IsReal.sum _ _ fun d => (h.normed T d).mul (h.wg d n)

theorem up (T : Fin 4096) (n : Fin 2816) : IsReal (P.up T n) :=
  IsReal.sum _ _ fun d => (h.normed T d).mul (h.wu d n)

theorem unitCt (T : Fin 4096) (n : Fin 2816) : IsReal (P.unitCt T n) :=
  IsReal.sum _ _ fun d => (isReal_half.mul (h.ct T d)).mul (h.wd n d)

theorem dUp (T : Fin 4096) (n : Fin 2816) : IsReal (P.dUp T n) :=
  (h.unitCt T n).mul ((h.gate T n).mul (isReal_sigm (h.gate T n)))

theorem dGate (T : Fin 4096) (n : Fin 2816) : IsReal (P.dGate T n) :=
  have one : IsReal 1 := ⟨1, rfl⟩
  have s := isReal_sigm (h.gate T n)
  ((h.unitCt T n).mul (h.up T n)).mul (s.mul (one.add ((h.gate T n).mul (IsReal.sub one s))))

theorem dNormed (T : Fin 4096) (d : Fin 1024) : IsReal (P.dNormed T d) :=
  (IsReal.sum _ _ fun n => (h.dGate T n).mul (h.wg d n)).add (IsReal.sum _ _ fun n => (h.dUp T n).mul (h.wu d n))

end Args.Real

section Reference

variable (x0 : FVec Ideal S4096x1024 .f32) (x1 : FVec Ideal S1x1024 .f32) (x2 x3 : FVec Ideal S1024x2816 .f32) (x4 : FVec Ideal S2816x1024 .f32)
  (x5 : FVec Ideal S4096x1024 .f32)

/-- The precondition: the six arguments hold real numbers. -/
theorem reals4 (h : (Cert.Pre_finite4.fn (F := Ideal) x0 x1 x2 x3 x4 x5).1 = (fun _ => 1#1)
      ∧ (Cert.Pre_finite4.fn (F := Ideal) x0 x1 x2 x3 x4 x5).2.1 = (fun _ => 1#1)
      ∧ (Cert.Pre_finite4.fn (F := Ideal) x0 x1 x2 x3 x4 x5).2.2.1 = (fun _ => 1#1)
      ∧ (Cert.Pre_finite4.fn (F := Ideal) x0 x1 x2 x3 x4 x5).2.2.2.1 = (fun _ => 1#1)
      ∧ (Cert.Pre_finite4.fn (F := Ideal) x0 x1 x2 x3 x4 x5).2.2.2.2.1 = (fun _ => 1#1)
      ∧ (Cert.Pre_finite4.fn (F := Ideal) x0 x1 x2 x3 x4 x5).2.2.2.2.2 = (fun _ => 1#1)) : (argsOf x0 x1 x2 x3 x4 x5).Real where
  x := fun T d => isReal_of_lt (congrFun h.1 (ix2 T d))
  g := fun d => isReal_of_lt (congrFun h.2.1 (ix2 0 d))
  wg := fun d n => isReal_of_lt (congrFun h.2.2.1 (ix2 d n))
  wu := fun d n => isReal_of_lt (congrFun h.2.2.2.1 (ix2 d n))
  wd := fun n d => isReal_of_lt (congrFun h.2.2.2.2.1 (ix2 n d))
  ct := fun T d => isReal_of_lt (congrFun h.2.2.2.2.2 (ix2 T d))

variable (h : (argsOf x0 x1 x2 x3 x4 x5).Real)

include h

theorem gate_real (T : Fin 4096) (n : Fin 2816) : val_main_v32 (F := Ideal) x0 x1 x2 x3 x4 x5 (ix2 T n) = (argsOf x0 x1 x2 x3 x4 x5).dGate T n :=
  Ref.dGate_ref x0 x1 x2 x3 x4 x5 T n (h.unitCt T n) (h.gate T n) (h.up T n)

theorem input_real (T : Fin 4096) (d : Fin 1024) : val_main_v55 (F := Ideal) x0 x1 x2 x3 x4 x5 (ix2 T d) = (argsOf x0 x1 x2 x3 x4 x5).dInput T d :=
  Ref.dInput_ref x0 x1 x2 x3 x4 x5 (gate_real x0 x1 x2 x3 x4 x5 h) T d (h.x T) (fun e => (h.dNormed T e).mul (h.g e)) (h.ct T d)

end Reference

/-! ### The four arrays agree -/

section Same

variable (m : (ℓ : Loc Cert.Kernel4Ideal.nD Cert.Kernel4Ideal.τ Cert.Kernel4Ideal.sig) → Buf (Elt Ideal) ℓ) (c : Dev Cert.Kernel4Ideal.nD)
  (h : (args m c).Real)

include h

theorem input_same : val_main_v55 (F := Ideal) (xOf m c) (gOf m c) (wgOf m c) (wuOf m c) (wdOf m c) (ctOf m c) = inputArr m c := by
  funext i
  obtain ⟨T, d, rfl⟩ : ∃ (T : Fin 4096) (d : Fin 1024), i = ix2 T d := ⟨i 0, i 1, eq_ix2 i⟩
  exact (input_real _ _ _ _ _ _ h T d).trans (inputArr_apply m c T d).symm

theorem gate_same : val_main_v58 (F := Ideal) (xOf m c) (gOf m c) (wgOf m c) (wuOf m c) (wdOf m c) (ctOf m c) = gateArr m c := by
  funext i
  obtain ⟨s, T, f, rfl⟩ : ∃ (s : Fin 4) (T : Fin 4096) (f : Fin 704), i = ix3 s T f := ⟨i 0, i 1, i 2, eq_ix3 i⟩
  exact (Ref.dGate_shards _ _ _ _ _ _ (gate_real _ _ _ _ _ _ h) s T f).trans (gateArr_apply m c s T f).symm

theorem gain_same : val_main_v38 (F := Ideal) (xOf m c) (gOf m c) (wgOf m c) (wuOf m c) (wdOf m c) (ctOf m c) = gainArr m c := by
  funext i
  obtain ⟨d, rfl⟩ : ∃ d : Fin 1024, i = ix2 0 d := ⟨i 1, (eq_ix2 i).trans (congrArg (fun z : Fin 1 => ix2 z (i 1)) (Subsingleton.elim _ _))⟩
  exact (Ref.dGain_ref _ _ _ _ _ _ (gate_real _ _ _ _ _ _ h) d).trans (gainArr_apply m c d).symm

omit h

theorem up_same : val_main_v61 (F := Ideal) (xOf m c) (gOf m c) (wgOf m c) (wdOf m c) (ctOf m c) = upArr m c := by
  funext i
  obtain ⟨s, T, f, rfl⟩ : ∃ (s : Fin 4) (T : Fin 4096) (f : Fin 704), i = ix3 s T f := ⟨i 0, i 1, i 2, eq_ix3 i⟩
  exact (Ref.dUp_shards (xOf m c) (gOf m c) (wgOf m c) (wuOf m c) (wdOf m c) (ctOf m c) s T f).trans (upArr_apply m c s T f).symm

end Same

end Cert.Dgrad

namespace Cert.Proof

open Idealize.ShloMosaic Idealize.ShloMosaic.StableHlo Idealize.SL.Sem

/-- From the same real arguments, kernel and reference end with the same gradients of the block's input, of its two
    projections and of the norm's gain. -/
theorem algebraic4 : Cert.algebraic_Kernel4Ideal_Reference4Ideal_pre_finite4 (hKernel4Ideal := Cert.Kernel4Ideal.Gen.facts)
    (hReference4Ideal := Cert.Reference4Ideal.Gen.facts) (hPre_finite4 := Cert.Dgrad.facts_finite4) := fun m ρ m' ρ' hpre hag => by
  refine ⟨Cert.Dgrad.inputArr m, Cert.Dgrad.gateArr m, Cert.Dgrad.upArr m, Cert.Dgrad.gainArr m, Cert.Kernel4Ideal.Value.run_blocks m ρ,
    (θ_run Cert.Reference4Ideal.defs _ _).mono (fun r h c => ?_) (Cert.Reference4Ideal.Value.run (F := Ideal) m' ρ')⟩
  have real : (Cert.Dgrad.args m c).Real := Cert.Dgrad.reals4 _ _ _ _ _ _ (hpre c)
  obtain ⟨g0, g1, g2, g3, g4, g5⟩ := hag c
  obtain ⟨h0, h1, h2, h3, hk⟩ := h c
  refine ⟨h0.trans ?_, h1.trans ?_, h2.trans ?_, h3.trans ?_, hk⟩
  · refine (Cert.Reference4Ideal.Read.val_main_v55_eq (F := Ideal) m' c).trans ?_
    rw [g0, g1, g2, g3, g4, g5]
    exact Cert.Dgrad.input_same m c real
  · refine (Cert.Reference4Ideal.Read.val_main_v58_eq (F := Ideal) m' c).trans ?_
    rw [g0, g1, g2, g3, g4, g5]
    exact Cert.Dgrad.gate_same m c real
  · refine (Cert.Reference4Ideal.Read.val_main_v61_eq (F := Ideal) _ _ _ _ _).trans ?_
    rw [g0, g1, g2, g4, g5]
    exact Cert.Dgrad.up_same m c
  · refine (Cert.Reference4Ideal.Read.val_main_v38_eq (F := Ideal) m' c).trans ?_
    rw [g0, g1, g2, g3, g4, g5]
    exact Cert.Dgrad.gain_same m c real

end Cert.Proof

end
-- ==== Proof.lean ====
module

public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Att.Run
public import proofs.«01_k».proof.Proof.Att.Same
public import proofs.«01_k».proof.Proof.Att.Equation
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Ffn.Equation
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Inw.Equation
public import proofs.«01_k».proof.Proof.Dgrad.Equation
public import Idealize.ShloMosaic.Adequacy
public import Idealize.ShloMosaic.Init

@[expose] public section

noncomputable section

namespace Cert.Proof

open Idealize.ShloMosaic Idealize.SL.Sem

/-- The kernel over the extended reals terminates, keeps its arguments and leaves every counter at zero. -/
theorem frame_kernelIdeal : Cert.quiescent_KernelIdeal (hKernelIdeal := Cert.KernelIdeal.Gen.facts) :=
  fun m ρ _ => Cert.Att.frame (F := Ideal) m ρ

/-- The same of the reference over the extended reals. -/
theorem frame_referenceIdeal : Cert.quiescent_ReferenceIdeal (hReferenceIdeal := Cert.ReferenceIdeal.Gen.facts) :=
  fun m ρ _ => (θ_run Cert.ReferenceIdeal.defs _ _).mono
    (fun r h => ⟨fun c => (h c).2.2.2.2, sem_eq_zero_of_no_sems (by decide) r.2⟩)
    (Cert.ReferenceIdeal.Value.run (F := Ideal) m ρ)

/-- The reference of the feed-forward weights' gradients terminates, keeps its arguments and leaves every counter at
    zero. -/
theorem frame_reference2 : Cert.quiescent_Reference2Ideal (hReference2Ideal := Cert.Reference2Ideal.Gen.facts) :=
  fun m ρ _ => (θ_run Cert.Reference2Ideal.defs _ _).mono
    (fun r h => ⟨fun c => (h c).2.2.2, sem_eq_zero_of_no_sems (by decide) r.2⟩)
    (Cert.Reference2Ideal.Value.run (F := Ideal) m ρ)

/-- The reference of the input projection's gradient terminates, keeps its arguments and leaves every counter at
    zero. -/
theorem frame_reference3 : Cert.quiescent_Reference3Ideal (hReference3Ideal := Cert.Reference3Ideal.Gen.facts) :=
  fun m ρ _ => (θ_run Cert.Reference3Ideal.defs _ _).mono
    (fun r h => ⟨fun c => (h c).2, sem_eq_zero_of_no_sems (by decide) r.2⟩)
    (Cert.Reference3Ideal.Value.run (F := Ideal) m ρ)

/-- The reference of the feed-forward input's gradient terminates, keeps its arguments and leaves every counter at
    zero. -/
theorem frame_reference4 : Cert.quiescent_Reference4Ideal (hReference4Ideal := Cert.Reference4Ideal.Gen.facts) :=
  fun m ρ _ => (θ_run Cert.Reference4Ideal.defs _ _).mono
    (fun r h => ⟨fun c => (h c).2.2.2.2, sem_eq_zero_of_no_sems (by decide) r.2⟩)
    (Cert.Reference4Ideal.Value.run (F := Ideal) m ρ)

/-- The claims of the certificate. -/
theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts, Cert.Att.Ref.facts_finite,
    Cert.Dgrad.facts_finite4,
    frame_kernel, frame_kernelIdeal, fun m ρ _ => frame_kernelIdeal m ρ trivial, frame_referenceIdeal,
    fun m ρ _ => frame_referenceIdeal m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    fun m ρ _ => Cert.Kernel4.Gen.frame m ρ, fun m ρ _ => Cert.Kernel4Ideal.Gen.frame m ρ,
    fun m ρ _ => Cert.Kernel4Ideal.Gen.frame m ρ, frame_reference4, fun m ρ _ => frame_reference4 m ρ trivial,
    IdealRules.named_const.statement Cert.KernelIdeal.κ "mask" .f32 0xF149F2CA#32 ⊥ rfl, algebraic,
    trivial, algebraic2, trivial, algebraic3, trivial, algebraic4⟩

end Cert.Proof

end
